-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_distinct_blocks [hPre_distinct_blocks : Cert.Pre_distinct_blocks.Facts] (m : (ℓ : Loc Cert.KernelIdeal.nD Cert.KernelIdeal.τ Cert.KernelIdeal.sig) → Buf (Elt Ideal) ℓ) : Prop :=
  ∀ c : Dev Cert.KernelIdeal.nD,
    (Cert.Pre_distinct_blocks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct_blocks [hPre_distinct_blocks : Cert.Pre_distinct_blocks.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct_blocks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_distinct_blocks [hKernelIdeal : Cert.KernelIdeal.Facts] [hPre_distinct_blocks : Cert.Pre_distinct_blocks.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distinct_blocks m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_distinct_blocks [hReferenceIdeal : Cert.ReferenceIdeal.Facts] [hPre_distinct_blocks : Cert.Pre_distinct_blocks.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct_blocks m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_distinct_blocks [hKernelIdeal : Cert.KernelIdeal.Facts] [hReferenceIdeal : Cert.ReferenceIdeal.Facts] [hPre_distinct_blocks : Cert.Pre_distinct_blocks.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distinct_blocks m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v42_0)) (v1 : (c : Dev Cert.Kernel3Ideal.nD) → Buf (Elt Ideal) ((c.tc : Thread Cert.Kernel3Ideal.nD Cert.Kernel3Ideal.τ).loc Cert.Kernel3Ideal.main_v42_1)) (v2 : (c : Dev Cert.Kernel3Ideal.nD) → Buf (Elt Ideal) ((c.tc : Thread Cert.Kernel3Ideal.nD Cert.Kernel3Ideal.τ).loc Cert.Kernel3Ideal.main_v42_2)) (v3 : (c : Dev Cert.Kernel3Ideal.nD) → Buf (Elt Ideal) ((c.tc : Thread Cert.Kernel3Ideal.nD Cert.Kernel3Ideal.τ).loc Cert.Kernel3Ideal.main_v42_3)) (v4 : (c : Dev Cert.Kernel3Ideal.nD) → Buf (Elt Ideal) ((c.tc : Thread Cert.Kernel3Ideal.nD Cert.Kernel3Ideal.τ).loc Cert.Kernel3Ideal.main_v42_4)) (v5 : (c : Dev Cert.Kernel3Ideal.nD) → Buf (Elt Ideal) ((c.tc : Thread Cert.Kernel3Ideal.nD Cert.Kernel3Ideal.τ).loc Cert.Kernel3Ideal.main_v42_5)) (v6 : (c : Dev Cert.Kernel3Ideal.nD) → Buf (Elt Ideal) ((c.tc : Thread Cert.Kernel3Ideal.nD Cert.Kernel3Ideal.τ).loc Cert.Kernel3Ideal.main_v42_6)) (v7 : (c : Dev Cert.Kernel3Ideal.nD) → Buf (Elt Ideal) ((c.tc : Thread Cert.Kernel3Ideal.nD Cert.Kernel3Ideal.τ).loc Cert.Kernel3Ideal.main_v42_7)) (v8 : (c : Dev Cert.Kernel3Ideal.nD) → Buf (Elt Ideal) ((c.tc : Thread Cert.Kernel3Ideal.nD Cert.Kernel3Ideal.τ).loc Cert.Kernel3Ideal.main_v42_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v42_0) = v0 c
          ∧ r.2.mem ((c.tc : Thread Cert.Kernel3Ideal.nD Cert.Kernel3Ideal.τ).loc Cert.Kernel3Ideal.main_v42_1) = v1 c
          ∧ r.2.mem ((c.tc : Thread Cert.Kernel3Ideal.nD Cert.Kernel3Ideal.τ).loc Cert.Kernel3Ideal.main_v42_2) = v2 c
          ∧ r.2.mem ((c.tc : Thread Cert.Kernel3Ideal.nD Cert.Kernel3Ideal.τ).loc Cert.Kernel3Ideal.main_v42_3) = v3 c
          ∧ r.2.mem ((c.tc : Thread Cert.Kernel3Ideal.nD Cert.Kernel3Ideal.τ).loc Cert.Kernel3Ideal.main_v42_4) = v4 c
          ∧ r.2.mem ((c.tc : Thread Cert.Kernel3Ideal.nD Cert.Kernel3Ideal.τ).loc Cert.Kernel3Ideal.main_v42_5) = v5 c
          ∧ r.2.mem ((c.tc : Thread Cert.Kernel3Ideal.nD Cert.Kernel3Ideal.τ).loc Cert.Kernel3Ideal.main_v42_6) = v6 c
          ∧ r.2.mem ((c.tc : Thread Cert.Kernel3Ideal.nD Cert.Kernel3Ideal.τ).loc Cert.Kernel3Ideal.main_v42_7) = v7 c
          ∧ r.2.mem ((c.tc : Thread Cert.Kernel3Ideal.nD Cert.Kernel3Ideal.τ).loc Cert.Kernel3Ideal.main_v42_8) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_v39) = v1 c
          ∧ r.2.mem ((c.tc : Thread Cert.Reference3Ideal.nD Cert.Reference3Ideal.τ).loc Cert.Reference3Ideal.main_v42) = v2 c
          ∧ r.2.mem ((c.tc : Thread Cert.Reference3Ideal.nD Cert.Reference3Ideal.τ).loc Cert.Reference3Ideal.main_v45) = v3 c
          ∧ r.2.mem ((c.tc : Thread Cert.Reference3Ideal.nD Cert.Reference3Ideal.τ).loc Cert.Reference3Ideal.main_v50) = v4 c
          ∧ r.2.mem ((c.tc : Thread Cert.Reference3Ideal.nD Cert.Reference3Ideal.τ).loc Cert.Reference3Ideal.main_v54) = v5 c
          ∧ r.2.mem ((c.tc : Thread Cert.Reference3Ideal.nD Cert.Reference3Ideal.τ).loc Cert.Reference3Ideal.main_v64) = v6 c
          ∧ r.2.mem ((c.tc : Thread Cert.Reference3Ideal.nD Cert.Reference3Ideal.τ).loc Cert.Reference3Ideal.main_v70) = v7 c
          ∧ r.2.mem ((c.tc : Thread Cert.Reference3Ideal.nD Cert.Reference3Ideal.τ).loc Cert.Reference3Ideal.main_v76) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_distinct_blocks : Cert.Pre_distinct_blocks.Facts),
    quiescent_Kernel (hKernel := hKernel)
    ∧ quiescent_KernelIdeal (hKernelIdeal := hKernelIdeal)
    ∧ quiescent_KernelIdeal_pre_distinct_blocks (hKernelIdeal := hKernelIdeal) (hPre_distinct_blocks := hPre_distinct_blocks)
    ∧ quiescent_ReferenceIdeal (hReferenceIdeal := hReferenceIdeal)
    ∧ quiescent_ReferenceIdeal_pre_distinct_blocks (hReferenceIdeal := hReferenceIdeal) (hPre_distinct_blocks := hPre_distinct_blocks)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_distinct_blocks (hKernelIdeal := hKernelIdeal) (hReferenceIdeal := hReferenceIdeal) (hPre_distinct_blocks := hPre_distinct_blocks)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_distinct_blocks.lean ====
abbrev S2x16384x768 : Shape := ⟨3, ![2, 16384, 768]⟩
abbrev S2x16384x192 : Shape := ⟨3, ![2, 16384, 192]⟩
abbrev S2x2x16384x16 : Shape := ⟨4, ![2, 2, 16384, 16]⟩
abbrev S2x16384x24 : Shape := ⟨3, ![2, 16384, 24]⟩
abbrev S_ : Shape := ⟨0, ![]⟩
abbrev S16 : Shape := ⟨1, ![16]⟩
abbrev S2x2x16384x16x1 : Shape := ⟨5, ![2, 2, 16384, 16, 1]⟩
abbrev S2x2x16384x1x16 : Shape := ⟨5, ![2, 2, 16384, 1, 16]⟩
abbrev S2x2x16384x16x16 : Shape := ⟨5, ![2, 2, 16384, 16, 16]⟩
abbrev S16x1 : Shape := ⟨2, ![16, 1]⟩
abbrev S1x16 : Shape := ⟨2, ![1, 16]⟩
abbrev S16x16 : Shape := ⟨2, ![16, 16]⟩
abbrev S1x1x1x16x16 : Shape := ⟨5, ![1, 1, 1, 16, 16]⟩

class Facts : Prop where
  bcast_S_S2x2x16384x16 : S_.BroadcastsInDim S2x2x16384x16 (![] : Fin 0 → Fin S2x2x16384x16.rank)
  bcast_S2x2x16384x16_S2x2x16384x16x1_0_1_2_3 : S2x2x16384x16.BroadcastsInDim S2x2x16384x16x1 (![0, 1, 2, 3] : Fin 4 → Fin S2x2x16384x16x1.rank)
  bcast_S2x2x16384x16_S2x2x16384x1x16_0_1_2_4 : S2x2x16384x16.BroadcastsInDim S2x2x16384x1x16 (![0, 1, 2, 4] : Fin 4 → Fin S2x2x16384x1x16.rank)
  bcast_S2x2x16384x16x1_S2x2x16384x16x16_0_1_2_3_4 : S2x2x16384x16x1.BroadcastsInDim S2x2x16384x16x16 (![0, 1, 2, 3, 4] : Fin 5 → Fin S2x2x16384x16x16.rank)
  bcast_S2x2x16384x1x16_S2x2x16384x16x16_0_1_2_3_4 : S2x2x16384x1x16.BroadcastsInDim S2x2x16384x16x16 (![0, 1, 2, 3, 4] : Fin 5 → Fin S2x2x16384x16x16.rank)
  bcast_S16_S16x1_0 : S16.BroadcastsInDim S16x1 (![0] : Fin 1 → Fin S16x1.rank)
  bcast_S16_S1x16_1 : S16.BroadcastsInDim S1x16 (![1] : Fin 1 → Fin S1x16.rank)
  bcast_S16x1_S16x16_0_1 : S16x1.BroadcastsInDim S16x16 (![0, 1] : Fin 2 → Fin S16x16.rank)
  bcast_S1x16_S16x16_0_1 : S1x16.BroadcastsInDim S16x16 (![0, 1] : Fin 2 → Fin S16x16.rank)
  bcast_S16x16_S1x1x1x16x16_3_4 : S16x16.BroadcastsInDim S1x1x1x16x16 (![3, 4] : Fin 2 → Fin S1x1x1x16x16.rank)
  bcast_S1x1x1x16x16_S2x2x16384x16x16_0_1_2_3_4 : S1x1x1x16x16.BroadcastsInDim S2x2x16384x16x16 (![0, 1, 2, 3, 4] : Fin 5 → Fin S2x2x16384x16x16.rank)
  reducesTo_S2x2x16384x16x16_S2x2x16384x16_d4 : S2x2x16384x16x16.ReducesTo [4] S2x2x16384x16
  h_S_ : 0 < S_.numel

variable [Facts]

def fn_part1 {F : FTy → Type} [FloatOps F] (main_v8 : IVec S2x2x16384x16 1) (main_v13 : IVec S2x2x16384x16x16 1) (main_v20 : IVec S2x2x16384x16x16 1) : IVec S2x2x16384x16 1 :=
  let main_v21 : IVec S2x2x16384x16x16 1 := ori main_v13 main_v20
  let main_c_1 : IVec S_ 1 := constantI S_ 1 1#1
  let main_v22 : IVec S2x2x16384x16 1 := (fun x v => Host.reduce IntOp.andi x v reducesTo_S2x2x16384x16x16_S2x2x16384x16_d4 h_S_) main_v21 main_c_1
  let main_v23 : IVec S2x2x16384x16 1 := andi main_v8 main_v22
  main_v23

def fn {F : FTy → Type} [FloatOps F] (main_arg0 : FVec F S2x16384x768 .f32) (main_arg1 : FVec F S2x16384x192 .f32) (main_arg2 : FVec F S2x16384x192 .f32) (main_arg3 : IVec S2x2x16384x16 32) (main_arg4 : FVec F S2x2x16384x16 .f32) (main_arg5 : FVec F S2x16384x24 .f32) (main_arg6 : FVec F S_ .f32) : IVec S2x2x16384x16 1 :=
  let main_v0 : IVec S16 32 := iotaInDim S16 32 0
  let main_c : IVec S_ 32 := constantI S_ 32 0#32
  let main_v1 : IVec S2x2x16384x16 32 := broadcastInDim S2x2x16384x16 ![] bcast_S_S2x2x16384x16 main_c
  let main_v2 : IVec S2x2x16384x16 1 := cmpi .sge main_arg3 main_v1
  let main_c_0 : IVec S_ 32 := constantI S_ 32 256#32
  let main_v3 : IVec S2x2x16384x16 32 := broadcastInDim S2x2x16384x16 ![] bcast_S_S2x2x16384x16 main_c_0
  let main_v4 : IVec S2x2x16384x16 1 := cmpi .slt main_arg3 main_v3
  let main_v5 : IVec S2x2x16384x16 1 := andi main_v2 main_v4
  let main_cst : FVec F S_ .f32 := constant S_ .f32 0xFF800000#32
  let main_v6 : IVec S_ 1 := cmpf .oeq main_arg6 main_cst
  let main_v7 : IVec S2x2x16384x16 1 := broadcastInDim S2x2x16384x16 ![] bcast_S_S2x2x16384x16 main_v6
  let main_v8 : IVec S2x2x16384x16 1 := andi main_v5 main_v7
  let main_v9 : IVec S2x2x16384x16x1 32 := broadcastInDim S2x2x16384x16x1 ![0, 1, 2, 3] bcast_S2x2x16384x16_S2x2x16384x16x1_0_1_2_3 main_arg3
  let main_v10 : IVec S2x2x16384x1x16 32 := broadcastInDim S2x2x16384x1x16 ![0, 1, 2, 4] bcast_S2x2x16384x16_S2x2x16384x1x16_0_1_2_4 main_arg3
  let main_v11 : IVec S2x2x16384x16x16 32 := broadcastInDim S2x2x16384x16x16 ![0, 1, 2, 3, 4] bcast_S2x2x16384x16x1_S2x2x16384x16x16_0_1_2_3_4 main_v9
  let main_v12 : IVec S2x2x16384x16x16 32 := broadcastInDim S2x2x16384x16x16 ![0, 1, 2, 3, 4] bcast_S2x2x16384x1x16_S2x2x16384x16x16_0_1_2_3_4 main_v10
  let main_v13 : IVec S2x2x16384x16x16 1 := cmpi .ne main_v11 main_v12
  let main_v14 : IVec S16x1 32 := broadcastInDim S16x1 ![0] bcast_S16_S16x1_0 main_v0
  let main_v15 : IVec S1x16 32 := broadcastInDim S1x16 ![1] bcast_S16_S1x16_1 main_v0
  let main_v16 : IVec S16x16 32 := broadcastInDim S16x16 ![0, 1] bcast_S16x1_S16x16_0_1 main_v14
  let main_v17 : IVec S16x16 32 := broadcastInDim S16x16 ![0, 1] bcast_S1x16_S16x16_0_1 main_v15
  let main_v18 : IVec S16x16 1 := cmpi .eq main_v16 main_v17
  let main_v19 : IVec S1x1x1x16x16 1 := broadcastInDim S1x1x1x16x16 ![3, 4] bcast_S16x16_S1x1x1x16x16_3_4 main_v18
  let main_v20 : IVec S2x2x16384x16x16 1 := broadcastInDim S2x2x16384x16x16 ![0, 1, 2, 3, 4] bcast_S1x1x1x16x16_S2x2x16384x16x16_0_1_2_3_4 main_v19
  fn_part1 (F := F) main_v8 main_v13 main_v20
-- ==== Kernel.lean ====
abbrev S2x16384x768 : Shape := ⟨3, ![2, 16384, 768]⟩
abbrev S2x16384x192 : Shape := ⟨3, ![2, 16384, 192]⟩
abbrev S2x2x16384x16 : Shape := ⟨4, ![2, 2, 16384, 16]⟩
abbrev S2x16384x24 : Shape := ⟨3, ![2, 16384, 24]⟩
abbrev S_ : Shape := ⟨0, ![]⟩
abbrev S2x16384x8x96 : Shape := ⟨4, ![2, 16384, 8, 96]⟩
abbrev S2x16384x8x128 : Shape := ⟨4, ![2, 16384, 8, 128]⟩
abbrev S2x16384x1024 : Shape := ⟨3, ![2, 16384, 1024]⟩
abbrev S16384x256 : Shape := ⟨2, ![16384, 256]⟩
abbrev S2x16384x2x96 : Shape := ⟨4, ![2, 16384, 2, 96]⟩
abbrev S2x16384x2x128 : Shape := ⟨4, ![2, 16384, 2, 128]⟩
abbrev S2x16384x256 : Shape := ⟨3, ![2, 16384, 256]⟩
abbrev S256x16384 : Shape := ⟨2, ![256, 16384]⟩
abbrev S2x256x16384 : Shape := ⟨3, ![2, 256, 16384]⟩
abbrev S2x16384x2x12 : Shape := ⟨4, ![2, 16384, 2, 12]⟩
abbrev S256 : Shape := ⟨1, ![256]⟩
abbrev S2x2x16384x1x16 : Shape := ⟨5, ![2, 2, 16384, 1, 16]⟩
abbrev S256x1 : Shape := ⟨2, ![256, 1]⟩
abbrev S1x1x1x256x1 : Shape := ⟨5, ![1, 1, 1, 256, 1]⟩
abbrev S2x2x16384x256x16 : Shape := ⟨5, ![2, 2, 16384, 256, 16]⟩
abbrev S2x2x16384x256 : Shape := ⟨4, ![2, 2, 16384, 256]⟩
abbrev S2x2x16384x8x32 : Shape := ⟨5, ![2, 2, 16384, 8, 32]⟩
abbrev S2x2x16384x8x128 : Shape := ⟨5, ![2, 2, 16384, 8, 128]⟩
abbrev S2x2x16384x1024 : Shape := ⟨4, ![2, 2, 16384, 1024]⟩
abbrev S2x8x128x16384 : Shape := ⟨4, ![2, 8, 128, 16384]⟩
abbrev S1x512x512 : Shape := ⟨3, ![1, 512, 512]⟩
abbrev S1x16384x128 : Shape := ⟨3, ![1, 16384, 128]⟩
abbrev S1x128x16384 : Shape := ⟨3, ![1, 128, 16384]⟩
abbrev S1x1x512x1024 : Shape := ⟨4, ![1, 1, 512, 1024]⟩
abbrev S1x128x512 : Shape := ⟨3, ![1, 128, 512]⟩
abbrev S1x4x128x512 : Shape := ⟨4, ![1, 4, 128, 512]⟩
abbrev S2048x2048 : Shape := ⟨2, ![2048, 2048]⟩
abbrev S1x2048 : Shape := ⟨2, ![1, 2048]⟩
abbrev S128x2048 : Shape := ⟨2, ![128, 2048]⟩
abbrev S1x2048x128 : Shape := ⟨3, ![1, 2048, 128]⟩
abbrev S2048x128 : Shape := ⟨2, ![2048, 128]⟩
abbrev S1x1x512x128 : Shape := ⟨4, ![1, 1, 512, 128]⟩
abbrev S512x128 : Shape := ⟨2, ![512, 128]⟩
abbrev S1x512x128 : Shape := ⟨3, ![1, 512, 128]⟩
abbrev S2048 : Shape := ⟨1, ![2048]⟩
abbrev S256x2048 : Shape := ⟨2, ![256, 2048]⟩
abbrev S1x128x256 : Shape := ⟨3, ![1, 128, 256]⟩
abbrev S128x256 : Shape := ⟨2, ![128, 256]⟩
abbrev S512x512 : Shape := ⟨2, ![512, 512]⟩
abbrev S512x2048 : Shape := ⟨2, ![512, 2048]⟩
abbrev S1536x2048 : Shape := ⟨2, ![1536, 2048]⟩
abbrev S1x1536x128 : Shape := ⟨3, ![1, 1536, 128]⟩
abbrev S1536x128 : Shape := ⟨2, ![1536, 128]⟩
abbrev S1024x2048 : Shape := ⟨2, ![1024, 2048]⟩
abbrev S1x1024x128 : Shape := ⟨3, ![1, 1024, 128]⟩
abbrev S1024x128 : Shape := ⟨2, ![1024, 128]⟩
abbrev S1x1x512 : Shape := ⟨3, ![1, 1, 512]⟩
abbrev S1x512 : Shape := ⟨2, ![1, 512]⟩
abbrev S128x512 : Shape := ⟨2, ![128, 512]⟩
abbrev S1x1x128x512 : Shape := ⟨4, ![1, 1, 128, 512]⟩
abbrev S2x8x96x16384 : Shape := ⟨4, ![2, 8, 96, 16384]⟩

abbrev nBuf : Space → Nat
  | .hbm => 104
  | .vmem => 13
  | .smem => 0
  | _ => 0

abbrev bufTy : (tb : Table) → Fin (tcTables nBuf tb) → BufTy
  | .hbm, ⟨0, _⟩ => ⟨S2x16384x768, .f32⟩
  | .hbm, ⟨1, _⟩ => ⟨S2x16384x192, .f32⟩
  | .hbm, ⟨2, _⟩ => ⟨S2x16384x192, .f32⟩
  | .hbm, ⟨3, _⟩ => ⟨S2x2x16384x16, .i32⟩
  | .hbm, ⟨4, _⟩ => ⟨S2x2x16384x16, .f32⟩
  | .hbm, ⟨5, _⟩ => ⟨S2x16384x24, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S2x16384x8x96, .f32⟩
  | .hbm, ⟨15, _⟩ => ⟨S_, .i32⟩
  | .hbm, ⟨16, _⟩ => ⟨S_, .f32⟩
  | .hbm, ⟨17, _⟩ => ⟨S2x16384x8x128, .f32⟩
  | .hbm, ⟨18, _⟩ => ⟨S2x16384x1024, .f32⟩
  | .hbm, ⟨19, _⟩ => ⟨S2x16384x1024, .f32⟩
  | .hbm, ⟨20, _⟩ => ⟨S2x16384x1024, .f32⟩
  | .hbm, ⟨21, _⟩ => ⟨S2x16384x1024, .bf16⟩
  | .hbm, ⟨22, _⟩ => ⟨S16384x256, .i32⟩
  | .hbm, ⟨23, _⟩ => ⟨S16384x256, .i32⟩
  | .hbm, ⟨24, _⟩ => ⟨S_, .i32⟩
  | .hbm, ⟨25, _⟩ => ⟨S16384x256, .i32⟩
  | .hbm, ⟨26, _⟩ => ⟨S16384x256, .i32⟩
  | .hbm, ⟨27, _⟩ => ⟨S_, .i32⟩
  | .hbm, ⟨28, _⟩ => ⟨S16384x256, .i32⟩
  | .hbm, ⟨29, _⟩ => ⟨S16384x256, .i32⟩
  | .hbm, ⟨30, _⟩ => ⟨S_, .i32⟩
  | .hbm, ⟨31, _⟩ => ⟨S16384x256, .i32⟩
  | .hbm, ⟨32, _⟩ => ⟨S16384x256, .i32⟩
  | .hbm, ⟨33, _⟩ => ⟨S_, .i32⟩
  | .hbm, ⟨34, _⟩ => ⟨S16384x256, .i32⟩
  | .hbm, ⟨35, _⟩ => ⟨S16384x256, .i32⟩
  | .hbm, ⟨36, _⟩ => ⟨S16384x256, .i1⟩
  | .hbm, ⟨37, _⟩ => ⟨S2x16384x2x96, .f32⟩
  | .hbm, ⟨38, _⟩ => ⟨S_, .i32⟩
  | .hbm, ⟨39, _⟩ => ⟨S_, .f32⟩
  | .hbm, ⟨40, _⟩ => ⟨S2x16384x2x128, .f32⟩
  | .hbm, ⟨41, _⟩ => ⟨S2x16384x256, .f32⟩
  | .hbm, ⟨42, _⟩ => ⟨S_, .f32⟩
  | .hbm, ⟨43, _⟩ => ⟨S_, .f32⟩
  | .hbm, ⟨44, _⟩ => ⟨S2x16384x256, .i1⟩
  | .hbm, ⟨45, _⟩ => ⟨S2x16384x256, .f32⟩
  | .hbm, ⟨46, _⟩ => ⟨S2x16384x256, .f32⟩
  | .hbm, ⟨47, _⟩ => ⟨S2x16384x256, .bf16⟩
  | .hbm, ⟨48, _⟩ => ⟨S256x16384, .i32⟩
  | .hbm, ⟨49, _⟩ => ⟨S_, .i32⟩
  | .hbm, ⟨50, _⟩ => ⟨S256x16384, .i32⟩
  | .hbm, ⟨51, _⟩ => ⟨S256x16384, .i32⟩
  | .hbm, ⟨52, _⟩ => ⟨S_, .i32⟩
  | .hbm, ⟨53, _⟩ => ⟨S256x16384, .i32⟩
  | .hbm, ⟨54, _⟩ => ⟨S256x16384, .i1⟩
  | .hbm, ⟨55, _⟩ => ⟨S2x16384x2x96, .f32⟩
  | .hbm, ⟨56, _⟩ => ⟨S_, .i32⟩
  | .hbm, ⟨57, _⟩ => ⟨S_, .f32⟩
  | .hbm, ⟨58, _⟩ => ⟨S2x16384x2x128, .f32⟩
  | .hbm, ⟨59, _⟩ => ⟨S2x16384x256, .f32⟩
  | .hbm, ⟨60, _⟩ => ⟨S2x256x16384, .f32⟩
  | .hbm, ⟨61, _⟩ => ⟨S_, .f32⟩
  | .hbm, ⟨62, _⟩ => ⟨S_, .f32⟩
  | .hbm, ⟨63, _⟩ => ⟨S2x256x16384, .i1⟩
  | .hbm, ⟨64, _⟩ => ⟨S2x256x16384, .f32⟩
  | .hbm, ⟨65, _⟩ => ⟨S2x256x16384, .f32⟩
  | .hbm, ⟨66, _⟩ => ⟨S2x256x16384, .bf16⟩
  | .hbm, ⟨67, _⟩ => ⟨S2x16384x2x12, .f32⟩
  | .hbm, ⟨68, _⟩ => ⟨S_, .i32⟩
  | .hbm, ⟨69, _⟩ => ⟨S_, .f32⟩
  | .hbm, ⟨70, _⟩ => ⟨S2x16384x2x128, .f32⟩
  | .hbm, ⟨71, _⟩ => ⟨S2x16384x256, .f32⟩
  | .hbm, ⟨72, _⟩ => ⟨S2x256x16384, .f32⟩
  | .hbm, ⟨73, _⟩ => ⟨S256, .i32⟩
  | .hbm, ⟨74, _⟩ => ⟨S_, .f32⟩
  | .hbm, ⟨75, _⟩ => ⟨S2x2x16384x16, .f32⟩
  | .hbm, ⟨76, _⟩ => ⟨S2x2x16384x16, .i1⟩
  | .hbm, ⟨77, _⟩ => ⟨S2x2x16384x1x16, .i32⟩
  | .hbm, ⟨78, _⟩ => ⟨S256x1, .i32⟩
  | .hbm, ⟨79, _⟩ => ⟨S1x1x1x256x1, .i32⟩
  | .hbm, ⟨80, _⟩ => ⟨S2x2x16384x256x16, .i32⟩
  | .hbm, ⟨81, _⟩ => ⟨S2x2x16384x256x16, .i32⟩
  | .hbm, ⟨82, _⟩ => ⟨S2x2x16384x256x16, .i1⟩
  | .hbm, ⟨83, _⟩ => ⟨S2x2x16384x1x16, .i1⟩
  | .hbm, ⟨84, _⟩ => ⟨S2x2x16384x256x16, .i1⟩
  | .hbm, ⟨85, _⟩ => ⟨S2x2x16384x256x16, .i1⟩
  | .hbm, ⟨86, _⟩ => ⟨S_, .i1⟩
  | .hbm, ⟨87, _⟩ => ⟨S2x2x16384x256, .i1⟩
  | .hbm, ⟨88, _⟩ => ⟨S_, .f32⟩
  | .hbm, ⟨89, _⟩ => ⟨S_, .f32⟩
  | .hbm, ⟨90, _⟩ => ⟨S2x2x16384x256, .f32⟩
  | .hbm, ⟨91, _⟩ => ⟨S2x2x16384x256, .f32⟩
  | .hbm, ⟨92, _⟩ => ⟨S2x2x16384x256, .f32⟩
  | .hbm, ⟨93, _⟩ => ⟨S2x2x16384x8x32, .f32⟩
  | .hbm, ⟨94, _⟩ => ⟨S_, .i32⟩
  | .hbm, ⟨95, _⟩ => ⟨S_, .f32⟩
  | .hbm, ⟨96, _⟩ => ⟨S2x2x16384x8x128, .f32⟩
  | .hbm, ⟨97, _⟩ => ⟨S2x2x16384x1024, .f32⟩
  | .hbm, ⟨98, _⟩ => ⟨S2x2x16384x1024, .bf16⟩
  | .hbm, ⟨99, _⟩ => ⟨S2x8x128x16384, .bf16⟩
  | .hbm, ⟨100, _⟩ => ⟨S2x8x96x16384, .bf16⟩
  | .hbm, ⟨101, _⟩ => ⟨S2x8x96x16384, .f32⟩
  | .hbm, ⟨102, _⟩ => ⟨S2x16384x8x96, .f32⟩
  | .hbm, ⟨103, _⟩ => ⟨S2x16384x768, .f32⟩
  | .local _ .vmem, ⟨0, _⟩ => ⟨S1x512x512, .bf16⟩
  | .local _ .vmem, ⟨1, _⟩ => ⟨S1x512x512, .bf16⟩
  | .local _ .vmem, ⟨2, _⟩ => ⟨S1x16384x128, .bf16⟩
  | .local _ .vmem, ⟨3, _⟩ => ⟨S1x16384x128, .bf16⟩
  | .local _ .vmem, ⟨4, _⟩ => ⟨S1x128x16384, .bf16⟩
  | .local _ .vmem, ⟨5, _⟩ => ⟨S1x128x16384, .bf16⟩
  | .local _ .vmem, ⟨6, _⟩ => ⟨S1x1x512x1024, .bf16⟩
  | .local _ .vmem, ⟨7, _⟩ => ⟨S1x1x512x1024, .bf16⟩
  | .local _ .vmem, ⟨8, _⟩ => ⟨S1x128x512, .f32⟩
  | .local _ .vmem, ⟨9, _⟩ => ⟨S1x128x512, .f32⟩
  | .local _ .vmem, ⟨10, _⟩ => ⟨S1x4x128x512, .bf16⟩
  | .local _ .vmem, ⟨11, _⟩ => ⟨S1x4x128x512, .bf16⟩
  | .local _ .vmem, ⟨12, _⟩ => ⟨S2048x2048, .f32⟩
  | _, _ => ⟨S2x16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_c_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_6 : Ref sig .tc := ⟨.hbm, 38, rfl⟩
abbrev main_call1_v0 : Ref sig .tc := ⟨.hbm, 39, rfl⟩
abbrev main_v22 : Ref sig .tc := ⟨.hbm, 40, rfl⟩
abbrev main_v23 : Ref sig .tc := ⟨.hbm, 41, rfl⟩
abbrev main_cst_7 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_8 : Ref sig .tc := ⟨.hbm, 49, rfl⟩
abbrev main_v27 : Ref sig .tc := ⟨.hbm, 50, rfl⟩
abbrev main_v28 : Ref sig .tc := ⟨.hbm, 51, rfl⟩
abbrev main_c_9 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_10 : Ref sig .tc := ⟨.hbm, 56, rfl⟩
abbrev main_call3_v0 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_11 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_c_12 : Ref sig .tc := ⟨.hbm, 68, rfl⟩
abbrev main_call5_v0 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_13 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_c_14 : Ref sig .tc := ⟨.hbm, 86, rfl⟩
abbrev main_v53 : Ref sig .tc := ⟨.hbm, 87, rfl⟩
abbrev main_cst_15 : Ref sig .tc := ⟨.hbm, 88, rfl⟩
abbrev main_call6_v0 : Ref sig .tc := ⟨.hbm, 89, rfl⟩
abbrev main_call6_v1 : Ref sig .tc := ⟨.hbm, 90, rfl⟩
abbrev main_call6_v2 : Ref sig .tc := ⟨.hbm, 91, rfl⟩
abbrev main_v54 : Ref sig .tc := ⟨.hbm, 92, rfl⟩
abbrev main_v55 : Ref sig .tc := ⟨.hbm, 93, rfl⟩
abbrev main_c_16 : Ref sig .tc := ⟨.hbm, 94, rfl⟩
abbrev main_call7_v0 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 2, 32], ![false, false, false]⟩

def k0_mult1 (i : grid0.Coords) : BitVec 32 :=
  let arg2 : BitVec 32 := BitVec.ofNat 32 (i 2).val
  let c512_i32 : BitVec 32 := 512#32
  let v0 : BitVec 32 := Scalar.muli arg2 c512_i32
  v0
@[reducible] def k0_t1_loop (i : grid0.Coords) : Scf.Loop 32 :=
  let c0_i32_13 : BitVec 32 := 0#32
  let arg2 : BitVec 32 := BitVec.ofNat 32 (i 2).val
  let c512_i32 : BitVec 32 := 512#32
  let v0 : BitVec 32 := Scalar.muli arg2 c512_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2048_i32 : BitVec 32 := 2048#32
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let v2 : BitVec 32 := Scalar.divsi v1 c2048_i32
  let c1_i32 : BitVec 32 := 1#32
  let v17 : BitVec 32 := Scalar.subi v2 c1_i32
  let v18 : BitVec 32 := Scalar.select v16 v17 v2
  let v40 : BitVec 32 := Scalar.subi v18 c0_i32_13
  let c1_i32_14 : BitVec 32 := 1#32
  let v42 : BitVec 32 := Scalar.divsi v40 c1_i32_14
  let v43 : BitVec 32 := Scalar.muli v42 c1_i32_14
  let v44 : BitVec 32 := Scalar.addi c0_i32_13 v43
  let c1_i32_15 : BitVec 32 := 1#32
  ⟨c0_i32_13, v44, c1_i32_15⟩
def k0_mult2 (i : grid0.Coords) (k0_t1 : Fin (k0_t1_loop i).trips) : BitVec 32 :=
  let c0_i32_13 : BitVec 32 := 0#32
  let c1_i32_15 : BitVec 32 := 1#32
  let arg10 : BitVec 32 := Scf.iv c0_i32_13 c1_i32_15 k0_t1
  let c2048_i32_41 : BitVec 32 := 2048#32
  let v83 : BitVec 32 := Scalar.muli arg10 c2048_i32_41
  v83
def k0_off1 (i : grid0.Coords) (k0_t1 : Fin (k0_t1_loop i).trips) : Fin 3 → Nat :=
  let c0_42 : Index := 0#32
  let c0_i32_13 : BitVec 32 := 0#32
  let c1_i32_15 : BitVec 32 := 1#32
  let arg10 : BitVec 32 := Scf.iv c0_i32_13 c1_i32_15 k0_t1
  let c2048_i32_41 : BitVec 32 := 2048#32
  let v83 : BitVec 32 := Scalar.muli arg10 c2048_i32_41
  let v84 : BitVec 32 := v83
  let v85 : Index := Scalar.indexCast v84
  let c0_43 : Index := 0#32
  ![0, v85.toNat, 0]
def k0_mult3 (i : grid0.Coords) (k0_t1 : Fin (k0_t1_loop i).trips) : BitVec 32 :=
  let c0_i32_13 : BitVec 32 := 0#32
  let c1_i32_15 : BitVec 32 := 1#32
  let arg10 : BitVec 32 := Scf.iv c0_i32_13 c1_i32_15 k0_t1
  let c2048_i32_44 : BitVec 32 := 2048#32
  let v88 : BitVec 32 := Scalar.muli arg10 c2048_i32_44
  let c0_i32_46 : BitVec 32 := 0#32
  let v90 : BitVec 1 := Scalar.cmpi .sgt v88 c0_i32_46
  let v91 : BitVec 32 := Scalar.extui v90
  let c0_i32_47 : BitVec 32 := 0#32
  let v92 : BitVec 1 := Scalar.cmpi .slt v88 c0_i32_47
  let v93 : BitVec 32 := Scalar.extui v92
  let v94 : BitVec 32 := Scalar.subi v91 v93
  let c2048_i32_45 : BitVec 32 := 2048#32
  let c0_i32_48 : BitVec 32 := 0#32
  let v95 : BitVec 1 := Scalar.cmpi .sgt c2048_i32_45 c0_i32_48
  let v96 : BitVec 32 := Scalar.extui v95
  let c0_i32_49 : BitVec 32 := 0#32
  let v97 : BitVec 1 := Scalar.cmpi .slt c2048_i32_45 c0_i32_49
  let v98 : BitVec 32 := Scalar.extui v97
  let v99 : BitVec 32 := Scalar.subi v96 v98
  let v100 : BitVec 1 := Scalar.cmpi .ne v94 v99
  let v101 : BitVec 32 := Scalar.remsi v88 c2048_i32_45
  let c0_i32_50 : BitVec 32 := 0#32
  let v102 : BitVec 1 := Scalar.cmpi .ne v101 c0_i32_50
  let v103 : BitVec 1 := Scalar.andi v100 v102
  let v89 : BitVec 32 := Scalar.divsi v88 c2048_i32_45
  let c1_i32_51 : BitVec 32 := 1#32
  let v104 : BitVec 32 := Scalar.subi v89 c1_i32_51
  let v105 : BitVec 32 := Scalar.select v103 v104 v89
  let c128_i32 : BitVec 32 := 128#32
  let v106 : BitVec 32 := Scalar.muli v105 c128_i32
  v106
def k0_off2 (i : grid0.Coords) (k0_t1 : Fin (k0_t1_loop i).trips) : Fin 4 → Nat :=
  let c0_52 : Index := 0#32
  let c0_53 : Index := 0#32
  let c0_54 : Index := 0#32
  let c0_i32_13 : BitVec 32 := 0#32
  let c1_i32_15 : BitVec 32 := 1#32
  let arg10 : BitVec 32 := Scf.iv c0_i32_13 c1_i32_15 k0_t1
  let c2048_i32_44 : BitVec 32 := 2048#32
  let v88 : BitVec 32 := Scalar.muli arg10 c2048_i32_44
  let c0_i32_46 : BitVec 32 := 0#32
  let v90 : BitVec 1 := Scalar.cmpi .sgt v88 c0_i32_46
  let v91 : BitVec 32 := Scalar.extui v90
  let c0_i32_47 : BitVec 32 := 0#32
  let v92 : BitVec 1 := Scalar.cmpi .slt v88 c0_i32_47
  let v93 : BitVec 32 := Scalar.extui v92
  let v94 : BitVec 32 := Scalar.subi v91 v93
  let c2048_i32_45 : BitVec 32 := 2048#32
  let c0_i32_48 : BitVec 32 := 0#32
  let v95 : BitVec 1 := Scalar.cmpi .sgt c2048_i32_45 c0_i32_48
  let v96 : BitVec 32 := Scalar.extui v95
  let c0_i32_49 : BitVec 32 := 0#32
  let v97 : BitVec 1 := Scalar.cmpi .slt c2048_i32_45 c0_i32_49
  let v98 : BitVec 32 := Scalar.extui v97
  let v99 : BitVec 32 := Scalar.subi v96 v98
  let v100 : BitVec 1 := Scalar.cmpi .ne v94 v99
  let v101 : BitVec 32 := Scalar.remsi v88 c2048_i32_45
  let c0_i32_50 : BitVec 32 := 0#32
  let v102 : BitVec 1 := Scalar.cmpi .ne v101 c0_i32_50
  let v103 : BitVec 1 := Scalar.andi v100 v102
  let v89 : BitVec 32 := Scalar.divsi v88 c2048_i32_45
  let c1_i32_51 : BitVec 32 := 1#32
  let v104 : BitVec 32 := Scalar.subi v89 c1_i32_51
  let v105 : BitVec 32 := Scalar.select v103 v104 v89
  let c128_i32 : BitVec 32 := 128#32
  let v106 : BitVec 32 := Scalar.muli v105 c128_i32
  let v107 : BitVec 32 := v106
  let v108 : Index := Scalar.indexCast v107
  ![0, 0, 0, v108.toNat]
def k0_off3 (i : grid0.Coords) (k0_t1 : Fin (k0_t1_loop i).trips) (c0_i32_70 : BitVec 32) : Fin 3 → Nat :=
  let c0_71 : Index := 0#32
  let c0_72 : Index := 0#32
  let c0_i32_13 : BitVec 32 := 0#32
  let c1_i32_15 : BitVec 32 := 1#32
  let arg10 : BitVec 32 := Scf.iv c0_i32_13 c1_i32_15 k0_t1
  let c2048_i32_41 : BitVec 32 := 2048#32
  let v83 : BitVec 32 := Scalar.muli arg10 c2048_i32_41
  let v84 : BitVec 32 := v83
  let v140 : BitVec 32 := Scalar.addi v84 c0_i32_70
  let v141 : Index := Scalar.indexCast v140
  ![0, 0, v141.toNat]
@[reducible] def k0_t2_loop (i : grid0.Coords) : Scf.Loop 32 :=
  let c0_i32_13 : BitVec 32 := 0#32
  let arg2 : BitVec 32 := BitVec.ofNat 32 (i 2).val
  let c512_i32 : BitVec 32 := 512#32
  let v0 : BitVec 32 := Scalar.muli arg2 c512_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2048_i32 : BitVec 32 := 2048#32
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let v2 : BitVec 32 := Scalar.divsi v1 c2048_i32
  let c1_i32 : BitVec 32 := 1#32
  let v17 : BitVec 32 := Scalar.subi v2 c1_i32
  let v18 : BitVec 32 := Scalar.select v16 v17 v2
  let v40 : BitVec 32 := Scalar.subi v18 c0_i32_13
  let c1_i32_14 : BitVec 32 := 1#32
  let v42 : BitVec 32 := Scalar.divsi v40 c1_i32_14
  let v43 : BitVec 32 := Scalar.muli v42 c1_i32_14
  let v44 : BitVec 32 := Scalar.addi c0_i32_13 v43
  let v41 : BitVec 32 := Scalar.addi c0_i32_13 v40
  let c1_i32_16 : BitVec 32 := 1#32
  ⟨v44, v41, c1_i32_16⟩
def k0_mult4 (i : grid0.Coords) (k0_t2 : Fin (k0_t2_loop i).trips) : BitVec 32 :=
  let c0_i32_13 : BitVec 32 := 0#32
  let arg2 : BitVec 32 := BitVec.ofNat 32 (i 2).val
  let c512_i32 : BitVec 32 := 512#32
  let v0 : BitVec 32 := Scalar.muli arg2 c512_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2048_i32 : BitVec 32 := 2048#32
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let v2 : BitVec 32 := Scalar.divsi v1 c2048_i32
  let c1_i32 : BitVec 32 := 1#32
  let v17 : BitVec 32 := Scalar.subi v2 c1_i32
  let v18 : BitVec 32 := Scalar.select v16 v17 v2
  let v40 : BitVec 32 := Scalar.subi v18 c0_i32_13
  let c1_i32_14 : BitVec 32 := 1#32
  let v42 : BitVec 32 := Scalar.divsi v40 c1_i32_14
  let v43 : BitVec 32 := Scalar.muli v42 c1_i32_14
  let v44 : BitVec 32 := Scalar.addi c0_i32_13 v43
  let c1_i32_16 : BitVec 32 := 1#32
  let arg10 : BitVec 32 := Scf.iv v44 c1_i32_16 k0_t2
  let c2048_i32_41 : BitVec 32 := 2048#32
  let v83 : BitVec 32 := Scalar.muli arg10 c2048_i32_41
  v83
def k0_off4 (i : grid0.Coords) (k0_t2 : Fin (k0_t2_loop i).trips) : Fin 3 → Nat :=
  let c0_42 : Index := 0#32
  let c0_i32_13 : BitVec 32 := 0#32
  let arg2 : BitVec 32 := BitVec.ofNat 32 (i 2).val
  let c512_i32 : BitVec 32 := 512#32
  let v0 : BitVec 32 := Scalar.muli arg2 c512_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2048_i32 : BitVec 32 := 2048#32
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let v2 : BitVec 32 := Scalar.divsi v1 c2048_i32
  let c1_i32 : BitVec 32 := 1#32
  let v17 : BitVec 32 := Scalar.subi v2 c1_i32
  let v18 : BitVec 32 := Scalar.select v16 v17 v2
  let v40 : BitVec 32 := Scalar.subi v18 c0_i32_13
  let c1_i32_14 : BitVec 32 := 1#32
  let v42 : BitVec 32 := Scalar.divsi v40 c1_i32_14
  let v43 : BitVec 32 := Scalar.muli v42 c1_i32_14
  let v44 : BitVec 32 := Scalar.addi c0_i32_13 v43
  let c1_i32_16 : BitVec 32 := 1#32
  let arg10 : BitVec 32 := Scf.iv v44 c1_i32_16 k0_t2
  let c2048_i32_41 : BitVec 32 := 2048#32
  let v83 : BitVec 32 := Scalar.muli arg10 c2048_i32_41
  let v84 : BitVec 32 := v83
  let v85 : Index := Scalar.indexCast v84
  let c0_43 : Index := 0#32
  ![0, v85.toNat, 0]
def k0_mult5 (i : grid0.Coords) (k0_t2 : Fin (k0_t2_loop i).trips) : BitVec 32 :=
  let c0_i32_13 : BitVec 32 := 0#32
  let arg2 : BitVec 32 := BitVec.ofNat 32 (i 2).val
  let c512_i32 : BitVec 32 := 512#32
  let v0 : BitVec 32 := Scalar.muli arg2 c512_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2048_i32 : BitVec 32 := 2048#32
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let v2 : BitVec 32 := Scalar.divsi v1 c2048_i32
  let c1_i32 : BitVec 32 := 1#32
  let v17 : BitVec 32 := Scalar.subi v2 c1_i32
  let v18 : BitVec 32 := Scalar.select v16 v17 v2
  let v40 : BitVec 32 := Scalar.subi v18 c0_i32_13
  let c1_i32_14 : BitVec 32 := 1#32
  let v42 : BitVec 32 := Scalar.divsi v40 c1_i32_14
  let v43 : BitVec 32 := Scalar.muli v42 c1_i32_14
  let v44 : BitVec 32 := Scalar.addi c0_i32_13 v43
  let c1_i32_16 : BitVec 32 := 1#32
  let arg10 : BitVec 32 := Scf.iv v44 c1_i32_16 k0_t2
  let c2048_i32_44 : BitVec 32 := 2048#32
  let v88 : BitVec 32 := Scalar.muli arg10 c2048_i32_44
  let c0_i32_46 : BitVec 32 := 0#32
  let v90 : BitVec 1 := Scalar.cmpi .sgt v88 c0_i32_46
  let v91 : BitVec 32 := Scalar.extui v90
  let c0_i32_47 : BitVec 32 := 0#32
  let v92 : BitVec 1 := Scalar.cmpi .slt v88 c0_i32_47
  let v93 : BitVec 32 := Scalar.extui v92
  let v94 : BitVec 32 := Scalar.subi v91 v93
  let c2048_i32_45 : BitVec 32 := 2048#32
  let c0_i32_48 : BitVec 32 := 0#32
  let v95 : BitVec 1 := Scalar.cmpi .sgt c2048_i32_45 c0_i32_48
  let v96 : BitVec 32 := Scalar.extui v95
  let c0_i32_49 : BitVec 32 := 0#32
  let v97 : BitVec 1 := Scalar.cmpi .slt c2048_i32_45 c0_i32_49
  let v98 : BitVec 32 := Scalar.extui v97
  let v99 : BitVec 32 := Scalar.subi v96 v98
  let v100 : BitVec 1 := Scalar.cmpi .ne v94 v99
  let v101 : BitVec 32 := Scalar.remsi v88 c2048_i32_45
  let c0_i32_50 : BitVec 32 := 0#32
  let v102 : BitVec 1 := Scalar.cmpi .ne v101 c0_i32_50
  let v103 : BitVec 1 := Scalar.andi v100 v102
  let v89 : BitVec 32 := Scalar.divsi v88 c2048_i32_45
  let c1_i32_51 : BitVec 32 := 1#32
  let v104 : BitVec 32 := Scalar.subi v89 c1_i32_51
  let v105 : BitVec 32 := Scalar.select v103 v104 v89
  let c128_i32 : BitVec 32 := 128#32
  let v106 : BitVec 32 := Scalar.muli v105 c128_i32
  v106
def k0_off5 (i : grid0.Coords) (k0_t2 : Fin (k0_t2_loop i).trips) : Fin 4 → Nat :=
  let c0_52 : Index := 0#32
  let c0_53 : Index := 0#32
  let c0_54 : Index := 0#32
  let c0_i32_13 : BitVec 32 := 0#32
  let arg2 : BitVec 32 := BitVec.ofNat 32 (i 2).val
  let c512_i32 : BitVec 32 := 512#32
  let v0 : BitVec 32 := Scalar.muli arg2 c512_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2048_i32 : BitVec 32 := 2048#32
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let v2 : BitVec 32 := Scalar.divsi v1 c2048_i32
  let c1_i32 : BitVec 32 := 1#32
  let v17 : BitVec 32 := Scalar.subi v2 c1_i32
  let v18 : BitVec 32 := Scalar.select v16 v17 v2
  let v40 : BitVec 32 := Scalar.subi v18 c0_i32_13
  let c1_i32_14 : BitVec 32 := 1#32
  let v42 : BitVec 32 := Scalar.divsi v40 c1_i32_14
  let v43 : BitVec 32 := Scalar.muli v42 c1_i32_14
  let v44 : BitVec 32 := Scalar.addi c0_i32_13 v43
  let c1_i32_16 : BitVec 32 := 1#32
  let arg10 : BitVec 32 := Scf.iv v44 c1_i32_16 k0_t2
  let c2048_i32_44 : BitVec 32 := 2048#32
  let v88 : BitVec 32 := Scalar.muli arg10 c2048_i32_44
  let c0_i32_46 : BitVec 32 := 0#32
  let v90 : BitVec 1 := Scalar.cmpi .sgt v88 c0_i32_46
  let v91 : BitVec 32 := Scalar.extui v90
  let c0_i32_47 : BitVec 32 := 0#32
  let v92 : BitVec 1 := Scalar.cmpi .slt v88 c0_i32_47
  let v93 : BitVec 32 := Scalar.extui v92
  let v94 : BitVec 32 := Scalar.subi v91 v93
  let c2048_i32_45 : BitVec 32 := 2048#32
  let c0_i32_48 : BitVec 32 := 0#32
  let v95 : BitVec 1 := Scalar.cmpi .sgt c2048_i32_45 c0_i32_48
  let v96 : BitVec 32 := Scalar.extui v95
  let c0_i32_49 : BitVec 32 := 0#32
  let v97 : BitVec 1 := Scalar.cmpi .slt c2048_i32_45 c0_i32_49
  let v98 : BitVec 32 := Scalar.extui v97
  let v99 : BitVec 32 := Scalar.subi v96 v98
  let v100 : BitVec 1 := Scalar.cmpi .ne v94 v99
  let v101 : BitVec 32 := Scalar.remsi v88 c2048_i32_45
  let c0_i32_50 : BitVec 32 := 0#32
  let v102 : BitVec 1 := Scalar.cmpi .ne v101 c0_i32_50
  let v103 : BitVec 1 := Scalar.andi v100 v102
  let v89 : BitVec 32 := Scalar.divsi v88 c2048_i32_45
  let c1_i32_51 : BitVec 32 := 1#32
  let v104 : BitVec 32 := Scalar.subi v89 c1_i32_51
  let v105 : BitVec 32 := Scalar.select v103 v104 v89
  let c128_i32 : BitVec 32 := 128#32
  let v106 : BitVec 32 := Scalar.muli v105 c128_i32
  let v107 : BitVec 32 := v106
  let v108 : Index := Scalar.indexCast v107
  ![0, 0, 0, v108.toNat]
def k0_off6 (i : grid0.Coords) (k0_t2 : Fin (k0_t2_loop i).trips) (c0_i32_70 : BitVec 32) : Fin 3 → Nat :=
  let c0_71 : Index := 0#32
  let c0_72 : Index := 0#32
  let c0_i32_13 : BitVec 32 := 0#32
  let arg2 : BitVec 32 := BitVec.ofNat 32 (i 2).val
  let c512_i32 : BitVec 32 := 512#32
  let v0 : BitVec 32 := Scalar.muli arg2 c512_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2048_i32 : BitVec 32 := 2048#32
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let v2 : BitVec 32 := Scalar.divsi v1 c2048_i32
  let c1_i32 : BitVec 32 := 1#32
  let v17 : BitVec 32 := Scalar.subi v2 c1_i32
  let v18 : BitVec 32 := Scalar.select v16 v17 v2
  let v40 : BitVec 32 := Scalar.subi v18 c0_i32_13
  let c1_i32_14 : BitVec 32 := 1#32
  let v42 : BitVec 32 := Scalar.divsi v40 c1_i32_14
  let v43 : BitVec 32 := Scalar.muli v42 c1_i32_14
  let v44 : BitVec 32 := Scalar.addi c0_i32_13 v43
  let c1_i32_16 : BitVec 32 := 1#32
  let arg10 : BitVec 32 := Scf.iv v44 c1_i32_16 k0_t2
  let c2048_i32_41 : BitVec 32 := 2048#32
  let v83 : BitVec 32 := Scalar.muli arg10 c2048_i32_41
  let v84 : BitVec 32 := v83
  let v140 : BitVec 32 := Scalar.addi v84 c0_i32_70
  let v141 : Index := Scalar.indexCast v140
  ![0, 0, v141.toNat]
def k0_cond1 (i : grid0.Coords) : BitVec 1 :=
  let arg2 : BitVec 32 := BitVec.ofNat 32 (i 2).val
  let c512_i32 : BitVec 32 := 512#32
  let v0 : BitVec 32 := Scalar.muli arg2 c512_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2048_i32 : BitVec 32 := 2048#32
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let v2 : BitVec 32 := Scalar.divsi v1 c2048_i32
  let c1_i32 : BitVec 32 := 1#32
  let v17 : BitVec 32 := Scalar.subi v2 c1_i32
  let v18 : BitVec 32 := Scalar.select v16 v17 v2
  let c2048_i32_4 : BitVec 32 := 2048#32
  let v19 : BitVec 32 := Scalar.muli v18 c2048_i32_4
  let v20 : BitVec 32 := Scalar.subi v1 v19
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c512_i32_5 : BitVec 32 := 512#32
  let c0_i32_8 : BitVec 32 := 0#32
  let v27 : BitVec 1 := Scalar.cmpi .sgt c512_i32_5 c0_i32_8
  let v28 : BitVec 32 := Scalar.extui v27
  let c0_i32_9 : BitVec 32 := 0#32
  let v29 : BitVec 1 := Scalar.cmpi .slt c512_i32_5 c0_i32_9
  let v30 : BitVec 32 := Scalar.extui v29
  let v31 : BitVec 32 := Scalar.subi v28 v30
  let v32 : BitVec 1 := Scalar.cmpi .ne v26 v31
  let v33 : BitVec 32 := Scalar.remsi v20 c512_i32_5
  let c0_i32_10 : BitVec 32 := 0#32
  let v34 : BitVec 1 := Scalar.cmpi .ne v33 c0_i32_10
  let v35 : BitVec 1 := Scalar.andi v32 v34
  let v21 : BitVec 32 := Scalar.divsi v20 c512_i32_5
  let c1_i32_11 : BitVec 32 := 1#32
  let v36 : BitVec 32 := Scalar.subi v21 c1_i32_11
  let v37 : BitVec 32 := Scalar.select v35 v36 v21
  let c0_i32_17 : BitVec 32 := 0#32
  let v47 : BitVec 32 := Scalar.maxsi v37 c0_i32_17
  let c3_i32 : BitVec 32 := 3#32
  let v48 : BitVec 32 := Scalar.minsi v47 c3_i32
  let c0_i32_18 : BitVec 32 := 0#32
  let v49 : BitVec 1 := Scalar.cmpi .ne v48 c0_i32_18
  v49

def k0_cond2 (i : grid0.Coords) : BitVec 1 :=
  let arg2 : BitVec 32 := BitVec.ofNat 32 (i 2).val
  let c512_i32 : BitVec 32 := 512#32
  let v0 : BitVec 32 := Scalar.muli arg2 c512_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2048_i32 : BitVec 32 := 2048#32
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let v2 : BitVec 32 := Scalar.divsi v1 c2048_i32
  let c1_i32 : BitVec 32 := 1#32
  let v17 : BitVec 32 := Scalar.subi v2 c1_i32
  let v18 : BitVec 32 := Scalar.select v16 v17 v2
  let c2048_i32_4 : BitVec 32 := 2048#32
  let v19 : BitVec 32 := Scalar.muli v18 c2048_i32_4
  let v20 : BitVec 32 := Scalar.subi v1 v19
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c512_i32_5 : BitVec 32 := 512#32
  let c0_i32_8 : BitVec 32 := 0#32
  let v27 : BitVec 1 := Scalar.cmpi .sgt c512_i32_5 c0_i32_8
  let v28 : BitVec 32 := Scalar.extui v27
  let c0_i32_9 : BitVec 32 := 0#32
  let v29 : BitVec 1 := Scalar.cmpi .slt c512_i32_5 c0_i32_9
  let v30 : BitVec 32 := Scalar.extui v29
  let v31 : BitVec 32 := Scalar.subi v28 v30
  let v32 : BitVec 1 := Scalar.cmpi .ne v26 v31
  let v33 : BitVec 32 := Scalar.remsi v20 c512_i32_5
  let c0_i32_10 : BitVec 32 := 0#32
  let v34 : BitVec 1 := Scalar.cmpi .ne v33 c0_i32_10
  let v35 : BitVec 1 := Scalar.andi v32 v34
  let v21 : BitVec 32 := Scalar.divsi v20 c512_i32_5
  let c1_i32_11 : BitVec 32 := 1#32
  let v36 : BitVec 32 := Scalar.subi v21 c1_i32_11
  let v37 : BitVec 32 := Scalar.select v35 v36 v21
  let c0_i32_17 : BitVec 32 := 0#32
  let v47 : BitVec 32 := Scalar.maxsi v37 c0_i32_17
  let c3_i32 : BitVec 32 := 3#32
  let v48 : BitVec 32 := Scalar.minsi v47 c3_i32
  let c1_i32_41 : BitVec 32 := 1#32
  let v83 : BitVec 32 := Scalar.subi v48 c1_i32_41
  let c0_i32_42 : BitVec 32 := 0#32
  let v84 : BitVec 1 := Scalar.cmpi .ne v83 c0_i32_42
  v84

def k0_cond3 (i : grid0.Coords) : BitVec 1 :=
  let arg2 : BitVec 32 := BitVec.ofNat 32 (i 2).val
  let c512_i32 : BitVec 32 := 512#32
  let v0 : BitVec 32 := Scalar.muli arg2 c512_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2048_i32 : BitVec 32 := 2048#32
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let v2 : BitVec 32 := Scalar.divsi v1 c2048_i32
  let c1_i32 : BitVec 32 := 1#32
  let v17 : BitVec 32 := Scalar.subi v2 c1_i32
  let v18 : BitVec 32 := Scalar.select v16 v17 v2
  let c2048_i32_4 : BitVec 32 := 2048#32
  let v19 : BitVec 32 := Scalar.muli v18 c2048_i32_4
  let v20 : BitVec 32 := Scalar.subi v1 v19
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c512_i32_5 : BitVec 32 := 512#32
  let c0_i32_8 : BitVec 32 := 0#32
  let v27 : BitVec 1 := Scalar.cmpi .sgt c512_i32_5 c0_i32_8
  let v28 : BitVec 32 := Scalar.extui v27
  let c0_i32_9 : BitVec 32 := 0#32
  let v29 : BitVec 1 := Scalar.cmpi .slt c512_i32_5 c0_i32_9
  let v30 : BitVec 32 := Scalar.extui v29
  let v31 : BitVec 32 := Scalar.subi v28 v30
  let v32 : BitVec 1 := Scalar.cmpi .ne v26 v31
  let v33 : BitVec 32 := Scalar.remsi v20 c512_i32_5
  let c0_i32_10 : BitVec 32 := 0#32
  let v34 : BitVec 1 := Scalar.cmpi .ne v33 c0_i32_10
  let v35 : BitVec 1 := Scalar.andi v32 v34
  let v21 : BitVec 32 := Scalar.divsi v20 c512_i32_5
  let c1_i32_11 : BitVec 32 := 1#32
  let v36 : BitVec 32 := Scalar.subi v21 c1_i32_11
  let v37 : BitVec 32 := Scalar.select v35 v36 v21
  let c0_i32_17 : BitVec 32 := 0#32
  let v47 : BitVec 32 := Scalar.maxsi v37 c0_i32_17
  let c3_i32 : BitVec 32 := 3#32
  let v48 : BitVec 32 := Scalar.minsi v47 c3_i32
  let c1_i32_41 : BitVec 32 := 1#32
  let v83 : BitVec 32 := Scalar.subi v48 c1_i32_41
  let c1_i32_43 : BitVec 32 := 1#32
  let v86 : BitVec 32 := Scalar.subi v83 c1_i32_43
  let c0_i32_44 : BitVec 32 := 0#32
  let v87 : BitVec 1 := Scalar.cmpi .ne v86 c0_i32_44
  v87

def k0_mult6 (i : grid0.Coords) : BitVec 32 :=
  let arg2 : BitVec 32 := BitVec.ofNat 32 (i 2).val
  let c512_i32 : BitVec 32 := 512#32
  let v0 : BitVec 32 := Scalar.muli arg2 c512_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2048_i32 : BitVec 32 := 2048#32
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let v2 : BitVec 32 := Scalar.divsi v1 c2048_i32
  let c1_i32 : BitVec 32 := 1#32
  let v17 : BitVec 32 := Scalar.subi v2 c1_i32
  let v18 : BitVec 32 := Scalar.select v16 v17 v2
  let c2048_i32_45 : BitVec 32 := 2048#32
  let v89 : BitVec 32 := Scalar.muli v18 c2048_i32_45
  v89
def k0_off7 (i : grid0.Coords) : Fin 3 → Nat :=
  let c0_46 : Index := 0#32
  let arg2 : BitVec 32 := BitVec.ofNat 32 (i 2).val
  let c512_i32 : BitVec 32 := 512#32
  let v0 : BitVec 32 := Scalar.muli arg2 c512_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2048_i32 : BitVec 32 := 2048#32
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let v2 : BitVec 32 := Scalar.divsi v1 c2048_i32
  let c1_i32 : BitVec 32 := 1#32
  let v17 : BitVec 32 := Scalar.subi v2 c1_i32
  let v18 : BitVec 32 := Scalar.select v16 v17 v2
  let c2048_i32_45 : BitVec 32 := 2048#32
  let v89 : BitVec 32 := Scalar.muli v18 c2048_i32_45
  let v90 : BitVec 32 := v89
  let v91 : Index := Scalar.indexCast v90
  let c0_47 : Index := 0#32
  ![0, v91.toNat, 0]
def k0_mult7 (i : grid0.Coords) : BitVec 32 :=
  let arg2 : BitVec 32 := BitVec.ofNat 32 (i 2).val
  let c512_i32 : BitVec 32 := 512#32
  let v0 : BitVec 32 := Scalar.muli arg2 c512_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2048_i32 : BitVec 32 := 2048#32
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let v2 : BitVec 32 := Scalar.divsi v1 c2048_i32
  let c1_i32 : BitVec 32 := 1#32
  let v17 : BitVec 32 := Scalar.subi v2 c1_i32
  let v18 : BitVec 32 := Scalar.select v16 v17 v2
  let c2048_i32_48 : BitVec 32 := 2048#32
  let v94 : BitVec 32 := Scalar.muli v18 c2048_i32_48
  let c0_i32_50 : BitVec 32 := 0#32
  let v96 : BitVec 1 := Scalar.cmpi .sgt v94 c0_i32_50
  let v97 : BitVec 32 := Scalar.extui v96
  let c0_i32_51 : BitVec 32 := 0#32
  let v98 : BitVec 1 := Scalar.cmpi .slt v94 c0_i32_51
  let v99 : BitVec 32 := Scalar.extui v98
  let v100 : BitVec 32 := Scalar.subi v97 v99
  let c2048_i32_49 : BitVec 32 := 2048#32
  let c0_i32_52 : BitVec 32 := 0#32
  let v101 : BitVec 1 := Scalar.cmpi .sgt c2048_i32_49 c0_i32_52
  let v102 : BitVec 32 := Scalar.extui v101
  let c0_i32_53 : BitVec 32 := 0#32
  let v103 : BitVec 1 := Scalar.cmpi .slt c2048_i32_49 c0_i32_53
  let v104 : BitVec 32 := Scalar.extui v103
  let v105 : BitVec 32 := Scalar.subi v102 v104
  let v106 : BitVec 1 := Scalar.cmpi .ne v100 v105
  let v107 : BitVec 32 := Scalar.remsi v94 c2048_i32_49
  let c0_i32_54 : BitVec 32 := 0#32
  let v108 : BitVec 1 := Scalar.cmpi .ne v107 c0_i32_54
  let v109 : BitVec 1 := Scalar.andi v106 v108
  let v95 : BitVec 32 := Scalar.divsi v94 c2048_i32_49
  let c1_i32_55 : BitVec 32 := 1#32
  let v110 : BitVec 32 := Scalar.subi v95 c1_i32_55
  let v111 : BitVec 32 := Scalar.select v109 v110 v95
  let c128_i32 : BitVec 32 := 128#32
  let v112 : BitVec 32 := Scalar.muli v111 c128_i32
  v112
def k0_off8 (i : grid0.Coords) : Fin 4 → Nat :=
  let c0_56 : Index := 0#32
  let c0_57 : Index := 0#32
  let c0_58 : Index := 0#32
  let arg2 : BitVec 32 := BitVec.ofNat 32 (i 2).val
  let c512_i32 : BitVec 32 := 512#32
  let v0 : BitVec 32 := Scalar.muli arg2 c512_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2048_i32 : BitVec 32 := 2048#32
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let v2 : BitVec 32 := Scalar.divsi v1 c2048_i32
  let c1_i32 : BitVec 32 := 1#32
  let v17 : BitVec 32 := Scalar.subi v2 c1_i32
  let v18 : BitVec 32 := Scalar.select v16 v17 v2
  let c2048_i32_48 : BitVec 32 := 2048#32
  let v94 : BitVec 32 := Scalar.muli v18 c2048_i32_48
  let c0_i32_50 : BitVec 32 := 0#32
  let v96 : BitVec 1 := Scalar.cmpi .sgt v94 c0_i32_50
  let v97 : BitVec 32 := Scalar.extui v96
  let c0_i32_51 : BitVec 32 := 0#32
  let v98 : BitVec 1 := Scalar.cmpi .slt v94 c0_i32_51
  let v99 : BitVec 32 := Scalar.extui v98
  let v100 : BitVec 32 := Scalar.subi v97 v99
  let c2048_i32_49 : BitVec 32 := 2048#32
  let c0_i32_52 : BitVec 32 := 0#32
  let v101 : BitVec 1 := Scalar.cmpi .sgt c2048_i32_49 c0_i32_52
  let v102 : BitVec 32 := Scalar.extui v101
  let c0_i32_53 : BitVec 32 := 0#32
  let v103 : BitVec 1 := Scalar.cmpi .slt c2048_i32_49 c0_i32_53
  let v104 : BitVec 32 := Scalar.extui v103
  let v105 : BitVec 32 := Scalar.subi v102 v104
  let v106 : BitVec 1 := Scalar.cmpi .ne v100 v105
  let v107 : BitVec 32 := Scalar.remsi v94 c2048_i32_49
  let c0_i32_54 : BitVec 32 := 0#32
  let v108 : BitVec 1 := Scalar.cmpi .ne v107 c0_i32_54
  let v109 : BitVec 1 := Scalar.andi v106 v108
  let v95 : BitVec 32 := Scalar.divsi v94 c2048_i32_49
  let c1_i32_55 : BitVec 32 := 1#32
  let v110 : BitVec 32 := Scalar.subi v95 c1_i32_55
  let v111 : BitVec 32 := Scalar.select v109 v110 v95
  let c128_i32 : BitVec 32 := 128#32
  let v112 : BitVec 32 := Scalar.muli v111 c128_i32
  let v113 : BitVec 32 := v112
  let v114 : Index := Scalar.indexCast v113
  ![0, 0, 0, v114.toNat]
def k0_off9 (i : grid0.Coords) (c0_i32_78 : BitVec 32) : Fin 3 → Nat :=
  let c0_79 : Index := 0#32
  let c0_80 : Index := 0#32
  let arg2 : BitVec 32 := BitVec.ofNat 32 (i 2).val
  let c512_i32 : BitVec 32 := 512#32
  let v0 : BitVec 32 := Scalar.muli arg2 c512_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2048_i32 : BitVec 32 := 2048#32
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let v2 : BitVec 32 := Scalar.divsi v1 c2048_i32
  let c1_i32 : BitVec 32 := 1#32
  let v17 : BitVec 32 := Scalar.subi v2 c1_i32
  let v18 : BitVec 32 := Scalar.select v16 v17 v2
  let c2048_i32_45 : BitVec 32 := 2048#32
  let v89 : BitVec 32 := Scalar.muli v18 c2048_i32_45
  let v90 : BitVec 32 := v89
  let v163 : BitVec 32 := Scalar.addi v90 c0_i32_78
  let v164 : Index := Scalar.indexCast v163
  ![0, 0, v164.toNat]
def k0_mult8 (i : grid0.Coords) : BitVec 32 :=
  let arg2 : BitVec 32 := BitVec.ofNat 32 (i 2).val
  let c512_i32 : BitVec 32 := 512#32
  let v0 : BitVec 32 := Scalar.muli arg2 c512_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2048_i32 : BitVec 32 := 2048#32
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let v2 : BitVec 32 := Scalar.divsi v1 c2048_i32
  let c1_i32 : BitVec 32 := 1#32
  let v17 : BitVec 32 := Scalar.subi v2 c1_i32
  let v18 : BitVec 32 := Scalar.select v16 v17 v2
  let c2048_i32_45 : BitVec 32 := 2048#32
  let v89 : BitVec 32 := Scalar.muli v18 c2048_i32_45
  v89
def k0_off10 (i : grid0.Coords) : Fin 3 → Nat :=
  let c0_46 : Index := 0#32
  let arg2 : BitVec 32 := BitVec.ofNat 32 (i 2).val
  let c512_i32 : BitVec 32 := 512#32
  let v0 : BitVec 32 := Scalar.muli arg2 c512_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2048_i32 : BitVec 32 := 2048#32
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let v2 : BitVec 32 := Scalar.divsi v1 c2048_i32
  let c1_i32 : BitVec 32 := 1#32
  let v17 : BitVec 32 := Scalar.subi v2 c1_i32
  let v18 : BitVec 32 := Scalar.select v16 v17 v2
  let c2048_i32_45 : BitVec 32 := 2048#32
  let v89 : BitVec 32 := Scalar.muli v18 c2048_i32_45
  let v90 : BitVec 32 := v89
  let v91 : Index := Scalar.indexCast v90
  let c0_47 : Index := 0#32
  ![0, v91.toNat, 0]
def k0_mult9 (i : grid0.Coords) : BitVec 32 :=
  let arg2 : BitVec 32 := BitVec.ofNat 32 (i 2).val
  let c512_i32 : BitVec 32 := 512#32
  let v0 : BitVec 32 := Scalar.muli arg2 c512_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2048_i32 : BitVec 32 := 2048#32
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let v2 : BitVec 32 := Scalar.divsi v1 c2048_i32
  let c1_i32 : BitVec 32 := 1#32
  let v17 : BitVec 32 := Scalar.subi v2 c1_i32
  let v18 : BitVec 32 := Scalar.select v16 v17 v2
  let c2048_i32_48 : BitVec 32 := 2048#32
  let v94 : BitVec 32 := Scalar.muli v18 c2048_i32_48
  let c0_i32_50 : BitVec 32 := 0#32
  let v96 : BitVec 1 := Scalar.cmpi .sgt v94 c0_i32_50
  let v97 : BitVec 32 := Scalar.extui v96
  let c0_i32_51 : BitVec 32 := 0#32
  let v98 : BitVec 1 := Scalar.cmpi .slt v94 c0_i32_51
  let v99 : BitVec 32 := Scalar.extui v98
  let v100 : BitVec 32 := Scalar.subi v97 v99
  let c2048_i32_49 : BitVec 32 := 2048#32
  let c0_i32_52 : BitVec 32 := 0#32
  let v101 : BitVec 1 := Scalar.cmpi .sgt c2048_i32_49 c0_i32_52
  let v102 : BitVec 32 := Scalar.extui v101
  let c0_i32_53 : BitVec 32 := 0#32
  let v103 : BitVec 1 := Scalar.cmpi .slt c2048_i32_49 c0_i32_53
  let v104 : BitVec 32 := Scalar.extui v103
  let v105 : BitVec 32 := Scalar.subi v102 v104
  let v106 : BitVec 1 := Scalar.cmpi .ne v100 v105
  let v107 : BitVec 32 := Scalar.remsi v94 c2048_i32_49
  let c0_i32_54 : BitVec 32 := 0#32
  let v108 : BitVec 1 := Scalar.cmpi .ne v107 c0_i32_54
  let v109 : BitVec 1 := Scalar.andi v106 v108
  let v95 : BitVec 32 := Scalar.divsi v94 c2048_i32_49
  let c1_i32_55 : BitVec 32 := 1#32
  let v110 : BitVec 32 := Scalar.subi v95 c1_i32_55
  let v111 : BitVec 32 := Scalar.select v109 v110 v95
  let c128_i32 : BitVec 32 := 128#32
  let v112 : BitVec 32 := Scalar.muli v111 c128_i32
  v112
def k0_off11 (i : grid0.Coords) : Fin 4 → Nat :=
  let c0_56 : Index := 0#32
  let c0_57 : Index := 0#32
  let c0_58 : Index := 0#32
  let arg2 : BitVec 32 := BitVec.ofNat 32 (i 2).val
  let c512_i32 : BitVec 32 := 512#32
  let v0 : BitVec 32 := Scalar.muli arg2 c512_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2048_i32 : BitVec 32 := 2048#32
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let v2 : BitVec 32 := Scalar.divsi v1 c2048_i32
  let c1_i32 : BitVec 32 := 1#32
  let v17 : BitVec 32 := Scalar.subi v2 c1_i32
  let v18 : BitVec 32 := Scalar.select v16 v17 v2
  let c2048_i32_48 : BitVec 32 := 2048#32
  let v94 : BitVec 32 := Scalar.muli v18 c2048_i32_48
  let c0_i32_50 : BitVec 32 := 0#32
  let v96 : BitVec 1 := Scalar.cmpi .sgt v94 c0_i32_50
  let v97 : BitVec 32 := Scalar.extui v96
  let c0_i32_51 : BitVec 32 := 0#32
  let v98 : BitVec 1 := Scalar.cmpi .slt v94 c0_i32_51
  let v99 : BitVec 32 := Scalar.extui v98
  let v100 : BitVec 32 := Scalar.subi v97 v99
  let c2048_i32_49 : BitVec 32 := 2048#32
  let c0_i32_52 : BitVec 32 := 0#32
  let v101 : BitVec 1 := Scalar.cmpi .sgt c2048_i32_49 c0_i32_52
  let v102 : BitVec 32 := Scalar.extui v101
  let c0_i32_53 : BitVec 32 := 0#32
  let v103 : BitVec 1 := Scalar.cmpi .slt c2048_i32_49 c0_i32_53
  let v104 : BitVec 32 := Scalar.extui v103
  let v105 : BitVec 32 := Scalar.subi v102 v104
  let v106 : BitVec 1 := Scalar.cmpi .ne v100 v105
  let v107 : BitVec 32 := Scalar.remsi v94 c2048_i32_49
  let c0_i32_54 : BitVec 32 := 0#32
  let v108 : BitVec 1 := Scalar.cmpi .ne v107 c0_i32_54
  let v109 : BitVec 1 := Scalar.andi v106 v108
  let v95 : BitVec 32 := Scalar.divsi v94 c2048_i32_49
  let c1_i32_55 : BitVec 32 := 1#32
  let v110 : BitVec 32 := Scalar.subi v95 c1_i32_55
  let v111 : BitVec 32 := Scalar.select v109 v110 v95
  let c128_i32 : BitVec 32 := 128#32
  let v112 : BitVec 32 := Scalar.muli v111 c128_i32
  let v113 : BitVec 32 := v112
  let v114 : Index := Scalar.indexCast v113
  ![0, 0, 0, v114.toNat]
def k0_off12 (i : grid0.Coords) (c0_i32_78 : BitVec 32) : Fin 3 → Nat :=
  let c0_79 : Index := 0#32
  let c0_80 : Index := 0#32
  let arg2 : BitVec 32 := BitVec.ofNat 32 (i 2).val
  let c512_i32 : BitVec 32 := 512#32
  let v0 : BitVec 32 := Scalar.muli arg2 c512_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2048_i32 : BitVec 32 := 2048#32
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let v2 : BitVec 32 := Scalar.divsi v1 c2048_i32
  let c1_i32 : BitVec 32 := 1#32
  let v17 : BitVec 32 := Scalar.subi v2 c1_i32
  let v18 : BitVec 32 := Scalar.select v16 v17 v2
  let c2048_i32_45 : BitVec 32 := 2048#32
  let v89 : BitVec 32 := Scalar.muli v18 c2048_i32_45
  let v90 : BitVec 32 := v89
  let v163 : BitVec 32 := Scalar.addi v90 c0_i32_78
  let v164 : Index := Scalar.indexCast v163
  ![0, 0, v164.toNat]
def k0_mult10 (i : grid0.Coords) : BitVec 32 :=
  let arg2 : BitVec 32 := BitVec.ofNat 32 (i 2).val
  let c512_i32 : BitVec 32 := 512#32
  let v0 : BitVec 32 := Scalar.muli arg2 c512_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2048_i32 : BitVec 32 := 2048#32
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let v2 : BitVec 32 := Scalar.divsi v1 c2048_i32
  let c1_i32 : BitVec 32 := 1#32
  let v17 : BitVec 32 := Scalar.subi v2 c1_i32
  let v18 : BitVec 32 := Scalar.select v16 v17 v2
  let c2048_i32_43 : BitVec 32 := 2048#32
  let v86 : BitVec 32 := Scalar.muli v18 c2048_i32_43
  v86
def k0_off13 (i : grid0.Coords) : Fin 3 → Nat :=
  let c0_44 : Index := 0#32
  let arg2 : BitVec 32 := BitVec.ofNat 32 (i 2).val
  let c512_i32 : BitVec 32 := 512#32
  let v0 : BitVec 32 := Scalar.muli arg2 c512_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2048_i32 : BitVec 32 := 2048#32
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let v2 : BitVec 32 := Scalar.divsi v1 c2048_i32
  let c1_i32 : BitVec 32 := 1#32
  let v17 : BitVec 32 := Scalar.subi v2 c1_i32
  let v18 : BitVec 32 := Scalar.select v16 v17 v2
  let c2048_i32_43 : BitVec 32 := 2048#32
  let v86 : BitVec 32 := Scalar.muli v18 c2048_i32_43
  let v87 : BitVec 32 := v86
  let v88 : Index := Scalar.indexCast v87
  let c0_45 : Index := 0#32
  ![0, v88.toNat, 0]
def k0_mult11 (i : grid0.Coords) : BitVec 32 :=
  let arg2 : BitVec 32 := BitVec.ofNat 32 (i 2).val
  let c512_i32 : BitVec 32 := 512#32
  let v0 : BitVec 32 := Scalar.muli arg2 c512_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2048_i32 : BitVec 32 := 2048#32
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let v2 : BitVec 32 := Scalar.divsi v1 c2048_i32
  let c1_i32 : BitVec 32 := 1#32
  let v17 : BitVec 32 := Scalar.subi v2 c1_i32
  let v18 : BitVec 32 := Scalar.select v16 v17 v2
  let c2048_i32_46 : BitVec 32 := 2048#32
  let v91 : BitVec 32 := Scalar.muli v18 c2048_i32_46
  let c0_i32_48 : BitVec 32 := 0#32
  let v93 : BitVec 1 := Scalar.cmpi .sgt v91 c0_i32_48
  let v94 : BitVec 32 := Scalar.extui v93
  let c0_i32_49 : BitVec 32 := 0#32
  let v95 : BitVec 1 := Scalar.cmpi .slt v91 c0_i32_49
  let v96 : BitVec 32 := Scalar.extui v95
  let v97 : BitVec 32 := Scalar.subi v94 v96
  let c2048_i32_47 : BitVec 32 := 2048#32
  let c0_i32_50 : BitVec 32 := 0#32
  let v98 : BitVec 1 := Scalar.cmpi .sgt c2048_i32_47 c0_i32_50
  let v99 : BitVec 32 := Scalar.extui v98
  let c0_i32_51 : BitVec 32 := 0#32
  let v100 : BitVec 1 := Scalar.cmpi .slt c2048_i32_47 c0_i32_51
  let v101 : BitVec 32 := Scalar.extui v100
  let v102 : BitVec 32 := Scalar.subi v99 v101
  let v103 : BitVec 1 := Scalar.cmpi .ne v97 v102
  let v104 : BitVec 32 := Scalar.remsi v91 c2048_i32_47
  let c0_i32_52 : BitVec 32 := 0#32
  let v105 : BitVec 1 := Scalar.cmpi .ne v104 c0_i32_52
  let v106 : BitVec 1 := Scalar.andi v103 v105
  let v92 : BitVec 32 := Scalar.divsi v91 c2048_i32_47
  let c1_i32_53 : BitVec 32 := 1#32
  let v107 : BitVec 32 := Scalar.subi v92 c1_i32_53
  let v108 : BitVec 32 := Scalar.select v106 v107 v92
  let c128_i32 : BitVec 32 := 128#32
  let v109 : BitVec 32 := Scalar.muli v108 c128_i32
  v109
def k0_off14 (i : grid0.Coords) : Fin 4 → Nat :=
  let c0_54 : Index := 0#32
  let c0_55 : Index := 0#32
  let c0_56 : Index := 0#32
  let arg2 : BitVec 32 := BitVec.ofNat 32 (i 2).val
  let c512_i32 : BitVec 32 := 512#32
  let v0 : BitVec 32 := Scalar.muli arg2 c512_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2048_i32 : BitVec 32 := 2048#32
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let v2 : BitVec 32 := Scalar.divsi v1 c2048_i32
  let c1_i32 : BitVec 32 := 1#32
  let v17 : BitVec 32 := Scalar.subi v2 c1_i32
  let v18 : BitVec 32 := Scalar.select v16 v17 v2
  let c2048_i32_46 : BitVec 32 := 2048#32
  let v91 : BitVec 32 := Scalar.muli v18 c2048_i32_46
  let c0_i32_48 : BitVec 32 := 0#32
  let v93 : BitVec 1 := Scalar.cmpi .sgt v91 c0_i32_48
  let v94 : BitVec 32 := Scalar.extui v93
  let c0_i32_49 : BitVec 32 := 0#32
  let v95 : BitVec 1 := Scalar.cmpi .slt v91 c0_i32_49
  let v96 : BitVec 32 := Scalar.extui v95
  let v97 : BitVec 32 := Scalar.subi v94 v96
  let c2048_i32_47 : BitVec 32 := 2048#32
  let c0_i32_50 : BitVec 32 := 0#32
  let v98 : BitVec 1 := Scalar.cmpi .sgt c2048_i32_47 c0_i32_50
  let v99 : BitVec 32 := Scalar.extui v98
  let c0_i32_51 : BitVec 32 := 0#32
  let v100 : BitVec 1 := Scalar.cmpi .slt c2048_i32_47 c0_i32_51
  let v101 : BitVec 32 := Scalar.extui v100
  let v102 : BitVec 32 := Scalar.subi v99 v101
  let v103 : BitVec 1 := Scalar.cmpi .ne v97 v102
  let v104 : BitVec 32 := Scalar.remsi v91 c2048_i32_47
  let c0_i32_52 : BitVec 32 := 0#32
  let v105 : BitVec 1 := Scalar.cmpi .ne v104 c0_i32_52
  let v106 : BitVec 1 := Scalar.andi v103 v105
  let v92 : BitVec 32 := Scalar.divsi v91 c2048_i32_47
  let c1_i32_53 : BitVec 32 := 1#32
  let v107 : BitVec 32 := Scalar.subi v92 c1_i32_53
  let v108 : BitVec 32 := Scalar.select v106 v107 v92
  let c128_i32 : BitVec 32 := 128#32
  let v109 : BitVec 32 := Scalar.muli v108 c128_i32
  let v110 : BitVec 32 := v109
  let v111 : Index := Scalar.indexCast v110
  ![0, 0, 0, v111.toNat]
def k0_off15 (i : grid0.Coords) (c0_i32_76 : BitVec 32) : Fin 3 → Nat :=
  let c0_77 : Index := 0#32
  let c0_78 : Index := 0#32
  let arg2 : BitVec 32 := BitVec.ofNat 32 (i 2).val
  let c512_i32 : BitVec 32 := 512#32
  let v0 : BitVec 32 := Scalar.muli arg2 c512_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2048_i32 : BitVec 32 := 2048#32
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let v2 : BitVec 32 := Scalar.divsi v1 c2048_i32
  let c1_i32 : BitVec 32 := 1#32
  let v17 : BitVec 32 := Scalar.subi v2 c1_i32
  let v18 : BitVec 32 := Scalar.select v16 v17 v2
  let c2048_i32_43 : BitVec 32 := 2048#32
  let v86 : BitVec 32 := Scalar.muli v18 c2048_i32_43
  let v87 : BitVec 32 := v86
  let v160 : BitVec 32 := Scalar.addi v87 c0_i32_76
  let v161 : Index := Scalar.indexCast v160
  ![0, 0, v161.toNat]
def k0_mult12 (i : grid0.Coords) : BitVec 32 :=
  let arg2 : BitVec 32 := BitVec.ofNat 32 (i 2).val
  let c512_i32 : BitVec 32 := 512#32
  let v0 : BitVec 32 := Scalar.muli arg2 c512_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2048_i32 : BitVec 32 := 2048#32
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let v2 : BitVec 32 := Scalar.divsi v1 c2048_i32
  let c1_i32 : BitVec 32 := 1#32
  let v17 : BitVec 32 := Scalar.subi v2 c1_i32
  let v18 : BitVec 32 := Scalar.select v16 v17 v2
  let c2048_i32_41 : BitVec 32 := 2048#32
  let v83 : BitVec 32 := Scalar.muli v18 c2048_i32_41
  v83
def k0_off16 (i : grid0.Coords) : Fin 3 → Nat :=
  let c0_42 : Index := 0#32
  let arg2 : BitVec 32 := BitVec.ofNat 32 (i 2).val
  let c512_i32 : BitVec 32 := 512#32
  let v0 : BitVec 32 := Scalar.muli arg2 c512_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2048_i32 : BitVec 32 := 2048#32
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let v2 : BitVec 32 := Scalar.divsi v1 c2048_i32
  let c1_i32 : BitVec 32 := 1#32
  let v17 : BitVec 32 := Scalar.subi v2 c1_i32
  let v18 : BitVec 32 := Scalar.select v16 v17 v2
  let c2048_i32_41 : BitVec 32 := 2048#32
  let v83 : BitVec 32 := Scalar.muli v18 c2048_i32_41
  let v84 : BitVec 32 := v83
  let v85 : Index := Scalar.indexCast v84
  let c0_43 : Index := 0#32
  ![0, v85.toNat, 0]
def k0_mult13 (i : grid0.Coords) : BitVec 32 :=
  let arg2 : BitVec 32 := BitVec.ofNat 32 (i 2).val
  let c512_i32 : BitVec 32 := 512#32
  let v0 : BitVec 32 := Scalar.muli arg2 c512_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2048_i32 : BitVec 32 := 2048#32
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let v2 : BitVec 32 := Scalar.divsi v1 c2048_i32
  let c1_i32 : BitVec 32 := 1#32
  let v17 : BitVec 32 := Scalar.subi v2 c1_i32
  let v18 : BitVec 32 := Scalar.select v16 v17 v2
  let c2048_i32_44 : BitVec 32 := 2048#32
  let v88 : BitVec 32 := Scalar.muli v18 c2048_i32_44
  let c0_i32_46 : BitVec 32 := 0#32
  let v90 : BitVec 1 := Scalar.cmpi .sgt v88 c0_i32_46
  let v91 : BitVec 32 := Scalar.extui v90
  let c0_i32_47 : BitVec 32 := 0#32
  let v92 : BitVec 1 := Scalar.cmpi .slt v88 c0_i32_47
  let v93 : BitVec 32 := Scalar.extui v92
  let v94 : BitVec 32 := Scalar.subi v91 v93
  let c2048_i32_45 : BitVec 32 := 2048#32
  let c0_i32_48 : BitVec 32 := 0#32
  let v95 : BitVec 1 := Scalar.cmpi .sgt c2048_i32_45 c0_i32_48
  let v96 : BitVec 32 := Scalar.extui v95
  let c0_i32_49 : BitVec 32 := 0#32
  let v97 : BitVec 1 := Scalar.cmpi .slt c2048_i32_45 c0_i32_49
  let v98 : BitVec 32 := Scalar.extui v97
  let v99 : BitVec 32 := Scalar.subi v96 v98
  let v100 : BitVec 1 := Scalar.cmpi .ne v94 v99
  let v101 : BitVec 32 := Scalar.remsi v88 c2048_i32_45
  let c0_i32_50 : BitVec 32 := 0#32
  let v102 : BitVec 1 := Scalar.cmpi .ne v101 c0_i32_50
  let v103 : BitVec 1 := Scalar.andi v100 v102
  let v89 : BitVec 32 := Scalar.divsi v88 c2048_i32_45
  let c1_i32_51 : BitVec 32 := 1#32
  let v104 : BitVec 32 := Scalar.subi v89 c1_i32_51
  let v105 : BitVec 32 := Scalar.select v103 v104 v89
  let c128_i32 : BitVec 32 := 128#32
  let v106 : BitVec 32 := Scalar.muli v105 c128_i32
  v106
def k0_off17 (i : grid0.Coords) : Fin 4 → Nat :=
  let c0_52 : Index := 0#32
  let c0_53 : Index := 0#32
  let c0_54 : Index := 0#32
  let arg2 : BitVec 32 := BitVec.ofNat 32 (i 2).val
  let c512_i32 : BitVec 32 := 512#32
  let v0 : BitVec 32 := Scalar.muli arg2 c512_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2048_i32 : BitVec 32 := 2048#32
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let v2 : BitVec 32 := Scalar.divsi v1 c2048_i32
  let c1_i32 : BitVec 32 := 1#32
  let v17 : BitVec 32 := Scalar.subi v2 c1_i32
  let v18 : BitVec 32 := Scalar.select v16 v17 v2
  let c2048_i32_44 : BitVec 32 := 2048#32
  let v88 : BitVec 32 := Scalar.muli v18 c2048_i32_44
  let c0_i32_46 : BitVec 32 := 0#32
  let v90 : BitVec 1 := Scalar.cmpi .sgt v88 c0_i32_46
  let v91 : BitVec 32 := Scalar.extui v90
  let c0_i32_47 : BitVec 32 := 0#32
  let v92 : BitVec 1 := Scalar.cmpi .slt v88 c0_i32_47
  let v93 : BitVec 32 := Scalar.extui v92
  let v94 : BitVec 32 := Scalar.subi v91 v93
  let c2048_i32_45 : BitVec 32 := 2048#32
  let c0_i32_48 : BitVec 32 := 0#32
  let v95 : BitVec 1 := Scalar.cmpi .sgt c2048_i32_45 c0_i32_48
  let v96 : BitVec 32 := Scalar.extui v95
  let c0_i32_49 : BitVec 32 := 0#32
  let v97 : BitVec 1 := Scalar.cmpi .slt c2048_i32_45 c0_i32_49
  let v98 : BitVec 32 := Scalar.extui v97
  let v99 : BitVec 32 := Scalar.subi v96 v98
  let v100 : BitVec 1 := Scalar.cmpi .ne v94 v99
  let v101 : BitVec 32 := Scalar.remsi v88 c2048_i32_45
  let c0_i32_50 : BitVec 32 := 0#32
  let v102 : BitVec 1 := Scalar.cmpi .ne v101 c0_i32_50
  let v103 : BitVec 1 := Scalar.andi v100 v102
  let v89 : BitVec 32 := Scalar.divsi v88 c2048_i32_45
  let c1_i32_51 : BitVec 32 := 1#32
  let v104 : BitVec 32 := Scalar.subi v89 c1_i32_51
  let v105 : BitVec 32 := Scalar.select v103 v104 v89
  let c128_i32 : BitVec 32 := 128#32
  let v106 : BitVec 32 := Scalar.muli v105 c128_i32
  let v107 : BitVec 32 := v106
  let v108 : Index := Scalar.indexCast v107
  ![0, 0, 0, v108.toNat]
def k0_off18 (i : grid0.Coords) (c0_i32_72 : BitVec 32) : Fin 3 → Nat :=
  let c0_73 : Index := 0#32
  let c0_74 : Index := 0#32
  let arg2 : BitVec 32 := BitVec.ofNat 32 (i 2).val
  let c512_i32 : BitVec 32 := 512#32
  let v0 : BitVec 32 := Scalar.muli arg2 c512_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2048_i32 : BitVec 32 := 2048#32
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let v2 : BitVec 32 := Scalar.divsi v1 c2048_i32
  let c1_i32 : BitVec 32 := 1#32
  let v17 : BitVec 32 := Scalar.subi v2 c1_i32
  let v18 : BitVec 32 := Scalar.select v16 v17 v2
  let c2048_i32_41 : BitVec 32 := 2048#32
  let v83 : BitVec 32 := Scalar.muli v18 c2048_i32_41
  let v84 : BitVec 32 := v83
  let v148 : BitVec 32 := Scalar.addi v84 c0_i32_72
  let v149 : Index := Scalar.indexCast v148
  ![0, 0, v149.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x4x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x16384x768 : Shape := ⟨3, ![2, 16384, 768]⟩
abbrev S2x16384x192 : Shape := ⟨3, ![2, 16384, 192]⟩
abbrev S2x2x16384x16 : Shape := ⟨4, ![2, 2, 16384, 16]⟩
abbrev S2x16384x24 : Shape := ⟨3, ![2, 16384, 24]⟩
abbrev S_ : Shape := ⟨0, ![]⟩
abbrev S2x16384x2x4x96 : Shape := ⟨5, ![2, 16384, 2, 4, 96]⟩
abbrev S2x2x4x16384x96 : Shape := ⟨5, ![2, 2, 4, 16384, 96]⟩
abbrev S2x16384x2x4x3 : Shape := ⟨5, ![2, 16384, 2, 4, 3]⟩
abbrev S2x2x4x16384x3 : Shape := ⟨5, ![2, 2, 4, 16384, 3]⟩
abbrev S2x16384x2x96 : Shape := ⟨4, ![2, 16384, 2, 96]⟩
abbrev S2x2x16384x96 : Shape := ⟨4, ![2, 2, 16384, 96]⟩
abbrev S2x2x256x64x96 : Shape := ⟨5, ![2, 2, 256, 64, 96]⟩
abbrev S2 : Shape := ⟨1, ![2]⟩
abbrev S2x1x1x1 : Shape := ⟨4, ![2, 1, 1, 1]⟩
abbrev S1x2x1x1 : Shape := ⟨4, ![1, 2, 1, 1]⟩
abbrev S16384 : Shape := ⟨1, ![16384]⟩
abbrev S2x2x16384x16x1 : Shape := ⟨5, ![2, 2, 16384, 16, 1]⟩
abbrev S2x2x16384x16x3 : Shape := ⟨5, ![2, 2, 16384, 16, 3]⟩
abbrev S2x2x16384x16x64x96 : Shape := ⟨6, ![2, 2, 16384, 16, 64, 96]⟩
abbrev S2x2x16384x1024x96 : Shape := ⟨5, ![2, 2, 16384, 1024, 96]⟩
abbrev S64 : Shape := ⟨1, ![64]⟩
abbrev S1x1x1x1x64 : Shape := ⟨5, ![1, 1, 1, 1, 64]⟩
abbrev S2x2x16384x16x64 : Shape := ⟨5, ![2, 2, 16384, 16, 64]⟩
abbrev S2x2x16384x1024 : Shape := ⟨4, ![2, 2, 16384, 1024]⟩
abbrev S16384x1 : Shape := ⟨2, ![16384, 1]⟩
abbrev S1x1x16384x1 : Shape := ⟨4, ![1, 1, 16384, 1]⟩
abbrev S2x2x16384x1024x4 : Shape := ⟨5, ![2, 2, 16384, 1024, 4]⟩
abbrev S2x2x4x16384x1024 : Shape := ⟨5, ![2, 2, 4, 16384, 1024]⟩
abbrev S2x2x1x16384x1024 : Shape := ⟨5, ![2, 2, 1, 16384, 1024]⟩
abbrev S2x2x4x16384 : Shape := ⟨4, ![2, 2, 4, 16384]⟩
abbrev S2x2x4x16384x1 : Shape := ⟨5, ![2, 2, 4, 16384, 1]⟩
abbrev S2x2x16384x96x4 : Shape := ⟨5, ![2, 2, 16384, 96, 4]⟩

abbrev nBuf : Space → Nat
  | .hbm => 134
  | .vmem => 0
  | .smem => 0
  | _ => 0

abbrev hbmTy0_0 (i : Nat) : BufTy := match i % 128 with
  | 0 => ⟨S2x16384x768, .f32⟩
  | 1 => ⟨S2x16384x192, .f32⟩
  | 2 => ⟨S2x16384x192, .f32⟩
  | 3 => ⟨S2x2x16384x16, .i32⟩
  | 4 => ⟨S2x2x16384x16, .f32⟩
  | 5 => ⟨S2x16384x24, .f32⟩
  | 6 => ⟨S_, .f32⟩
  | 7 => ⟨S_, .f32⟩
  | 8 => ⟨S_, .f32⟩
  | 9 => ⟨S2x16384x768, .f32⟩
  | 10 => ⟨S2x16384x768, .f32⟩
  | 11 => ⟨S2x16384x2x4x96, .f32⟩
  | 12 => ⟨S2x2x4x16384x96, .f32⟩
  | 13 => ⟨S2x16384x2x4x3, .f32⟩
  | 14 => ⟨S2x2x4x16384x3, .f32⟩
  | 15 => ⟨S2x16384x2x96, .f32⟩
  | 16 => ⟨S2x2x16384x96, .f32⟩
  | 17 => ⟨S2x2x256x64x96, .f32⟩
  | 18 => ⟨S2x16384x2x96, .f32⟩
  | 19 => ⟨S2x2x16384x96, .f32⟩
  | 20 => ⟨S2x2x256x64x96, .f32⟩
  | 21 => ⟨S2, .i32⟩
  | 22 => ⟨S2x1x1x1, .i32⟩
  | 23 => ⟨S2, .i32⟩
  | 24 => ⟨S1x2x1x1, .i32⟩
  | 25 => ⟨S16384, .i32⟩
  | 26 => ⟨S_, .f32⟩
  | 27 => ⟨S2x2x16384x16, .f32⟩
  | 28 => ⟨S2x2x16384x16, .i1⟩
  | 29 => ⟨S_, .i32⟩
  | 30 => ⟨S2x1x1x1, .i32⟩
  | 31 => ⟨S2x1x1x1, .i1⟩
  | 32 => ⟨S_, .i32⟩
  | 33 => ⟨S2x1x1x1, .i32⟩
  | 34 => ⟨S2x1x1x1, .i32⟩
  | 35 => ⟨S2x1x1x1, .i32⟩
  | 36 => ⟨S_, .i32⟩
  | 37 => ⟨S1x2x1x1, .i32⟩
  | 38 => ⟨S1x2x1x1, .i1⟩
  | 39 => ⟨S_, .i32⟩
  | 40 => ⟨S1x2x1x1, .i32⟩
  | 41 => ⟨S1x2x1x1, .i32⟩
  | 42 => ⟨S1x2x1x1, .i32⟩
  | 43 => ⟨S_, .i32⟩
  | 44 => ⟨S2x2x16384x16, .i32⟩
  | 45 => ⟨S2x2x16384x16, .i1⟩
  | 46 => ⟨S_, .i32⟩
  | 47 => ⟨S2x2x16384x16, .i32⟩
  | 48 => ⟨S2x2x16384x16, .i32⟩
  | 49 => ⟨S2x2x16384x16, .i32⟩
  | 50 => ⟨S2x2x16384x16, .i32⟩
  | 51 => ⟨S2x2x16384x16, .i32⟩
  | 52 => ⟨S2x2x16384x16x1, .i32⟩
  | 53 => ⟨S2x2x16384x16x1, .i32⟩
  | 54 => ⟨S2x2x16384x16x1, .i32⟩
  | 55 => ⟨S2x2x16384x16x3, .i32⟩
  | 56 => ⟨S2x2x16384x16x64x96, .f32⟩
  | 57 => ⟨S2x2x16384x1024x96, .f32⟩
  | 58 => ⟨S_, .i32⟩
  | 59 => ⟨S2x1x1x1, .i32⟩
  | 60 => ⟨S2x1x1x1, .i1⟩
  | 61 => ⟨S_, .i32⟩
  | 62 => ⟨S2x1x1x1, .i32⟩
  | 63 => ⟨S2x1x1x1, .i32⟩
  | 64 => ⟨S2x1x1x1, .i32⟩
  | 65 => ⟨S_, .i32⟩
  | 66 => ⟨S1x2x1x1, .i32⟩
  | 67 => ⟨S1x2x1x1, .i1⟩
  | 68 => ⟨S_, .i32⟩
  | 69 => ⟨S1x2x1x1, .i32⟩
  | 70 => ⟨S1x2x1x1, .i32⟩
  | 71 => ⟨S1x2x1x1, .i32⟩
  | 72 => ⟨S_, .i32⟩
  | 73 => ⟨S2x2x16384x16, .i32⟩
  | 74 => ⟨S2x2x16384x16, .i1⟩
  | 75 => ⟨S_, .i32⟩
  | 76 => ⟨S2x2x16384x16, .i32⟩
  | 77 => ⟨S2x2x16384x16, .i32⟩
  | 78 => ⟨S2x2x16384x16, .i32⟩
  | 79 => ⟨S2x2x16384x16, .i32⟩
  | 80 => ⟨S2x2x16384x16, .i32⟩
  | 81 => ⟨S2x2x16384x16x1, .i32⟩
  | 82 => ⟨S2x2x16384x16x1, .i32⟩
  | 83 => ⟨S2x2x16384x16x1, .i32⟩
  | 84 => ⟨S2x2x16384x16x3, .i32⟩
  | 85 => ⟨S2x2x16384x16x64x96, .f32⟩
  | 86 => ⟨S2x2x16384x1024x96, .f32⟩
  | 87 => ⟨S2x2x16384x16x1, .i32⟩
  | 88 => ⟨S_, .i32⟩
  | 89 => ⟨S2x2x16384x16x1, .i32⟩
  | 90 => ⟨S2x2x16384x16x1, .i32⟩
  | 91 => ⟨S64, .i32⟩
  | 92 => ⟨S1x1x1x1x64, .i32⟩
  | 93 => ⟨S2x2x16384x16x64, .i32⟩
  | 94 => ⟨S2x2x16384x16x64, .i32⟩
  | 95 => ⟨S2x2x16384x16x64, .i32⟩
  | 96 => ⟨S2x2x16384x1024, .i32⟩
  | 97 => ⟨S16384x1, .i32⟩
  | 98 => ⟨S1x1x16384x1, .i32⟩
  | 99 => ⟨S2x2x16384x1024, .i32⟩
  | 100 => ⟨S2x2x16384x1024, .i1⟩
  | 101 => ⟨S2x2x16384x16x64, .i1⟩
  | 102 => ⟨S2x2x16384x1024, .i1⟩
  | 103 => ⟨S2x2x16384x1024, .i1⟩
  | 104 => ⟨S2x2x16384x1024x4, .f32⟩
  | 105 => ⟨S2x2x4x16384x1024, .f32⟩
  | 106 => ⟨S2x2x1x16384x1024, .i1⟩
  | 107 => ⟨S2x2x4x16384x1024, .i1⟩
  | 108 => ⟨S2x2x4x16384x1024, .f32⟩
  | 109 => ⟨S2x2x4x16384x1024, .f32⟩
  | 110 => ⟨S_, .f32⟩
  | 111 => ⟨S2x2x4x16384, .f32⟩
  | 112 => ⟨S2x2x4x16384x1, .f32⟩
  | 113 => ⟨S2x2x4x16384x1024, .f32⟩
  | 114 => ⟨S2x2x4x16384x1024, .f32⟩
  | 115 => ⟨S2x2x4x16384x1024, .f32⟩
  | 116 => ⟨S2x2x1x16384x1024, .f32⟩
  | 117 => ⟨S2x2x4x16384x1024, .f32⟩
  | 118 => ⟨S2x2x4x16384x1024, .f32⟩
  | 119 => ⟨S_, .f32⟩
  | 120 => ⟨S2x2x4x16384, .f32⟩
  | 121 => ⟨S2x2x4x16384x1, .f32⟩
  | 122 => ⟨S_, .f32⟩
  | 123 => ⟨S2x2x4x16384x1, .f32⟩
  | 124 => ⟨S2x2x4x16384x1, .f32⟩
  | 125 => ⟨S2x2x4x16384x1024, .f32⟩
  | 126 => ⟨S2x2x4x16384x1024, .f32⟩
  | 127 => ⟨S2x2x16384x96x4, .f32⟩
  | _ => ⟨S2x16384x768, .f32⟩

abbrev hbmTy0_1 (i : Nat) : BufTy := match i % 128 with
  | 0 => ⟨S2x2x4x16384x96, .f32⟩
  | 1 => ⟨S2x2x4x16384x1, .f32⟩
  | 2 => ⟨S2x2x4x16384x96, .f32⟩
  | 3 => ⟨S2x2x4x16384x96, .f32⟩
  | 4 => ⟨S2x16384x2x4x96, .f32⟩
  | 5 => ⟨S2x16384x768, .f32⟩
  | _ => ⟨S2x16384x768, .f32⟩

abbrev hbmTy (i : Nat) : BufTy := match i / 128 with
  | 0 => hbmTy0_0 i
  | 1 => hbmTy0_1 i
  | _ => ⟨S2x16384x768, .f32⟩

abbrev bufTy : (tb : Table) → Fin (tcTables nBuf tb) → BufTy
  | .hbm, ⟨i, _⟩ => hbmTy i
  | _, _ => ⟨S2x16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_v20 : Ref sig .tc := ⟨.hbm, 30, rfl⟩
abbrev main_v21 : Ref sig .tc := ⟨.hbm, 31, rfl⟩
abbrev main_c_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_2 : Ref sig .tc := ⟨.hbm, 36, rfl⟩
abbrev main_v25 : Ref sig .tc := ⟨.hbm, 37, rfl⟩
abbrev main_v26 : Ref sig .tc := ⟨.hbm, 38, rfl⟩
abbrev main_c_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_4 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_6 : Ref sig .tc := ⟨.hbm, 58, rfl⟩
abbrev main_v43 : Ref sig .tc := ⟨.hbm, 59, rfl⟩
abbrev main_v44 : Ref sig .tc := ⟨.hbm, 60, rfl⟩
abbrev main_c_7 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_8 : Ref sig .tc := ⟨.hbm, 65, rfl⟩
abbrev main_v48 : Ref sig .tc := ⟨.hbm, 66, rfl⟩
abbrev main_v49 : Ref sig .tc := ⟨.hbm, 67, rfl⟩
abbrev main_c_9 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_10 : Ref sig .tc := ⟨.hbm, 72, rfl⟩
abbrev main_v53 : Ref sig .tc := ⟨.hbm, 73, rfl⟩
abbrev main_v54 : Ref sig .tc := ⟨.hbm, 74, rfl⟩
abbrev main_c_11 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_c_12 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_call0_v0 : Ref sig .tc := ⟨.hbm, 107, rfl⟩
abbrev main_call0_v1 : Ref sig .tc := ⟨.hbm, 108, rfl⟩
abbrev main_v85 : Ref sig .tc := ⟨.hbm, 109, rfl⟩
abbrev main_cst_13 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_cst_14 : Ref sig .tc := ⟨.hbm, 119, rfl⟩
abbrev main_v94 : Ref sig .tc := ⟨.hbm, 120, rfl⟩
abbrev main_v95 : Ref sig .tc := ⟨.hbm, 121, rfl⟩
abbrev main_cst_15 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩

abbrev nD : Nat := 1
abbrev τ : Topo := Topo.v7x

variable {F : FTy → Type} [FloatOps F]
-- ==== Kernel2.lean ====
abbrev S2x16384x1024 : Shape := ⟨3, ![2, 16384, 1024]⟩
abbrev S1024x2816 : Shape := ⟨2, ![1024, 2816]⟩
abbrev S2816x1024 : Shape := ⟨2, ![2816, 1024]⟩
abbrev S1024 : Shape := ⟨1, ![1024]⟩
abbrev S32768x1024 : Shape := ⟨2, ![32768, 1024]⟩
abbrev S1x1024 : Shape := ⟨2, ![1, 1024]⟩
abbrev S1024x1024 : Shape := ⟨2, ![1024, 1024]⟩
abbrev S1024x1536 : Shape := ⟨2, ![1024, 1536]⟩
abbrev S1536x1024 : Shape := ⟨2, ![1536, 1024]⟩
abbrev S1024x1280 : Shape := ⟨2, ![1024, 1280]⟩
abbrev S1280x1024 : Shape := ⟨2, ![1280, 1024]⟩
abbrev S1024x1 : Shape := ⟨2, ![1024, 1]⟩

abbrev nBuf : Space → Nat
  | .hbm => 13
  | .vmem => 9
  | .smem => 0
  | _ => 0

abbrev bufTy : (tb : Table) → Fin (tcTables nBuf tb) → BufTy
  | .hbm, ⟨0, _⟩ => ⟨S2x16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S32768x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S2x16384x1024 : Shape := ⟨3, ![2, 16384, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S2x16384x2816 : Shape := ⟨3, ![2, 16384, 2816]⟩
abbrev S2x16384 : Shape := ⟨2, ![2, 16384]⟩
abbrev S2x16384x1 : Shape := ⟨3, ![2, 16384, 1]⟩
abbrev S1x1x1024 : Shape := ⟨3, ![1, 1, 1024]⟩
abbrev S32768x1024 : Shape := ⟨2, ![32768, 1024]⟩

abbrev nBuf : Space → Nat
  | .hbm => 56
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S2x16384x1024, .f32⟩
  | .hbm, ⟨8, _⟩ => ⟨S2x16384x1024, .f32⟩
  | .hbm, ⟨9, _⟩ => ⟨S2x16384x2816, .f32⟩
  | .hbm, ⟨10, _⟩ => ⟨S2x16384x2816, .f32⟩
  | .hbm, ⟨11, _⟩ => ⟨S2x16384x2816, .f32⟩
  | .hbm, ⟨12, _⟩ => ⟨S_, .f32⟩
  | .hbm, ⟨13, _⟩ => ⟨S2x16384x2816, .f32⟩
  | .hbm, ⟨14, _⟩ => ⟨S2x16384x2816, .f32⟩
  | .hbm, ⟨15, _⟩ => ⟨S_, .f32⟩
  | .hbm, ⟨16, _⟩ => ⟨S2x16384x2816, .f32⟩
  | .hbm, ⟨17, _⟩ => ⟨S2x16384x2816, .f32⟩
  | .hbm, ⟨18, _⟩ => ⟨S2x16384x2816, .f32⟩
  | .hbm, ⟨19, _⟩ => ⟨S2x16384x2816, .f32⟩
  | .hbm, ⟨20, _⟩ => ⟨S2x16384x2816, .f32⟩
  | .hbm, ⟨21, _⟩ => ⟨S2x16384x1024, .f32⟩
  | .hbm, ⟨22, _⟩ => ⟨S_, .f32⟩
  | .hbm, ⟨23, _⟩ => ⟨S2x16384x1024, .f32⟩
  | .hbm, ⟨24, _⟩ => ⟨S2x16384x1024, .f32⟩
  | .hbm, ⟨25, _⟩ => ⟨S2x16384x1024, .f32⟩
  | .hbm, ⟨26, _⟩ => ⟨S_, .f32⟩
  | .hbm, ⟨27, _⟩ => ⟨S2x16384, .f32⟩
  | .hbm, ⟨28, _⟩ => ⟨S2x16384x1, .f32⟩
  | .hbm, ⟨29, _⟩ => ⟨S_, .f32⟩
  | .hbm, ⟨30, _⟩ => ⟨S2x16384x1, .f32⟩
  | .hbm, ⟨31, _⟩ => ⟨S2x16384x1, .f32⟩
  | .hbm, ⟨32, _⟩ => ⟨S2x16384x1024, .f32⟩
  | .hbm, ⟨33, _⟩ => ⟨S2x16384x1024, .f32⟩
  | .hbm, ⟨34, _⟩ => ⟨S2x16384x1024, .f32⟩
  | .hbm, ⟨35, _⟩ => ⟨S_, .f32⟩
  | .hbm, ⟨36, _⟩ => ⟨S2x16384, .f32⟩
  | .hbm, ⟨37, _⟩ => ⟨S2x16384x1, .f32⟩
  | .hbm, ⟨38, _⟩ => ⟨S_, .f32⟩
  | .hbm, ⟨39, _⟩ => ⟨S2x16384x1, .f32⟩
  | .hbm, ⟨40, _⟩ => ⟨S2x16384x1, .f32⟩
  | .hbm, ⟨41, _⟩ => ⟨S2x16384x1024, .f32⟩
  | .hbm, ⟨42, _⟩ => ⟨S2x16384x1024, .f32⟩
  | .hbm, ⟨43, _⟩ => ⟨S_, .f32⟩
  | .hbm, ⟨44, _⟩ => ⟨S2x16384x1, .f32⟩
  | .hbm, ⟨45, _⟩ => ⟨S2x16384x1, .f32⟩
  | .hbm, ⟨46, _⟩ => ⟨S2x16384x1, .f32⟩
  | .hbm, ⟨47, _⟩ => ⟨S2x16384x1024, .f32⟩
  | .hbm, ⟨48, _⟩ => ⟨S2x16384x1024, .f32⟩
  | .hbm, ⟨49, _⟩ => ⟨S1x1x1024, .f32⟩
  | .hbm, ⟨50, _⟩ => ⟨S2x16384x1024, .f32⟩
  | .hbm, ⟨51, _⟩ => ⟨S2x16384x1024, .f32⟩
  | .hbm, ⟨52, _⟩ => ⟨S1x1x1024, .f32⟩
  | .hbm, ⟨53, _⟩ => ⟨S2x16384x1024, .f32⟩
  | .hbm, ⟨54, _⟩ => ⟨S2x16384x1024, .f32⟩
  | .hbm, ⟨55, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== Kernel3.lean ====
abbrev S2x16384x1024 : Shape := ⟨3, ![2, 16384, 1024]⟩
abbrev S1024x2200 : Shape := ⟨2, ![1024, 2200]⟩
abbrev S24 : Shape := ⟨1, ![24]⟩
abbrev S1024x256 : Shape := ⟨2, ![1024, 256]⟩
abbrev S1024x768 : Shape := ⟨2, ![1024, 768]⟩
abbrev S1024x192 : Shape := ⟨2, ![1024, 192]⟩
abbrev S1024x24 : Shape := ⟨2, ![1024, 24]⟩
abbrev S1024x8x96 : Shape := ⟨3, ![1024, 8, 96]⟩
abbrev S_ : Shape := ⟨0, ![]⟩
abbrev S1024x8x128 : Shape := ⟨3, ![1024, 8, 128]⟩
abbrev S1024x1024 : Shape := ⟨2, ![1024, 1024]⟩
abbrev S1024x2x96 : Shape := ⟨3, ![1024, 2, 96]⟩
abbrev S1024x2x128 : Shape := ⟨3, ![1024, 2, 128]⟩
abbrev S1024x2304 : Shape := ⟨2, ![1024, 2304]⟩
abbrev S1024x2x12 : Shape := ⟨3, ![1024, 2, 12]⟩
abbrev S768x1024 : Shape := ⟨2, ![768, 1024]⟩
abbrev S2x12 : Shape := ⟨2, ![2, 12]⟩
abbrev S2x128 : Shape := ⟨2, ![2, 128]⟩
abbrev S256 : Shape := ⟨1, ![256]⟩
abbrev S256x1 : Shape := ⟨2, ![256, 1]⟩
abbrev S2x16384x256 : Shape := ⟨3, ![2, 16384, 256]⟩
abbrev S2x256x16384 : Shape := ⟨3, ![2, 256, 16384]⟩
abbrev S1x1024x1024 : Shape := ⟨3, ![1, 1024, 1024]⟩
abbrev S1x1024x256 : Shape := ⟨3, ![1, 1024, 256]⟩
abbrev S1x256x1024 : Shape := ⟨3, ![1, 256, 1024]⟩
abbrev S256x1024 : Shape := ⟨2, ![256, 1024]⟩

abbrev nBuf : Space → Nat
  | .hbm => 72
  | .vmem => 23
  | .smem => 0
  | _ => 0

abbrev bufTy : (tb : Table) → Fin (tcTables nBuf tb) → BufTy
  | .hbm, ⟨0, _⟩ => ⟨S2x16384x1024, .f32⟩
  | .hbm, ⟨1, _⟩ => ⟨S1024x2200, .f32⟩
  | .hbm, ⟨2, _⟩ => ⟨S24, .f32⟩
  | .hbm, ⟨3, _⟩ => ⟨S1024x256, .f32⟩
  | .hbm, ⟨4, _⟩ => ⟨S1024x768, .f32⟩
  | .hbm, ⟨5, _⟩ => ⟨S1024x192, .f32⟩
  | .hbm, ⟨6, _⟩ => ⟨S1024x192, .f32⟩
  | .hbm, ⟨7, _⟩ => ⟨S1024x192, .f32⟩
  | .hbm, ⟨8, _⟩ => ⟨S1024x192, .f32⟩
  | .hbm, ⟨9, _⟩ => ⟨S1024x192, .f32⟩
  | .hbm, ⟨10, _⟩ => ⟨S1024x192, .f32⟩
  | .hbm, ⟨11, _⟩ => ⟨S1024x24, .f32⟩
  | .hbm, ⟨12, _⟩ => ⟨S1024x8x96, .f32⟩
  | .hbm, ⟨13, _⟩ => ⟨S_, .i32⟩
  | .hbm, ⟨14, _⟩ => ⟨S_, .f32⟩
  | .hbm, ⟨15, _⟩ => ⟨S1024x8x128, .f32⟩
  | .hbm, ⟨16, _⟩ => ⟨S1024x1024, .f32⟩
  | .hbm, ⟨17, _⟩ => ⟨S1024x2x96, .f32⟩
  | .hbm, ⟨18, _⟩ => ⟨S_, .i32⟩
  | .hbm, ⟨19, _⟩ => ⟨S_, .f32⟩
  | .hbm, ⟨20, _⟩ => ⟨S1024x2x128, .f32⟩
  | .hbm, ⟨21, _⟩ => ⟨S1024x256, .f32⟩
  | .hbm, ⟨22, _⟩ => ⟨S1024x2x96, .f32⟩
  | .hbm, ⟨23, _⟩ => ⟨S_, .i32⟩
  | .hbm, ⟨24, _⟩ => ⟨S_, .f32⟩
  | .hbm, ⟨25, _⟩ => ⟨S1024x2x128, .f32⟩
  | .hbm, ⟨26, _⟩ => ⟨S1024x256, .f32⟩
  | .hbm, ⟨27, _⟩ => ⟨S1024x2x96, .f32⟩
  | .hbm, ⟨28, _⟩ => ⟨S_, .i32⟩
  | .hbm, ⟨29, _⟩ => ⟨S_, .f32⟩
  | .hbm, ⟨30, _⟩ => ⟨S1024x2x128, .f32⟩
  | .hbm, ⟨31, _⟩ => ⟨S1024x256, .f32⟩
  | .hbm, ⟨32, _⟩ => ⟨S1024x2x96, .f32⟩
  | .hbm, ⟨33, _⟩ => ⟨S_, .i32⟩
  | .hbm, ⟨34, _⟩ => ⟨S_, .f32⟩
  | .hbm, ⟨35, _⟩ => ⟨S1024x2x128, .f32⟩
  | .hbm, ⟨36, _⟩ => ⟨S1024x256, .f32⟩
  | .hbm, ⟨37, _⟩ => ⟨S1024x2304, .f32⟩
  | .hbm, ⟨38, _⟩ => ⟨S1024x2304, .bf16⟩
  | .hbm, ⟨39, _⟩ => ⟨S1024x2x96, .f32⟩
  | .hbm, ⟨40, _⟩ => ⟨S_, .i32⟩
  | .hbm, ⟨41, _⟩ => ⟨S_, .f32⟩
  | .hbm, ⟨42, _⟩ => ⟨S1024x2x128, .f32⟩
  | .hbm, ⟨43, _⟩ => ⟨S1024x256, .f32⟩
  | .hbm, ⟨44, _⟩ => ⟨S1024x2x96, .f32⟩
  | .hbm, ⟨45, _⟩ => ⟨S_, .i32⟩
  | .hbm, ⟨46, _⟩ => ⟨S_, .f32⟩
  | .hbm, ⟨47, _⟩ => ⟨S1024x2x128, .f32⟩
  | .hbm, ⟨48, _⟩ => ⟨S1024x256, .f32⟩
  | .hbm, ⟨49, _⟩ => ⟨S1024x2x12, .f32⟩
  | .hbm, ⟨50, _⟩ => ⟨S_, .i32⟩
  | .hbm, ⟨51, _⟩ => ⟨S_, .f32⟩
  | .hbm, ⟨52, _⟩ => ⟨S1024x2x128, .f32⟩
  | .hbm, ⟨53, _⟩ => ⟨S1024x256, .f32⟩
  | .hbm, ⟨54, _⟩ => ⟨S1024x768, .f32⟩
  | .hbm, ⟨55, _⟩ => ⟨S768x1024, .f32⟩
  | .hbm, ⟨56, _⟩ => ⟨S768x1024, .bf16⟩
  | .hbm, ⟨57, _⟩ => ⟨S2x12, .f32⟩
  | .hbm, ⟨58, _⟩ => ⟨S_, .i32⟩
  | .hbm, ⟨59, _⟩ => ⟨S_, .f32⟩
  | .hbm, ⟨60, _⟩ => ⟨S2x128, .f32⟩
  | .hbm, ⟨61, _⟩ => ⟨S256, .f32⟩
  | .hbm, ⟨62, _⟩ => ⟨S256x1, .f32⟩
  | .hbm, ⟨63, _⟩ => ⟨S2x16384x256, .f32⟩
  | .hbm, ⟨64, _⟩ => ⟨S2x16384x1024, .bf16⟩
  | .hbm, ⟨65, _⟩ => ⟨S2x16384x256, .f32⟩
  | .hbm, ⟨66, _⟩ => ⟨S2x16384x256, .f32⟩
  | .hbm, ⟨67, _⟩ => ⟨S2x16384x256, .bf16⟩
  | .hbm, ⟨68, _⟩ => ⟨S2x16384x256, .bf16⟩
  | .hbm, ⟨69, _⟩ => ⟨S2x256x16384, .f32⟩
  | .hbm, ⟨70, _⟩ => ⟨S2x256x16384, .bf16⟩
  | .hbm, ⟨71, _⟩ => ⟨S2x256x16384, .bf16⟩
  | .local _ .vmem, ⟨0, _⟩ => ⟨S1x1024x1024, .f32⟩
  | .local _ .vmem, ⟨1, _⟩ => ⟨S1x1024x1024, .f32⟩
  | .local _ .vmem, ⟨2, _⟩ => ⟨S1024x2304, .bf16⟩
  | .local _ .vmem, ⟨3, _⟩ => ⟨S768x1024, .bf16⟩
  | .local _ .vmem, ⟨4, _⟩ => ⟨S256x1, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x256, .f32⟩
  | .local _ .vmem, ⟨10, _⟩ => ⟨S1x1024x256, .f32⟩
  | .local _ .vmem, ⟨11, _⟩ => ⟨S1x1024x256, .f32⟩
  | .local _ .vmem, ⟨12, _⟩ => ⟨S1x1024x256, .f32⟩
  | .local _ .vmem, ⟨13, _⟩ => ⟨S1x1024x256, .bf16⟩
  | .local _ .vmem, ⟨14, _⟩ => ⟨S1x1024x256, .bf16⟩
  | .local _ .vmem, ⟨15, _⟩ => ⟨S1x1024x256, .bf16⟩
  | .local _ .vmem, ⟨16, _⟩ => ⟨S1x1024x256, .bf16⟩
  | .local _ .vmem, ⟨17, _⟩ => ⟨S1x256x1024, .f32⟩
  | .local _ .vmem, ⟨18, _⟩ => ⟨S1x256x1024, .f32⟩
  | .local _ .vmem, ⟨19, _⟩ => ⟨S1x256x1024, .bf16⟩
  | .local _ .vmem, ⟨20, _⟩ => ⟨S1x256x1024, .bf16⟩
  | .local _ .vmem, ⟨21, _⟩ => ⟨S1x256x1024, .bf16⟩
  | .local _ .vmem, ⟨22, _⟩ => ⟨S1x256x1024, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_call1_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_call2_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_call3_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_call4_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_4 : Ref sig .tc := ⟨.hbm, 40, rfl⟩
abbrev main_call5_v0 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_call6_v0 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_call7_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_7 : Ref sig .tc := ⟨.hbm, 58, rfl⟩
abbrev main_call8_v0 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42_0 : Ref sig .tc := ⟨.hbm, 63, rfl⟩
abbrev main_v42_1 : Ref sig .tc := ⟨.hbm, 64, rfl⟩
abbrev main_v42_2 : Ref sig .tc := ⟨.hbm, 65, rfl⟩
abbrev main_v42_3 : Ref sig .tc := ⟨.hbm, 66, rfl⟩
abbrev main_v42_4 : Ref sig .tc := ⟨.hbm, 67, rfl⟩
abbrev main_v42_5 : Ref sig .tc := ⟨.hbm, 68, rfl⟩
abbrev main_v42_6 : Ref sig .tc := ⟨.hbm, 69, rfl⟩
abbrev main_v42_7 : Ref sig .tc := ⟨.hbm, 70, rfl⟩
abbrev main_v42_8 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference3Ideal.lean ====
abbrev S2x16384x1024 : Shape := ⟨3, ![2, 16384, 1024]⟩
abbrev S1024x2200 : Shape := ⟨2, ![1024, 2200]⟩
abbrev S24 : Shape := ⟨1, ![24]⟩
abbrev S2x16384x2200 : Shape := ⟨3, ![2, 16384, 2200]⟩
abbrev S2x16384x256 : Shape := ⟨3, ![2, 16384, 256]⟩
abbrev S2x16384x768 : Shape := ⟨3, ![2, 16384, 768]⟩
abbrev S2x16384x192 : Shape := ⟨3, ![2, 16384, 192]⟩
abbrev S2x16384x24 : Shape := ⟨3, ![2, 16384, 24]⟩
abbrev S1x1x24 : Shape := ⟨3, ![1, 1, 24]⟩
abbrev S16384 : Shape := ⟨1, ![16384]⟩
abbrev S16384x1 : Shape := ⟨2, ![16384, 1]⟩
abbrev S256 : Shape := ⟨1, ![256]⟩
abbrev S1x256 : Shape := ⟨2, ![1, 256]⟩
abbrev S_ : Shape := ⟨0, ![]⟩
abbrev S16384x256 : Shape := ⟨2, ![16384, 256]⟩
abbrev S256x1 : Shape := ⟨2, ![256, 1]⟩
abbrev S2x16384x8x96 : Shape := ⟨4, ![2, 16384, 8, 96]⟩
abbrev S2x16384x8x128 : Shape := ⟨4, ![2, 16384, 8, 128]⟩
abbrev S2x16384x2x96 : Shape := ⟨4, ![2, 16384, 2, 96]⟩
abbrev S2x16384x2x128 : Shape := ⟨4, ![2, 16384, 2, 128]⟩
abbrev S2x16384x2x12 : Shape := ⟨4, ![2, 16384, 2, 12]⟩
abbrev S2x256x16384 : Shape := ⟨3, ![2, 256, 16384]⟩

abbrev nBuf : Space → Nat
  | .hbm => 117
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024x2200, .f32⟩
  | .hbm, ⟨2, _⟩ => ⟨S24, .f32⟩
  | .hbm, ⟨3, _⟩ => ⟨S2x16384x2200, .f32⟩
  | .hbm, ⟨4, _⟩ => ⟨S2x16384x256, .f32⟩
  | .hbm, ⟨5, _⟩ => ⟨S2x16384x768, .f32⟩
  | .hbm, ⟨6, _⟩ => ⟨S2x16384x192, .f32⟩
  | .hbm, ⟨7, _⟩ => ⟨S2x16384x192, .f32⟩
  | .hbm, ⟨8, _⟩ => ⟨S2x16384x192, .f32⟩
  | .hbm, ⟨9, _⟩ => ⟨S2x16384x192, .f32⟩
  | .hbm, ⟨10, _⟩ => ⟨S2x16384x192, .f32⟩
  | .hbm, ⟨11, _⟩ => ⟨S2x16384x192, .f32⟩
  | .hbm, ⟨12, _⟩ => ⟨S2x16384x24, .f32⟩
  | .hbm, ⟨13, _⟩ => ⟨S1x1x24, .f32⟩
  | .hbm, ⟨14, _⟩ => ⟨S2x16384x24, .f32⟩
  | .hbm, ⟨15, _⟩ => ⟨S2x16384x24, .f32⟩
  | .hbm, ⟨16, _⟩ => ⟨S16384, .i32⟩
  | .hbm, ⟨17, _⟩ => ⟨S16384x1, .i32⟩
  | .hbm, ⟨18, _⟩ => ⟨S256, .i32⟩
  | .hbm, ⟨19, _⟩ => ⟨S1x256, .i32⟩
  | .hbm, ⟨20, _⟩ => ⟨S_, .i32⟩
  | .hbm, ⟨21, _⟩ => ⟨S1x256, .i32⟩
  | .hbm, ⟨22, _⟩ => ⟨S1x256, .i32⟩
  | .hbm, ⟨23, _⟩ => ⟨S_, .i32⟩
  | .hbm, ⟨24, _⟩ => ⟨S16384x1, .i32⟩
  | .hbm, ⟨25, _⟩ => ⟨S16384x1, .i32⟩
  | .hbm, ⟨26, _⟩ => ⟨S_, .i32⟩
  | .hbm, ⟨27, _⟩ => ⟨S16384x1, .i32⟩
  | .hbm, ⟨28, _⟩ => ⟨S16384x1, .i32⟩
  | .hbm, ⟨29, _⟩ => ⟨S_, .i32⟩
  | .hbm, ⟨30, _⟩ => ⟨S16384x1, .i32⟩
  | .hbm, ⟨31, _⟩ => ⟨S16384x1, .i32⟩
  | .hbm, ⟨32, _⟩ => ⟨S16384x256, .i32⟩
  | .hbm, ⟨33, _⟩ => ⟨S16384x256, .i32⟩
  | .hbm, ⟨34, _⟩ => ⟨S16384x256, .i1⟩
  | .hbm, ⟨35, _⟩ => ⟨S256, .i32⟩
  | .hbm, ⟨36, _⟩ => ⟨S256x1, .i32⟩
  | .hbm, ⟨37, _⟩ => ⟨S_, .i32⟩
  | .hbm, ⟨38, _⟩ => ⟨S256x1, .i32⟩
  | .hbm, ⟨39, _⟩ => ⟨S256x1, .i32⟩
  | .hbm, ⟨40, _⟩ => ⟨S_, .i32⟩
  | .hbm, ⟨41, _⟩ => ⟨S256x1, .i32⟩
  | .hbm, ⟨42, _⟩ => ⟨S256x1, .i1⟩
  | .hbm, ⟨43, _⟩ => ⟨S2x16384x8x96, .f32⟩
  | .hbm, ⟨44, _⟩ => ⟨S_, .i32⟩
  | .hbm, ⟨45, _⟩ => ⟨S_, .f32⟩
  | .hbm, ⟨46, _⟩ => ⟨S2x16384x8x128, .f32⟩
  | .hbm, ⟨47, _⟩ => ⟨S2x16384x1024, .f32⟩
  | .hbm, ⟨48, _⟩ => ⟨S_, .f32⟩
  | .hbm, ⟨49, _⟩ => ⟨S2x16384x1024, .f32⟩
  | .hbm, ⟨50, _⟩ => ⟨S2x16384x1024, .f32⟩
  | .hbm, ⟨51, _⟩ => ⟨S2x16384x1024, .bf16⟩
  | .hbm, ⟨52, _⟩ => ⟨S2x16384x2x96, .f32⟩
  | .hbm, ⟨53, _⟩ => ⟨S_, .i32⟩
  | .hbm, ⟨54, _⟩ => ⟨S_, .f32⟩
  | .hbm, ⟨55, _⟩ => ⟨S2x16384x2x128, .f32⟩
  | .hbm, ⟨56, _⟩ => ⟨S2x16384x256, .f32⟩
  | .hbm, ⟨57, _⟩ => ⟨S2x16384x2x96, .f32⟩
  | .hbm, ⟨58, _⟩ => ⟨S_, .i32⟩
  | .hbm, ⟨59, _⟩ => ⟨S_, .f32⟩
  | .hbm, ⟨60, _⟩ => ⟨S2x16384x2x128, .f32⟩
  | .hbm, ⟨61, _⟩ => ⟨S2x16384x256, .f32⟩
  | .hbm, ⟨62, _⟩ => ⟨S2x16384x2x96, .f32⟩
  | .hbm, ⟨63, _⟩ => ⟨S_, .i32⟩
  | .hbm, ⟨64, _⟩ => ⟨S_, .f32⟩
  | .hbm, ⟨65, _⟩ => ⟨S2x16384x2x128, .f32⟩
  | .hbm, ⟨66, _⟩ => ⟨S2x16384x256, .f32⟩
  | .hbm, ⟨67, _⟩ => ⟨S_, .f32⟩
  | .hbm, ⟨68, _⟩ => ⟨S_, .f32⟩
  | .hbm, ⟨69, _⟩ => ⟨S2x16384x256, .i1⟩
  | .hbm, ⟨70, _⟩ => ⟨S2x16384x256, .f32⟩
  | .hbm, ⟨71, _⟩ => ⟨S2x16384x256, .f32⟩
  | .hbm, ⟨72, _⟩ => ⟨S2x16384x256, .bf16⟩
  | .hbm, ⟨73, _⟩ => ⟨S2x16384x2x96, .f32⟩
  | .hbm, ⟨74, _⟩ => ⟨S_, .i32⟩
  | .hbm, ⟨75, _⟩ => ⟨S_, .f32⟩
  | .hbm, ⟨76, _⟩ => ⟨S2x16384x2x128, .f32⟩
  | .hbm, ⟨77, _⟩ => ⟨S2x16384x256, .f32⟩
  | .hbm, ⟨78, _⟩ => ⟨S2x16384x256, .bf16⟩
  | .hbm, ⟨79, _⟩ => ⟨S2x16384x2x12, .f32⟩
  | .hbm, ⟨80, _⟩ => ⟨S_, .i32⟩
  | .hbm, ⟨81, _⟩ => ⟨S_, .f32⟩
  | .hbm, ⟨82, _⟩ => ⟨S2x16384x2x128, .f32⟩
  | .hbm, ⟨83, _⟩ => ⟨S2x16384x256, .f32⟩
  | .hbm, ⟨84, _⟩ => ⟨S2x16384x256, .f32⟩
  | .hbm, ⟨85, _⟩ => ⟨S2x16384x256, .f32⟩
  | .hbm, ⟨86, _⟩ => ⟨S_, .f32⟩
  | .hbm, ⟨87, _⟩ => ⟨S2x16384x256, .f32⟩
  | .hbm, ⟨88, _⟩ => ⟨S2x16384x256, .f32⟩
  | .hbm, ⟨89, _⟩ => ⟨S_, .f32⟩
  | .hbm, ⟨90, _⟩ => ⟨S2x16384x256, .f32⟩
  | .hbm, ⟨91, _⟩ => ⟨S2x16384x256, .f32⟩
  | .hbm, ⟨92, _⟩ => ⟨S2x256x16384, .f32⟩
  | .hbm, ⟨93, _⟩ => ⟨S2x16384x2x96, .f32⟩
  | .hbm, ⟨94, _⟩ => ⟨S_, .i32⟩
  | .hbm, ⟨95, _⟩ => ⟨S_, .f32⟩
  | .hbm, ⟨96, _⟩ => ⟨S2x16384x2x128, .f32⟩
  | .hbm, ⟨97, _⟩ => ⟨S2x16384x256, .f32⟩
  | .hbm, ⟨98, _⟩ => ⟨S2x256x16384, .f32⟩
  | .hbm, ⟨99, _⟩ => ⟨S_, .f32⟩
  | .hbm, ⟨100, _⟩ => ⟨S_, .f32⟩
  | .hbm, ⟨101, _⟩ => ⟨S2x256x16384, .i1⟩
  | .hbm, ⟨102, _⟩ => ⟨S2x256x16384, .f32⟩
  | .hbm, ⟨103, _⟩ => ⟨S2x256x16384, .f32⟩
  | .hbm, ⟨104, _⟩ => ⟨S2x256x16384, .bf16⟩
  | .hbm, ⟨105, _⟩ => ⟨S2x16384x2x96, .f32⟩
  | .hbm, ⟨106, _⟩ => ⟨S_, .i32⟩
  | .hbm, ⟨107, _⟩ => ⟨S_, .f32⟩
  | .hbm, ⟨108, _⟩ => ⟨S2x16384x2x128, .f32⟩
  | .hbm, ⟨109, _⟩ => ⟨S2x16384x256, .f32⟩
  | .hbm, ⟨110, _⟩ => ⟨S2x256x16384, .f32⟩
  | .hbm, ⟨111, _⟩ => ⟨S_, .f32⟩
  | .hbm, ⟨112, _⟩ => ⟨S_, .f32⟩
  | .hbm, ⟨113, _⟩ => ⟨S2x256x16384, .i1⟩
  | .hbm, ⟨114, _⟩ => ⟨S2x256x16384, .f32⟩
  | .hbm, ⟨115, _⟩ => ⟨S2x256x16384, .f32⟩
  | .hbm, ⟨116, _⟩ => ⟨S2x256x16384, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_c : Ref sig .tc := ⟨.hbm, 20, rfl⟩
abbrev main_v17 : Ref sig .tc := ⟨.hbm, 21, rfl⟩
abbrev main_v18 : Ref sig .tc := ⟨.hbm, 22, rfl⟩
abbrev main_c_0 : Ref sig .tc := ⟨.hbm, 23, rfl⟩
abbrev main_v19 : Ref sig .tc := ⟨.hbm, 24, rfl⟩
abbrev main_v20 : Ref sig .tc := ⟨.hbm, 25, rfl⟩
abbrev main_c_1 : Ref sig .tc := ⟨.hbm, 26, rfl⟩
abbrev main_v21 : Ref sig .tc := ⟨.hbm, 27, rfl⟩
abbrev main_v22 : Ref sig .tc := ⟨.hbm, 28, rfl⟩
abbrev main_c_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c_3 : Ref sig .tc := ⟨.hbm, 37, rfl⟩
abbrev main_v30 : Ref sig .tc := ⟨.hbm, 38, rfl⟩
abbrev main_v31 : Ref sig .tc := ⟨.hbm, 39, rfl⟩
abbrev main_c_4 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_c_5 : Ref sig .tc := ⟨.hbm, 44, rfl⟩
abbrev main_call0_v0 : Ref sig .tc := ⟨.hbm, 45, rfl⟩
abbrev main_v35 : Ref sig .tc := ⟨.hbm, 46, rfl⟩
abbrev main_v36 : Ref sig .tc := ⟨.hbm, 47, rfl⟩
abbrev main_cst : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_c_6 : Ref sig .tc := ⟨.hbm, 53, rfl⟩
abbrev main_call1_v0 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_7 : Ref sig .tc := ⟨.hbm, 58, rfl⟩
abbrev main_call2_v0 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_8 : Ref sig .tc := ⟨.hbm, 63, rfl⟩
abbrev main_call3_v0 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_call5_v0 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_11 : Ref sig .tc := ⟨.hbm, 80, rfl⟩
abbrev main_call6_v0 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_12 : Ref sig .tc := ⟨.hbm, 86, rfl⟩
abbrev main_v60 : Ref sig .tc := ⟨.hbm, 87, rfl⟩
abbrev main_v61 : Ref sig .tc := ⟨.hbm, 88, rfl⟩
abbrev main_cst_13 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_call7_v0 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_15 : Ref sig .tc := ⟨.hbm, 99, rfl⟩
abbrev main_call8_v0 : Ref sig .tc := ⟨.hbm, 100, rfl⟩
abbrev main_call8_v1 : Ref sig .tc := ⟨.hbm, 101, rfl⟩
abbrev main_call8_v2 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_16 : Ref sig .tc := ⟨.hbm, 106, rfl⟩
abbrev main_call9_v0 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_17 : Ref sig .tc := ⟨.hbm, 111, rfl⟩
abbrev main_call10_v0 : Ref sig .tc := ⟨.hbm, 112, rfl⟩
abbrev main_call10_v1 : Ref sig .tc := ⟨.hbm, 113, rfl⟩
abbrev main_call10_v2 : Ref sig .tc := ⟨.hbm, 114, rfl⟩
abbrev main_v75 : Ref sig .tc := ⟨.hbm, 115, rfl⟩
abbrev main_v76 : Ref sig .tc := ⟨.hbm, 116, rfl⟩

abbrev nD : Nat := 1
abbrev τ : Topo := Topo.v7x

variable {F : FTy → Type} [FloatOps F]
-- ==== Proof.SlcDefs.lean ====
module

public import proofs.«01_k».proof.Proof.Gen.KernelIdeal.Frame
public import proofs.«01_k».proof.Proof.Gen.KernelIdeal.Skeleton
public import Idealize.ShloMosaic.Lib.WholeRead
public import Idealize.ShloMosaic.Lib.LoopRemainder

@[expose] public section

set_option maxRecDepth 16384

noncomputable section

/-! # What one block of the selected-attention kernel computes

The block of one (batch, key head, query tile) as functions of the arrays its windows hold: the sweep
over the full key super-tiles (`sweep`), the last tile of the four lengths the kernel branches over
(`last2048` .. `last512`), and the gated, normalised output (`outBlk`). -/

namespace Cert.KernelIdeal.Slc

open Cert.KernelIdeal Cert.KernelIdeal.Gen
open Idealize.ShloMosaic Idealize.ShloMosaic.TcCoe

variable {F : FTy → Type} [FloatOps F] [Named F]

/-- The part of the array `X` a load of the box `B` reads. -/
def LD {s : Shape} {e : EltTy} (X : Vec F s e) (B : LoadRect s) : Vec F B.shape e := fun x => X (B.idx x)

/-- Four heads' queries, each with the block bias `w` of its rows added, one under the other. -/
def qcat (q0 q1 q2 q3 : Vec F S1x512x128 .bf16) (w : Vec F S1x1x512x128 .bf16) : FVec F S2048x128 .bf16 :=
  concatenate S2048x128 0 [
    ⟨S512x128, addf (shapeCast S512x128 q0 shapeCasts_S1x512x128_S512x128) (shapeCast S512x128 w shapeCasts_S1x1x512x128_S512x128)⟩,
    ⟨S512x128, addf (shapeCast S512x128 q1 shapeCasts_S1x512x128_S512x128) (shapeCast S512x128 w shapeCasts_S1x1x512x128_S512x128)⟩,
    ⟨S512x128, addf (shapeCast S512x128 q2 shapeCasts_S1x512x128_S512x128) (shapeCast S512x128 w shapeCasts_S1x1x512x128_S512x128)⟩,
    ⟨S512x128, addf (shapeCast S512x128 q3 shapeCasts_S1x512x128_S512x128) (shapeCast S512x128 w shapeCasts_S1x1x512x128_S512x128)⟩]
    concatenates_S512x128_S512x128_S512x128_S512x128_S2048x128_d0

/-- The query block's four heads with the block bias `w`. -/
def qBlk (X3 : Vec F S1x512x512 .bf16) (w : Vec F S1x1x512x128 .bf16) : FVec F S2048x128 .bf16 :=
  qcat (LD X3 (Rect.unit (s := S1x512x512) ![0, 0, 0] S1x512x128.size inb_S1x512x512_S1x512x128_0_0_0).toLoadRect)
    (LD X3 (Rect.unit (s := S1x512x512) ![0, 0, 128] S1x512x128.size inb_S1x512x512_S1x512x128_0_0_128).toLoadRect)
    (LD X3 (Rect.unit (s := S1x512x512) ![0, 0, 256] S1x512x128.size inb_S1x512x512_S1x512x128_0_0_256).toLoadRect)
    (LD X3 (Rect.unit (s := S1x512x512) ![0, 0, 384] S1x512x128.size inb_S1x512x512_S1x512x128_0_0_384).toLoadRect) w

/-- The accumulator over a tile's keys before its slabs are added: the old one rescaled from the maximum `m` to `m'`. -/
def rescale (m m' : FVec F S1x2048 .f32) (acc : FVec F S128x2048 .f32) : FVec F S128x2048 .f32 :=
  mulf (broadcastTo S128x2048 (exp2 (subf m m')) broadcasts_S1x2048_S128x2048) acc

/-- One slab of 256 keys added to the accumulator: its weights against its values. -/
def pvAdd (m' : FVec F S1x2048 .f32) (acc : FVec F S128x2048 .f32) (slab : Vec F S256x2048 .f32) (vt : Vec F S1x128x256 .bf16) :
    FVec F S128x2048 .f32 :=
  addf acc (matmul dot_S128x256_S256x2048_S128x2048_1_0_0_1_n_n none (shapeCast S128x256 vt shapeCasts_S1x128x256_S128x256)
    (truncf .bf16 (exp2 (subf slab (broadcastTo S256x2048 m' broadcasts_S1x2048_S256x2048))) bitsLt_bf16_f32)
    (constant S128x2048 .f32 0x00000000#32))

/-- The causal bias of a tile against itself, for the four heads: 0 at keys not after the query, the mask at others. -/
def tri : FVec F S512x2048 .f32 :=
  concatenate S512x2048 1 [
    ⟨S512x512, select (cmpi .sle (iota .tc S512x512 32 [0] iota_S512x512_d0_w32) (iota .tc S512x512 32 [1] iota_S512x512_d1_w32)) (broadcast S512x512 (Scalar.ofBits (F := F) .f32 0x00000000#32)) (broadcast S512x512 (Named.named κ "mask" 0xF149F2CA#32))⟩,
    ⟨S512x512, select (cmpi .sle (iota .tc S512x512 32 [0] iota_S512x512_d0_w32) (iota .tc S512x512 32 [1] iota_S512x512_d1_w32)) (broadcast S512x512 (Scalar.ofBits (F := F) .f32 0x00000000#32)) (broadcast S512x512 (Named.named κ "mask" 0xF149F2CA#32))⟩,
    ⟨S512x512, select (cmpi .sle (iota .tc S512x512 32 [0] iota_S512x512_d0_w32) (iota .tc S512x512 32 [1] iota_S512x512_d1_w32)) (broadcast S512x512 (Scalar.ofBits (F := F) .f32 0x00000000#32)) (broadcast S512x512 (Named.named κ "mask" 0xF149F2CA#32))⟩,
    ⟨S512x512, select (cmpi .sle (iota .tc S512x512 32 [0] iota_S512x512_d0_w32) (iota .tc S512x512 32 [1] iota_S512x512_d1_w32)) (broadcast S512x512 (Scalar.ofBits (F := F) .f32 0x00000000#32)) (broadcast S512x512 (Named.named κ "mask" 0xF149F2CA#32))⟩]
    concatenates_S512x512_S512x512_S512x512_S512x512_S512x2048_d1

/-- The scores of a tile of 2048 keys against the four heads' queries. -/
def scores2048 (kk : Vec F S1x2048x128 .bf16) (q : FVec F S2048x128 .bf16) : FVec F S2048x2048 .f32 :=
  matmul dot_S2048x128_S2048x128_S2048x2048_1_1_0_0_n_n none (shapeCast S2048x128 kk shapeCasts_S1x2048x128_S2048x128) q
    (constant S2048x2048 .f32 0x00000000#32)

/-- The largest score of each query over 2048 keys. -/
def colMax2048 (s : FVec F S2048x2048 .f32) : FVec F S1x2048 .f32 :=
  shapeCast S1x2048 (multiReduction .maximumf [0] S2048 s 0xFF800000#32 reduces_S2048x2048_S2048 (.inl rfl) rfl) shapeCasts_S2048_S1x2048

/-- The scores of a tile of 1536 keys against the four heads' queries. -/
def scores1536 (kk : Vec F S1x1536x128 .bf16) (q : FVec F S2048x128 .bf16) : FVec F S1536x2048 .f32 :=
  matmul dot_S1536x128_S2048x128_S1536x2048_1_1_0_0_n_n none (shapeCast S1536x128 kk shapeCasts_S1x1536x128_S1536x128) q
    (constant S1536x2048 .f32 0x00000000#32)

/-- The largest score of each query over 1536 keys. -/
def colMax1536 (s : FVec F S1536x2048 .f32) : FVec F S1x2048 .f32 :=
  shapeCast S1x2048 (multiReduction .maximumf [0] S2048 s 0xFF800000#32 reduces_S1536x2048_S2048 (.inl rfl) rfl) shapeCasts_S2048_S1x2048

/-- The scores of a tile of 1024 keys against the four heads' queries. -/
def scores1024 (kk : Vec F S1x1024x128 .bf16) (q : FVec F S2048x128 .bf16) : FVec F S1024x2048 .f32 :=
  matmul dot_S1024x128_S2048x128_S1024x2048_1_1_0_0_n_n none (shapeCast S1024x128 kk shapeCasts_S1x1024x128_S1024x128) q
    (constant S1024x2048 .f32 0x00000000#32)

/-- The largest score of each query over 1024 keys. -/
def colMax1024 (s : FVec F S1024x2048 .f32) : FVec F S1x2048 .f32 :=
  shapeCast S1x2048 (multiReduction .maximumf [0] S2048 s 0xFF800000#32 reduces_S1024x2048_S2048 (.inl rfl) rfl) shapeCasts_S2048_S1x2048

/-- The scores of a tile of 512 keys against the four heads' queries. -/
def scores512 (kk : Vec F S1x512x128 .bf16) (q : FVec F S2048x128 .bf16) : FVec F S512x2048 .f32 :=
  matmul dot_S512x128_S2048x128_S512x2048_1_1_0_0_n_n none (shapeCast S512x128 kk shapeCasts_S1x512x128_S512x128) q
    (constant S512x2048 .f32 0x00000000#32)

/-- The largest score of each query over 512 keys. -/
def colMax512 (s : FVec F S512x2048 .f32) : FVec F S1x2048 .f32 :=
  shapeCast S1x2048 (multiReduction .maximumf [0] S2048 s 0xFF800000#32 reduces_S512x2048_S2048 (.inl rfl) rfl) shapeCasts_S2048_S1x2048

/-- The scratch array while the sweep works on one super-tile: its scores. -/
def scr2048 (s : FVec F S2048x2048 .f32) : Vec F S2048x2048 .f32 :=
  View.canon [⟨Rect.unit (s := S2048x2048) ![0, 0] S2048x2048.size inb_S2048x2048_S2048x2048_0_0, shapeCast S2048x2048 s shapeCasts_S2048x2048_S2048x2048⟩]

/-- The scores of the sweep's super-tile `k`. -/
def sweepScores (i : grid0.Coords) (k : Fin (k0_t1_loop i).trips) (X3 : Vec F S1x512x512 .bf16) (X4 : Vec F S1x16384x128 .bf16)
    (X6 : Vec F S1x1x512x1024 .bf16) : FVec F S2048x2048 .f32 :=
  scores2048 (LD X4 (Rect.unit (s := S1x16384x128) (k0_off1 i k) S1x2048x128.size (k0_off1_inb i k)).toLoadRect)
    (qBlk X3 (LD X6 (Rect.unit (s := S1x1x512x1024) (k0_off2 i k) S1x1x512x128.size (k0_off2_inb i k)).toLoadRect))

/-- The accumulator after the eight slabs of super-tile `k`, at the new maximum `m'`. -/
def sweepAcc (i : grid0.Coords) (k : Fin (k0_t1_loop i).trips) (X5 : Vec F S1x128x16384 .bf16) (m' : FVec F S1x2048 .f32)
    (sc : Vec F S2048x2048 .f32) (acc : FVec F S128x2048 .f32) : FVec F S128x2048 .f32 :=
  pvAdd m' (pvAdd m' (pvAdd m' (pvAdd m' (pvAdd m' (pvAdd m' (pvAdd m' (pvAdd m' (acc)
      (LD sc (Rect.unit (s := S2048x2048) ![0, 0] S256x2048.size inb_S2048x2048_S256x2048_0_0).toLoadRect)
      (LD X5 (Rect.unit (s := S1x128x16384) (k0_off3 i k 0#32) S1x128x256.size (k0_off3_inb i k 0)).toLoadRect))
      (LD sc (Rect.unit (s := S2048x2048) ![256, 0] S256x2048.size inb_S2048x2048_S256x2048_256_0).toLoadRect)
      (LD X5 (Rect.unit (s := S1x128x16384) (k0_off3 i k 256#32) S1x128x256.size (k0_off3_inb i k 1)).toLoadRect))
      (LD sc (Rect.unit (s := S2048x2048) ![512, 0] S256x2048.size inb_S2048x2048_S256x2048_512_0).toLoadRect)
      (LD X5 (Rect.unit (s := S1x128x16384) (k0_off3 i k 512#32) S1x128x256.size (k0_off3_inb i k 2)).toLoadRect))
      (LD sc (Rect.unit (s := S2048x2048) ![768, 0] S256x2048.size inb_S2048x2048_S256x2048_768_0).toLoadRect)
      (LD X5 (Rect.unit (s := S1x128x16384) (k0_off3 i k 768#32) S1x128x256.size (k0_off3_inb i k 3)).toLoadRect))
      (LD sc (Rect.unit (s := S2048x2048) ![1024, 0] S256x2048.size inb_S2048x2048_S256x2048_1024_0).toLoadRect)
      (LD X5 (Rect.unit (s := S1x128x16384) (k0_off3 i k 1024#32) S1x128x256.size (k0_off3_inb i k 4)).toLoadRect))
      (LD sc (Rect.unit (s := S2048x2048) ![1280, 0] S256x2048.size inb_S2048x2048_S256x2048_1280_0).toLoadRect)
      (LD X5 (Rect.unit (s := S1x128x16384) (k0_off3 i k 1280#32) S1x128x256.size (k0_off3_inb i k 5)).toLoadRect))
      (LD sc (Rect.unit (s := S2048x2048) ![1536, 0] S256x2048.size inb_S2048x2048_S256x2048_1536_0).toLoadRect)
      (LD X5 (Rect.unit (s := S1x128x16384) (k0_off3 i k 1536#32) S1x128x256.size (k0_off3_inb i k 6)).toLoadRect))
      (LD sc (Rect.unit (s := S2048x2048) ![1792, 0] S256x2048.size inb_S2048x2048_S256x2048_1792_0).toLoadRect)
      (LD X5 (Rect.unit (s := S1x128x16384) (k0_off3 i k 1792#32) S1x128x256.size (k0_off3_inb i k 7)).toLoadRect)

/-- One super-tile of the sweep: the maximum and the accumulator brought up to date. -/
def sweep1 (i : grid0.Coords) (X3 : Vec F S1x512x512 .bf16) (X4 : Vec F S1x16384x128 .bf16) (X5 : Vec F S1x128x16384 .bf16)
    (X6 : Vec F S1x1x512x1024 .bf16) (k : Fin (k0_t1_loop i).trips) (st : FVec F S1x2048 .f32 × FVec F S128x2048 .f32) :
    FVec F S1x2048 .f32 × FVec F S128x2048 .f32 :=
  (maximumf st.1 (colMax2048 (sweepScores i k X3 X4 X6)),
    sweepAcc i k X5 (maximumf st.1 (colMax2048 (sweepScores i k X3 X4 X6))) (scr2048 (sweepScores i k X3 X4 X6))
      (rescale st.1 (maximumf st.1 (colMax2048 (sweepScores i k X3 X4 X6))) st.2))

/-- The maximum and the accumulator before super-tile `k` of the sweep. -/
def sweep (i : grid0.Coords) (X3 : Vec F S1x512x512 .bf16) (X4 : Vec F S1x16384x128 .bf16) (X5 : Vec F S1x128x16384 .bf16)
    (X6 : Vec F S1x1x512x1024 .bf16) : ℕ → FVec F S1x2048 .f32 × FVec F S128x2048 .f32
  | 0 => (k0_pay77, k0_pay78 (Scalar.ofBits .f32 0x00000000#32))
  | k + 1 => if h : k < (k0_t1_loop i).trips then sweep1 i X3 X4 X5 X6 ⟨k, h⟩ (sweep i X3 X4 X5 X6 k) else sweep i X3 X4 X5 X6 k

/-- The scores of a last tile of 2048 keys: the query tile's own 512 rows, with the causal bias. -/
def own2048 (s : FVec F S2048x2048 .f32) : FVec F S512x2048 .f32 :=
  addf (extractStridedSlice S512x2048 ![1536, 0] s slices_S2048x2048_o1536_0_S512x2048) tri

/-- and the rows before them. -/
def bef2048 (s : FVec F S2048x2048 .f32) : FVec F S1536x2048 .f32 :=
  extractStridedSlice S1536x2048 ![0, 0] s slices_S2048x2048_o0_0_S1536x2048

/-- The scratch array during a last tile of 2048 keys. -/
def scrL2048 (s : FVec F S2048x2048 .f32) : Vec F S2048x2048 .f32 :=
  View.canon [⟨Rect.unit (s := S2048x2048) ![0, 0] S1536x2048.size inb_S2048x2048_S1536x2048_0_0, shapeCast S1536x2048 (bef2048 s) shapeCasts_S1536x2048_S1536x2048⟩,
    ⟨Rect.unit (s := S2048x2048) ![1536, 0] S512x2048.size inb_S2048x2048_S512x2048_1536_0, shapeCast S512x2048 (own2048 s) shapeCasts_S512x2048_S512x2048⟩]

/-- The maximum after a last tile of 2048 keys. -/
def maxL2048 (m : FVec F S1x2048 .f32) (s : FVec F S2048x2048 .f32) : FVec F S1x2048 .f32 :=
  maximumf (maximumf m (colMax512 (own2048 s))) (colMax1536 (bef2048 s))

/-- The scores of the last tile of 2048 keys. -/
def lastScores2048 (i : grid0.Coords) (h1 : k0_cond1 i = 1#1) (h2 : k0_cond2 i = 1#1) (h3 : k0_cond3 i = 1#1) (X3 : Vec F S1x512x512 .bf16) (X4 : Vec F S1x16384x128 .bf16)
    (X6 : Vec F S1x1x512x1024 .bf16) : FVec F S2048x2048 .f32 :=
  scores2048 (LD X4 (Rect.unit (s := S1x16384x128) (k0_off7 i) S1x2048x128.size (k0_off7_inb i h1 h2 h3)).toLoadRect)
    (qBlk X3 (LD X6 (Rect.unit (s := S1x1x512x1024) (k0_off8 i) S1x1x512x128.size (k0_off8_inb i h1 h2 h3)).toLoadRect))

/-- The accumulator after the 8 slabs of a last tile of 2048 keys, at the maximum `m'`. -/
def lastAcc2048 (i : grid0.Coords) (h1 : k0_cond1 i = 1#1) (h2 : k0_cond2 i = 1#1) (h3 : k0_cond3 i = 1#1) (X5 : Vec F S1x128x16384 .bf16) (m' : FVec F S1x2048 .f32)
    (sc : Vec F S2048x2048 .f32) (acc : FVec F S128x2048 .f32) : FVec F S128x2048 .f32 :=
  pvAdd m' (pvAdd m' (pvAdd m' (pvAdd m' (pvAdd m' (pvAdd m' (pvAdd m' (pvAdd m' (acc)
      (LD sc (Rect.unit (s := S2048x2048) ![0, 0] S256x2048.size inb_S2048x2048_S256x2048_0_0).toLoadRect)
      (LD X5 (Rect.unit (s := S1x128x16384) (k0_off9 i 0#32) S1x128x256.size (k0_off9_inb i h1 h2 h3 0)).toLoadRect))
      (LD sc (Rect.unit (s := S2048x2048) ![256, 0] S256x2048.size inb_S2048x2048_S256x2048_256_0).toLoadRect)
      (LD X5 (Rect.unit (s := S1x128x16384) (k0_off9 i 256#32) S1x128x256.size (k0_off9_inb i h1 h2 h3 1)).toLoadRect))
      (LD sc (Rect.unit (s := S2048x2048) ![512, 0] S256x2048.size inb_S2048x2048_S256x2048_512_0).toLoadRect)
      (LD X5 (Rect.unit (s := S1x128x16384) (k0_off9 i 512#32) S1x128x256.size (k0_off9_inb i h1 h2 h3 2)).toLoadRect))
      (LD sc (Rect.unit (s := S2048x2048) ![768, 0] S256x2048.size inb_S2048x2048_S256x2048_768_0).toLoadRect)
      (LD X5 (Rect.unit (s := S1x128x16384) (k0_off9 i 768#32) S1x128x256.size (k0_off9_inb i h1 h2 h3 3)).toLoadRect))
      (LD sc (Rect.unit (s := S2048x2048) ![1024, 0] S256x2048.size inb_S2048x2048_S256x2048_1024_0).toLoadRect)
      (LD X5 (Rect.unit (s := S1x128x16384) (k0_off9 i 1024#32) S1x128x256.size (k0_off9_inb i h1 h2 h3 4)).toLoadRect))
      (LD sc (Rect.unit (s := S2048x2048) ![1280, 0] S256x2048.size inb_S2048x2048_S256x2048_1280_0).toLoadRect)
      (LD X5 (Rect.unit (s := S1x128x16384) (k0_off9 i 1280#32) S1x128x256.size (k0_off9_inb i h1 h2 h3 5)).toLoadRect))
      (LD sc (Rect.unit (s := S2048x2048) ![1536, 0] S256x2048.size inb_S2048x2048_S256x2048_1536_0).toLoadRect)
      (LD X5 (Rect.unit (s := S1x128x16384) (k0_off9 i 1536#32) S1x128x256.size (k0_off9_inb i h1 h2 h3 6)).toLoadRect))
      (LD sc (Rect.unit (s := S2048x2048) ![1792, 0] S256x2048.size inb_S2048x2048_S256x2048_1792_0).toLoadRect)
      (LD X5 (Rect.unit (s := S1x128x16384) (k0_off9 i 1792#32) S1x128x256.size (k0_off9_inb i h1 h2 h3 7)).toLoadRect)

/-- The accumulator after a last tile of 2048 keys. -/
def last2048 (i : grid0.Coords) (h1 : k0_cond1 i = 1#1) (h2 : k0_cond2 i = 1#1) (h3 : k0_cond3 i = 1#1) (X3 : Vec F S1x512x512 .bf16) (X4 : Vec F S1x16384x128 .bf16) (X5 : Vec F S1x128x16384 .bf16)
    (X6 : Vec F S1x1x512x1024 .bf16) (st : FVec F S1x2048 .f32 × FVec F S128x2048 .f32) : FVec F S128x2048 .f32 :=
  lastAcc2048 i h1 h2 h3 X5 (maxL2048 st.1 (lastScores2048 i h1 h2 h3 X3 X4 X6)) (scrL2048 (lastScores2048 i h1 h2 h3 X3 X4 X6))
    (rescale st.1 (maxL2048 st.1 (lastScores2048 i h1 h2 h3 X3 X4 X6)) st.2)

/-- The scores of a last tile of 1536 keys: the query tile's own 512 rows, with the causal bias. -/
def own1536 (s : FVec F S1536x2048 .f32) : FVec F S512x2048 .f32 :=
  addf (extractStridedSlice S512x2048 ![1024, 0] s slices_S1536x2048_o1024_0_S512x2048) tri

/-- and the rows before them. -/
def bef1536 (s : FVec F S1536x2048 .f32) : FVec F S1024x2048 .f32 :=
  extractStridedSlice S1024x2048 ![0, 0] s slices_S1536x2048_o0_0_S1024x2048

/-- The scratch array during a last tile of 1536 keys. -/
def scrL1536 (s : FVec F S1536x2048 .f32) : Vec F S2048x2048 .f32 :=
  View.canon [⟨Rect.unit (s := S2048x2048) ![0, 0] S1024x2048.size inb_S2048x2048_S1024x2048_0_0, shapeCast S1024x2048 (bef1536 s) shapeCasts_S1024x2048_S1024x2048⟩,
    ⟨Rect.unit (s := S2048x2048) ![1024, 0] S512x2048.size inb_S2048x2048_S512x2048_1024_0, shapeCast S512x2048 (own1536 s) shapeCasts_S512x2048_S512x2048⟩]

/-- The maximum after a last tile of 1536 keys. -/
def maxL1536 (m : FVec F S1x2048 .f32) (s : FVec F S1536x2048 .f32) : FVec F S1x2048 .f32 :=
  maximumf (maximumf m (colMax512 (own1536 s))) (colMax1024 (bef1536 s))

/-- The scores of the last tile of 1536 keys. -/
def lastScores1536 (i : grid0.Coords) (h1 : k0_cond1 i = 1#1) (h2 : k0_cond2 i = 1#1) (h3 : ¬(k0_cond3 i = 1#1)) (X3 : Vec F S1x512x512 .bf16) (X4 : Vec F S1x16384x128 .bf16)
    (X6 : Vec F S1x1x512x1024 .bf16) : FVec F S1536x2048 .f32 :=
  scores1536 (LD X4 (Rect.unit (s := S1x16384x128) (k0_off10 i) S1x1536x128.size (k0_off10_inb i h1 h2 h3)).toLoadRect)
    (qBlk X3 (LD X6 (Rect.unit (s := S1x1x512x1024) (k0_off11 i) S1x1x512x128.size (k0_off11_inb i h1 h2 h3)).toLoadRect))

/-- The accumulator after the 6 slabs of a last tile of 1536 keys, at the maximum `m'`. -/
def lastAcc1536 (i : grid0.Coords) (h1 : k0_cond1 i = 1#1) (h2 : k0_cond2 i = 1#1) (h3 : ¬(k0_cond3 i = 1#1)) (X5 : Vec F S1x128x16384 .bf16) (m' : FVec F S1x2048 .f32)
    (sc : Vec F S2048x2048 .f32) (acc : FVec F S128x2048 .f32) : FVec F S128x2048 .f32 :=
  pvAdd m' (pvAdd m' (pvAdd m' (pvAdd m' (pvAdd m' (pvAdd m' (acc)
      (LD sc (Rect.unit (s := S2048x2048) ![0, 0] S256x2048.size inb_S2048x2048_S256x2048_0_0).toLoadRect)
      (LD X5 (Rect.unit (s := S1x128x16384) (k0_off12 i 0#32) S1x128x256.size (k0_off12_inb i h1 h2 h3 0)).toLoadRect))
      (LD sc (Rect.unit (s := S2048x2048) ![256, 0] S256x2048.size inb_S2048x2048_S256x2048_256_0).toLoadRect)
      (LD X5 (Rect.unit (s := S1x128x16384) (k0_off12 i 256#32) S1x128x256.size (k0_off12_inb i h1 h2 h3 1)).toLoadRect))
      (LD sc (Rect.unit (s := S2048x2048) ![512, 0] S256x2048.size inb_S2048x2048_S256x2048_512_0).toLoadRect)
      (LD X5 (Rect.unit (s := S1x128x16384) (k0_off12 i 512#32) S1x128x256.size (k0_off12_inb i h1 h2 h3 2)).toLoadRect))
      (LD sc (Rect.unit (s := S2048x2048) ![768, 0] S256x2048.size inb_S2048x2048_S256x2048_768_0).toLoadRect)
      (LD X5 (Rect.unit (s := S1x128x16384) (k0_off12 i 768#32) S1x128x256.size (k0_off12_inb i h1 h2 h3 3)).toLoadRect))
      (LD sc (Rect.unit (s := S2048x2048) ![1024, 0] S256x2048.size inb_S2048x2048_S256x2048_1024_0).toLoadRect)
      (LD X5 (Rect.unit (s := S1x128x16384) (k0_off12 i 1024#32) S1x128x256.size (k0_off12_inb i h1 h2 h3 4)).toLoadRect))
      (LD sc (Rect.unit (s := S2048x2048) ![1280, 0] S256x2048.size inb_S2048x2048_S256x2048_1280_0).toLoadRect)
      (LD X5 (Rect.unit (s := S1x128x16384) (k0_off12 i 1280#32) S1x128x256.size (k0_off12_inb i h1 h2 h3 5)).toLoadRect)

/-- The accumulator after a last tile of 1536 keys. -/
def last1536 (i : grid0.Coords) (h1 : k0_cond1 i = 1#1) (h2 : k0_cond2 i = 1#1) (h3 : ¬(k0_cond3 i = 1#1)) (X3 : Vec F S1x512x512 .bf16) (X4 : Vec F S1x16384x128 .bf16) (X5 : Vec F S1x128x16384 .bf16)
    (X6 : Vec F S1x1x512x1024 .bf16) (st : FVec F S1x2048 .f32 × FVec F S128x2048 .f32) : FVec F S128x2048 .f32 :=
  lastAcc1536 i h1 h2 h3 X5 (maxL1536 st.1 (lastScores1536 i h1 h2 h3 X3 X4 X6)) (scrL1536 (lastScores1536 i h1 h2 h3 X3 X4 X6))
    (rescale st.1 (maxL1536 st.1 (lastScores1536 i h1 h2 h3 X3 X4 X6)) st.2)

/-- The scores of a last tile of 1024 keys: the query tile's own 512 rows, with the causal bias. -/
def own1024 (s : FVec F S1024x2048 .f32) : FVec F S512x2048 .f32 :=
  addf (extractStridedSlice S512x2048 ![512, 0] s slices_S1024x2048_o512_0_S512x2048) tri

/-- and the rows before them. -/
def bef1024 (s : FVec F S1024x2048 .f32) : FVec F S512x2048 .f32 :=
  extractStridedSlice S512x2048 ![0, 0] s slices_S1024x2048_o0_0_S512x2048

/-- The scratch array during a last tile of 1024 keys. -/
def scrL1024 (s : FVec F S1024x2048 .f32) : Vec F S2048x2048 .f32 :=
  View.canon [⟨Rect.unit (s := S2048x2048) ![0, 0] S512x2048.size inb_S2048x2048_S512x2048_0_0, shapeCast S512x2048 (bef1024 s) shapeCasts_S512x2048_S512x2048⟩,
    ⟨Rect.unit (s := S2048x2048) ![512, 0] S512x2048.size inb_S2048x2048_S512x2048_512_0, shapeCast S512x2048 (own1024 s) shapeCasts_S512x2048_S512x2048⟩]

/-- The maximum after a last tile of 1024 keys. -/
def maxL1024 (m : FVec F S1x2048 .f32) (s : FVec F S1024x2048 .f32) : FVec F S1x2048 .f32 :=
  maximumf (maximumf m (colMax512 (own1024 s))) (colMax512 (bef1024 s))

/-- The scores of the last tile of 1024 keys. -/
def lastScores1024 (i : grid0.Coords) (h1 : k0_cond1 i = 1#1) (h2 : ¬(k0_cond2 i = 1#1)) (X3 : Vec F S1x512x512 .bf16) (X4 : Vec F S1x16384x128 .bf16)
    (X6 : Vec F S1x1x512x1024 .bf16) : FVec F S1024x2048 .f32 :=
  scores1024 (LD X4 (Rect.unit (s := S1x16384x128) (k0_off13 i) S1x1024x128.size (k0_off13_inb i h1 h2)).toLoadRect)
    (qBlk X3 (LD X6 (Rect.unit (s := S1x1x512x1024) (k0_off14 i) S1x1x512x128.size (k0_off14_inb i h1 h2)).toLoadRect))

/-- The accumulator after the 4 slabs of a last tile of 1024 keys, at the maximum `m'`. -/
def lastAcc1024 (i : grid0.Coords) (h1 : k0_cond1 i = 1#1) (h2 : ¬(k0_cond2 i = 1#1)) (X5 : Vec F S1x128x16384 .bf16) (m' : FVec F S1x2048 .f32)
    (sc : Vec F S2048x2048 .f32) (acc : FVec F S128x2048 .f32) : FVec F S128x2048 .f32 :=
  pvAdd m' (pvAdd m' (pvAdd m' (pvAdd m' (acc)
      (LD sc (Rect.unit (s := S2048x2048) ![0, 0] S256x2048.size inb_S2048x2048_S256x2048_0_0).toLoadRect)
      (LD X5 (Rect.unit (s := S1x128x16384) (k0_off15 i 0#32) S1x128x256.size (k0_off15_inb i h1 h2 0)).toLoadRect))
      (LD sc (Rect.unit (s := S2048x2048) ![256, 0] S256x2048.size inb_S2048x2048_S256x2048_256_0).toLoadRect)
      (LD X5 (Rect.unit (s := S1x128x16384) (k0_off15 i 256#32) S1x128x256.size (k0_off15_inb i h1 h2 1)).toLoadRect))
      (LD sc (Rect.unit (s := S2048x2048) ![512, 0] S256x2048.size inb_S2048x2048_S256x2048_512_0).toLoadRect)
      (LD X5 (Rect.unit (s := S1x128x16384) (k0_off15 i 512#32) S1x128x256.size (k0_off15_inb i h1 h2 2)).toLoadRect))
      (LD sc (Rect.unit (s := S2048x2048) ![768, 0] S256x2048.size inb_S2048x2048_S256x2048_768_0).toLoadRect)
      (LD X5 (Rect.unit (s := S1x128x16384) (k0_off15 i 768#32) S1x128x256.size (k0_off15_inb i h1 h2 3)).toLoadRect)

/-- The accumulator after a last tile of 1024 keys. -/
def last1024 (i : grid0.Coords) (h1 : k0_cond1 i = 1#1) (h2 : ¬(k0_cond2 i = 1#1)) (X3 : Vec F S1x512x512 .bf16) (X4 : Vec F S1x16384x128 .bf16) (X5 : Vec F S1x128x16384 .bf16)
    (X6 : Vec F S1x1x512x1024 .bf16) (st : FVec F S1x2048 .f32 × FVec F S128x2048 .f32) : FVec F S128x2048 .f32 :=
  lastAcc1024 i h1 h2 X5 (maxL1024 st.1 (lastScores1024 i h1 h2 X3 X4 X6)) (scrL1024 (lastScores1024 i h1 h2 X3 X4 X6))
    (rescale st.1 (maxL1024 st.1 (lastScores1024 i h1 h2 X3 X4 X6)) st.2)

/-- The scores of a last tile that is the query tile alone, with the causal bias. -/
def own512 (s : FVec F S512x2048 .f32) : FVec F S512x2048 .f32 :=
  addf s tri

/-- The scratch array during a last tile of 512 keys. -/
def scrL512 (s : FVec F S512x2048 .f32) : Vec F S2048x2048 .f32 :=
  View.canon [⟨Rect.unit (s := S2048x2048) ![0, 0] S512x2048.size inb_S2048x2048_S512x2048_0_0, shapeCast S512x2048 (own512 s) shapeCasts_S512x2048_S512x2048⟩]

/-- The maximum after a last tile of 512 keys. -/
def maxL512 (m : FVec F S1x2048 .f32) (s : FVec F S512x2048 .f32) : FVec F S1x2048 .f32 :=
  maximumf m (colMax512 (own512 s))

/-- The scores of the last tile of 512 keys. -/
def lastScores512 (i : grid0.Coords) (h1 : ¬(k0_cond1 i = 1#1)) (X3 : Vec F S1x512x512 .bf16) (X4 : Vec F S1x16384x128 .bf16)
    (X6 : Vec F S1x1x512x1024 .bf16) : FVec F S512x2048 .f32 :=
  scores512 (LD X4 (Rect.unit (s := S1x16384x128) (k0_off16 i) S1x512x128.size (k0_off16_inb i h1)).toLoadRect)
    (qBlk X3 (LD X6 (Rect.unit (s := S1x1x512x1024) (k0_off17 i) S1x1x512x128.size (k0_off17_inb i h1)).toLoadRect))

/-- The accumulator after the 2 slabs of a last tile of 512 keys, at the maximum `m'`. -/
def lastAcc512 (i : grid0.Coords) (h1 : ¬(k0_cond1 i = 1#1)) (X5 : Vec F S1x128x16384 .bf16) (m' : FVec F S1x2048 .f32)
    (sc : Vec F S2048x2048 .f32) (acc : FVec F S128x2048 .f32) : FVec F S128x2048 .f32 :=
  pvAdd m' (pvAdd m' (acc)
      (LD sc (Rect.unit (s := S2048x2048) ![0, 0] S256x2048.size inb_S2048x2048_S256x2048_0_0).toLoadRect)
      (LD X5 (Rect.unit (s := S1x128x16384) (k0_off18 i 0#32) S1x128x256.size (k0_off18_inb i h1 0)).toLoadRect))
      (LD sc (Rect.unit (s := S2048x2048) ![256, 0] S256x2048.size inb_S2048x2048_S256x2048_256_0).toLoadRect)
      (LD X5 (Rect.unit (s := S1x128x16384) (k0_off18 i 256#32) S1x128x256.size (k0_off18_inb i h1 1)).toLoadRect)

/-- The accumulator after a last tile of 512 keys. -/
def last512 (i : grid0.Coords) (h1 : ¬(k0_cond1 i = 1#1)) (X3 : Vec F S1x512x512 .bf16) (X4 : Vec F S1x16384x128 .bf16) (X5 : Vec F S1x128x16384 .bf16)
    (X6 : Vec F S1x1x512x1024 .bf16) (st : FVec F S1x2048 .f32 × FVec F S128x2048 .f32) : FVec F S128x2048 .f32 :=
  lastAcc512 i h1 X5 (maxL512 st.1 (lastScores512 i h1 X3 X4 X6)) (scrL512 (lastScores512 i h1 X3 X4 X6))
    (rescale st.1 (maxL512 st.1 (lastScores512 i h1 X3 X4 X6)) st.2)

/-- The accumulator after the last tile, of whichever length. -/
def last (i : grid0.Coords) (X3 : Vec F S1x512x512 .bf16) (X4 : Vec F S1x16384x128 .bf16) (X5 : Vec F S1x128x16384 .bf16)
    (X6 : Vec F S1x1x512x1024 .bf16) (st : FVec F S1x2048 .f32 × FVec F S128x2048 .f32) : FVec F S128x2048 .f32 :=
  if h1 : k0_cond1 i = 1#1 then
    if h2 : k0_cond2 i = 1#1 then
      if h3 : k0_cond3 i = 1#1 then last2048 i h1 h2 h3 X3 X4 X5 X6 st else last1536 i h1 h2 h3 X3 X4 X5 X6 st
    else last1024 i h1 h2 X3 X4 X5 X6 st
  else last512 i h1 X3 X4 X5 X6 st

/-- The four heads' outputs side by side: the accumulator over the normaliser (its row 96), times the gates. -/
def gated (X7 : Vec F S1x128x512 .f32) (acc : FVec F S128x2048 .f32) : FVec F S128x2048 .bf16 :=
  k0_pay85 acc (LD X7 (Rect.unit (s := S1x128x512) ![0, 1, 0] S1x1x512.size inb_S1x128x512_S1x1x512_0_1_0).toLoadRect) (LD X7 (Rect.unit (s := S1x128x512) ![0, 4, 0] S1x1x512.size inb_S1x128x512_S1x1x512_0_4_0).toLoadRect) (LD X7 (Rect.unit (s := S1x128x512) ![0, 7, 0] S1x1x512.size inb_S1x128x512_S1x1x512_0_7_0).toLoadRect) (LD X7 (Rect.unit (s := S1x128x512) ![0, 10, 0] S1x1x512.size inb_S1x128x512_S1x1x512_0_10_0).toLoadRect)

/-- The output block: head by head. -/
def outBlk (X7 : Vec F S1x128x512 .f32) (acc : FVec F S128x2048 .f32) : Vec F S1x4x128x512 .bf16 :=
  View.canon [⟨Rect.unit (s := S1x4x128x512) ![0, 3, 0, 0] S1x1x128x512.size inb_S1x4x128x512_S1x1x128x512_0_3_0_0, k0_pay3 (gated X7 acc)⟩,
    ⟨Rect.unit (s := S1x4x128x512) ![0, 2, 0, 0] S1x1x128x512.size inb_S1x4x128x512_S1x1x128x512_0_2_0_0, k0_pay2 (gated X7 acc)⟩,
    ⟨Rect.unit (s := S1x4x128x512) ![0, 1, 0, 0] S1x1x128x512.size inb_S1x4x128x512_S1x1x128x512_0_1_0_0, k0_pay1 (k0_pay87 acc (LD X7 (Rect.unit (s := S1x128x512) ![0, 1, 0] S1x1x512.size inb_S1x128x512_S1x1x512_0_1_0).toLoadRect) (LD X7 (Rect.unit (s := S1x128x512) ![0, 4, 0] S1x1x512.size inb_S1x128x512_S1x1x512_0_4_0).toLoadRect) (LD X7 (Rect.unit (s := S1x128x512) ![0, 7, 0] S1x1x512.size inb_S1x128x512_S1x1x512_0_7_0).toLoadRect) (LD X7 (Rect.unit (s := S1x128x512) ![0, 10, 0] S1x1x512.size inb_S1x128x512_S1x1x512_0_10_0).toLoadRect))⟩,
    ⟨Rect.unit (s := S1x4x128x512) ![0, 0, 0, 0] S1x1x128x512.size inb_S1x4x128x512_S1x1x128x512_0_0_0_0, k0_pay86 acc (LD X7 (Rect.unit (s := S1x128x512) ![0, 1, 0] S1x1x512.size inb_S1x128x512_S1x1x512_0_1_0).toLoadRect) (LD X7 (Rect.unit (s := S1x128x512) ![0, 4, 0] S1x1x512.size inb_S1x128x512_S1x1x512_0_4_0).toLoadRect) (LD X7 (Rect.unit (s := S1x128x512) ![0, 7, 0] S1x1x512.size inb_S1x128x512_S1x1x512_0_7_0).toLoadRect) (LD X7 (Rect.unit (s := S1x128x512) ![0, 10, 0] S1x1x512.size inb_S1x128x512_S1x1x512_0_10_0).toLoadRect)⟩]

/-- The accumulator of a block, from the arrays its windows hold. -/
def blkAcc (i : grid0.Coords) (X3 : Vec F S1x512x512 .bf16) (X4 : Vec F S1x16384x128 .bf16) (X5 : Vec F S1x128x16384 .bf16)
    (X6 : Vec F S1x1x512x1024 .bf16) : FVec F S128x2048 .f32 :=
  last i X3 X4 X5 X6 (sweep i X3 X4 X5 X6 (k0_t1_loop i).trips)

end Cert.KernelIdeal.Slc
-- ==== Proof.SlcLoop.lean ====
module

public import proofs.«01_k».proof.Proof.SlcDefs
public import proofs.«01_k».proof.Proof.Gen.KernelIdeal.Launch

@[expose] public section

set_option maxRecDepth 16384

noncomputable section

/-! # The sweep's loop

One trip of the loop over the key super-tiles, and its invariant: before trip `k` the carried maximum and
accumulator are `sweep … k`. -/

namespace Cert.KernelIdeal.Slc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What a trip holds: the four inputs it reads at their contents, the scratch array at any. -/
abbrev TripRes (c : Dev nD) (arg3 : Memref sig .tc .vmem S1x512x512 .bf16) (harg3 : arg3.IsWhole) (arg4 : Memref sig .tc .vmem S1x16384x128 .bf16) (harg4 : arg4.IsWhole) (arg5 : Memref sig .tc .vmem S1x128x16384 .bf16) (harg5 : arg5.IsWhole) (arg6 : Memref sig .tc .vmem S1x1x512x1024 .bf16) (harg6 : arg6.IsWhole) (arg9 : Memref sig .tc .vmem S2048x2048 .f32) (X3 : Vec F S1x512x512 .bf16) (X4 : Vec F S1x16384x128 .bf16) (X5 : Vec F S1x128x16384 .bf16) (X6 : Vec F S1x1x512x1024 .bf16) (f9 : BufTy.Contents (Elt F) arg9.view.ty) : sProp 𝕄 :=
  iprop((arg3.view.loc (c : Thread nD τ) ↦[arg3.view.set]{fullShare} harg3.unread X3) ∗ (arg4.view.loc (c : Thread nD τ) ↦[arg4.view.set]{fullShare} harg4.unread X4) ∗ (arg5.view.loc (c : Thread nD τ) ↦[arg5.view.set]{fullShare} harg5.unread X5) ∗ (arg6.view.loc (c : Thread nD τ) ↦[arg6.view.set]{fullShare} harg6.unread X6) ∗ (arg9.view.loc (c : Thread nD τ) ↦[arg9.view.set]{fullShare} f9))

/-- A load of an array held at the contents that read `X` reads `X` under the load's box. -/
theorem readAt_LD {s : Shape} {e : EltTy} {arg : Memref sig .tc .vmem s e} (h : arg.IsWhole) (X : Vec F s e) (B : LoadRect s) :
    View.readAt (Elt F) arg.view B (h.unread X) = LD X B :=
  funext fun x => h.readAt_unread X B x

/-- A load covered by earlier stores reads what they wrote under the load's box. -/
theorem readCov_LD (arg9 : Memref sig .tc .vmem S2048x2048 .f32) (L : List (View.Piece (Elt F) S2048x2048 .f32)) (B : LoadRect S2048x2048) :
    arg9.view.readCov L B = LD (F := F) (View.canon L) B :=
  View.readCov_eq_canon' _ L B

set_option maxHeartbeats 1000000 in
/-- One trip of the sweep: from the state `acc` it yields `sweep1 … acc`. -/
theorem trip (𝒱 : Variants) (c : Dev nD) (bd : Option 𝒱.V) (i : grid0.Coords) (arg3 : Memref sig .tc .vmem S1x512x512 .bf16) (harg3 : arg3.IsWhole) (arg4 : Memref sig .tc .vmem S1x16384x128 .bf16) (harg4 : arg4.IsWhole) (arg5 : Memref sig .tc .vmem S1x128x16384 .bf16) (harg5 : arg5.IsWhole) (arg6 : Memref sig .tc .vmem S1x1x512x1024 .bf16) (harg6 : arg6.IsWhole) (arg7 : Memref sig .tc .vmem S1x128x512 .f32) (harg7 : arg7.IsWhole) (arg8 : Memref sig .tc .vmem S1x4x128x512 .bf16) (harg8 : arg8.IsWhole) (arg9 : Memref sig .tc .vmem S2048x2048 .f32) (harg9 : arg9.IsWhole)
    (v18 v37 : BitVec 32) (v38 : FVec F S1x2048 .f32) (cst_12 : F .f32) (X3 : Vec F S1x512x512 .bf16) (X4 : Vec F S1x16384x128 .bf16) (X5 : Vec F S1x128x16384 .bf16) (X6 : Vec F S1x1x512x1024 .bf16) (k : Fin (k0_t1_loop i).trips)
    (E : Set ℕ) (acc : FVec F S1x2048 .f32 × FVec F S128x2048 .f32) (f9 : BufTy.Contents (Elt F) arg9.view.ty) :
    TripRes (F := F) c arg3 harg3 arg4 harg4 arg5 harg5 arg6 harg6 arg9 X3 X4 X5 X6 f9
      ⊢ wp frame (wpE (defs₀ (F := F)) 𝒱 (c : Thread nD τ) bd) E (k0_t1_body (F := F) i arg3 harg3 arg4 harg4 arg5 harg5 arg6 harg6 arg7 harg7 arg8 harg8 arg9 harg9 v18 v37 v38 cst_12 k acc)
          (fun yld => iprop(⌜yld = sweep1 i X3 X4 X5 X6 k acc⌝ ∗ ∃ f9', TripRes (F := F) c arg3 harg3 arg4 harg4 arg5 harg5 arg6 harg6 arg9 X3 X4 X5 X6 f9')) := by
  unfold k0_t1_body
  iintro ⟨HR_arg3, HR_arg4, HR_arg5, HR_arg6, HW_arg9⟩
  sl_exec
  sl_step
  isplitr
  · ipureintro
    unfold sweep1 sweepAcc scr2048 sweepScores qBlk
    simp only [← readAt_LD harg3, ← readAt_LD harg4, ← readAt_LD harg5, ← readAt_LD harg6, ← readCov_LD arg9]
    rfl
  iexists _
  sl_close

end Cert.KernelIdeal.Slc
-- ==== Proof.SlcBody.lean ====
module

public import proofs.«01_k».proof.Proof.SlcLoop
public import Idealize.ShloMosaic.Lib.LoopRemainder

@[expose] public section

set_option maxRecDepth 16384

noncomputable section

/-! # The body of the selected-attention kernel at one block -/

namespace Cert.KernelIdeal.Slc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option warn.classDefReducibility false in
/-- The sweep's loop: before trip `k` it carries `sweep … k`. -/
@[sl_loop] def loopSweep (𝒱 : Variants) (c : Dev nD) (bd : Option 𝒱.V) (E : Set ℕ) (i : grid0.Coords) (arg3 : Memref sig .tc .vmem S1x512x512 .bf16) (harg3 : arg3.IsWhole) (arg4 : Memref sig .tc .vmem S1x16384x128 .bf16) (harg4 : arg4.IsWhole) (arg5 : Memref sig .tc .vmem S1x128x16384 .bf16) (harg5 : arg5.IsWhole) (arg6 : Memref sig .tc .vmem S1x1x512x1024 .bf16) (harg6 : arg6.IsWhole) (arg7 : Memref sig .tc .vmem S1x128x512 .f32) (harg7 : arg7.IsWhole) (arg8 : Memref sig .tc .vmem S1x4x128x512 .bf16) (harg8 : arg8.IsWhole) (arg9 : Memref sig .tc .vmem S2048x2048 .f32) (harg9 : arg9.IsWhole)
    (v18 v37 : BitVec 32) (X3 : Vec F S1x512x512 .bf16) (X4 : Vec F S1x16384x128 .bf16) (X5 : Vec F S1x128x16384 .bf16) (X6 : Vec F S1x1x512x1024 .bf16) :
    Idealize.ShloMosaic.LoopInv (M := 𝕄) Idealize.ShloMosaic.frame (wpE (defs₀ (F := F)) 𝒱 (c : Thread nD τ) bd) E
      (k0_t1_loop i).lb (k0_t1_loop i).ub (k0_t1_loop i).st (k0_t1_ok i) (k0_pay77 (F := F), k0_pay78 (F := F) (Scalar.ofBits .f32 0x00000000#32))
      (k0_t1_body (F := F) i arg3 harg3 arg4 harg4 arg5 harg5 arg6 harg6 arg7 harg7 arg8 harg8 arg9 harg9 v18 v37 (k0_pay77 (F := F)) (Scalar.ofBits .f32 0x00000000#32)) where
  inv k acc := iprop(⌜acc = sweep i X3 X4 X5 X6 k⌝ ∗ ∃ f9, TripRes (F := F) c arg3 harg3 arg4 harg4 arg5 harg5 arg6 harg6 arg9 X3 X4 X5 X6 f9)
  step k acc := by
    iintro ⟨%hacc, %f9, H⟩
    iapply (wp_wand_r Idealize.ShloMosaic.frame (wpE (defs₀ (F := F)) 𝒱 (c : Thread nD τ) bd) E)
    isplitl [H]
    · iapply (trip 𝒱 c bd i arg3 harg3 arg4 harg4 arg5 harg5 arg6 harg6 arg7 harg7 arg8 harg8 arg9 harg9 v18 v37 _ _ X3 X4 X5 X6 k E acc f9) $$ H
    iintro %y ⟨%hy, H⟩
    isplitr
    · ipureintro
      rw [hy, hacc]
      show _ = sweep i X3 X4 X5 X6 (k.val + 1)
      rw [sweep, dif_pos k.isLt]
    iexact H

/-- The four heads' rectangles cover the output block. -/
theorem cover8 (w0 w1 w2 w3 : Vec F S1x1x128x512 .bf16) (y : S1x4x128x512.Idx) :
    ∃ p ∈ ([⟨Rect.unit (s := S1x4x128x512) ![0, 3, 0, 0] S1x1x128x512.size inb_S1x4x128x512_S1x1x128x512_0_3_0_0, w3⟩,
      ⟨Rect.unit (s := S1x4x128x512) ![0, 2, 0, 0] S1x1x128x512.size inb_S1x4x128x512_S1x1x128x512_0_2_0_0, w2⟩,
      ⟨Rect.unit (s := S1x4x128x512) ![0, 1, 0, 0] S1x1x128x512.size inb_S1x4x128x512_S1x1x128x512_0_1_0_0, w1⟩,
      ⟨Rect.unit (s := S1x4x128x512) ![0, 0, 0, 0] S1x1x128x512.size inb_S1x4x128x512_S1x1x128x512_0_0_0_0, w0⟩] : List (View.Piece (Elt F) S1x4x128x512 .bf16)), y ∈ p.1.set := by
  have h0 := (y 0).isLt; have h1 := (y 1).isLt; have h2 := (y 2).isLt; have h3 := (y 3).isLt
  simp only [List.mem_cons, List.not_mem_nil, or_false, exists_eq_or_imp, exists_eq_left, Rect.mem_set_unit]
  have hc : (y 1).val = 3 ∨ (y 1).val = 2 ∨ (y 1).val = 1 ∨ (y 1).val = 0 := by
    change (y 1).val < 4 at h1; omega
  rcases hc with h | h | h | h
  · left; intro a; fin_cases a <;> first | (change _ ≤ (y 1).val ∧ (y 1).val < _; rw [h]; decide) | exact ⟨Nat.zero_le _, h0⟩ | exact ⟨Nat.zero_le _, h2⟩ | exact ⟨Nat.zero_le _, h3⟩
  · right; left; intro a; fin_cases a <;> first | (change _ ≤ (y 1).val ∧ (y 1).val < _; rw [h]; decide) | exact ⟨Nat.zero_le _, h0⟩ | exact ⟨Nat.zero_le _, h2⟩ | exact ⟨Nat.zero_le _, h3⟩
  · right; right; left; intro a; fin_cases a <;> first | (change _ ≤ (y 1).val ∧ (y 1).val < _; rw [h]; decide) | exact ⟨Nat.zero_le _, h0⟩ | exact ⟨Nat.zero_le _, h2⟩ | exact ⟨Nat.zero_le _, h3⟩
  · right; right; right; intro a; fin_cases a <;> first | (change _ ≤ (y 1).val ∧ (y 1).val < _; rw [h]; decide) | exact ⟨Nat.zero_le _, h0⟩ | exact ⟨Nat.zero_le _, h2⟩ | exact ⟨Nat.zero_le _, h3⟩

set_option maxHeartbeats 4000000 in
/-- The body at a block whose last tile has 2048 keys. -/
theorem run2048 (c : Dev nD) (i : grid0.Coords) (h1 : k0_cond1 i = 1#1) (h2 : k0_cond2 i = 1#1) (h3 : k0_cond3 i = 1#1) (arg3 : Memref sig .tc .vmem S1x512x512 .bf16) (harg3 : arg3.IsWhole) (arg4 : Memref sig .tc .vmem S1x16384x128 .bf16) (harg4 : arg4.IsWhole) (arg5 : Memref sig .tc .vmem S1x128x16384 .bf16) (harg5 : arg5.IsWhole) (arg6 : Memref sig .tc .vmem S1x1x512x1024 .bf16) (harg6 : arg6.IsWhole) (arg7 : Memref sig .tc .vmem S1x128x512 .f32) (harg7 : arg7.IsWhole) (arg8 : Memref sig .tc .vmem S1x4x128x512 .bf16) (harg8 : arg8.IsWhole) (arg9 : Memref sig .tc .vmem S2048x2048 .f32) (harg9 : arg9.IsWhole)
    (X3 : Vec F S1x512x512 .bf16) (X4 : Vec F S1x16384x128 .bf16) (X5 : Vec F S1x128x16384 .bf16) (X6 : Vec F S1x1x512x1024 .bf16) (X7 : Vec F S1x128x512 .f32) :
      ∀ (E : Set ℕ) (K : PUnit → sProp 𝕄),
        iprop(owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ (∃ d, owns (c : Thread nD τ) arg8 fullShare d) ∗ (∃ d, owns (c : Thread nD τ) arg9 fullShare d) ∗ (iprop(owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare (outBlk X7 (blkAcc i X3 X4 X5 X6)) ∗ (∃ d, owns (c : Thread nD τ) arg9 fullShare d)) -∗ K ⟨⟩))
          ⊢ wp frame (wpE (defs₀ (F := F)) Variants.none c none) E (cc0_slc_attn (F := F) i arg3 harg3 arg4 harg4 arg5 harg5 arg6 harg6 arg7 harg7 arg8 harg8 arg9 harg9) K := by
    intro E K
    simp only [cc0_slc_attn_eq_skeleton]; unfold cc0_slc_attn_skel
    unfold owns
    iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg3.eq_unread hf3; obtain rfl := harg4.eq_unread hf4; obtain rfl := harg5.eq_unread hf5
    obtain rfl := harg6.eq_unread hf6; obtain rfl := harg7.eq_unread hf7
    sl_exec
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; swap; · iexact H8
      ipureintro
      refine (View.read_writes_eq_canon _ _ _ (cover8 _ _ _ _)).trans ?_
      unfold outBlk gated blkAcc last
      rw [dif_pos h1, dif_pos h2, dif_pos h3]
      unfold last2048 lastAcc2048 scrL2048 lastScores2048 qBlk
      simp only [← readAt_LD harg3, ← readAt_LD harg4, ← readAt_LD harg5, ← readAt_LD harg6, ← readAt_LD harg7, ← readCov_LD arg9]
      rfl
    iexists _, _; isplitr; swap; · iexact H9
    ipureintro; rfl

set_option maxHeartbeats 4000000 in
/-- The body at a block whose last tile has 1536 keys. -/
theorem run1536 (c : Dev nD) (i : grid0.Coords) (h1 : k0_cond1 i = 1#1) (h2 : k0_cond2 i = 1#1) (h3 : ¬(k0_cond3 i = 1#1)) (arg3 : Memref sig .tc .vmem S1x512x512 .bf16) (harg3 : arg3.IsWhole) (arg4 : Memref sig .tc .vmem S1x16384x128 .bf16) (harg4 : arg4.IsWhole) (arg5 : Memref sig .tc .vmem S1x128x16384 .bf16) (harg5 : arg5.IsWhole) (arg6 : Memref sig .tc .vmem S1x1x512x1024 .bf16) (harg6 : arg6.IsWhole) (arg7 : Memref sig .tc .vmem S1x128x512 .f32) (harg7 : arg7.IsWhole) (arg8 : Memref sig .tc .vmem S1x4x128x512 .bf16) (harg8 : arg8.IsWhole) (arg9 : Memref sig .tc .vmem S2048x2048 .f32) (harg9 : arg9.IsWhole)
    (X3 : Vec F S1x512x512 .bf16) (X4 : Vec F S1x16384x128 .bf16) (X5 : Vec F S1x128x16384 .bf16) (X6 : Vec F S1x1x512x1024 .bf16) (X7 : Vec F S1x128x512 .f32) :
      ∀ (E : Set ℕ) (K : PUnit → sProp 𝕄),
        iprop(owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ (∃ d, owns (c : Thread nD τ) arg8 fullShare d) ∗ (∃ d, owns (c : Thread nD τ) arg9 fullShare d) ∗ (iprop(owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare (outBlk X7 (blkAcc i X3 X4 X5 X6)) ∗ (∃ d, owns (c : Thread nD τ) arg9 fullShare d)) -∗ K ⟨⟩))
          ⊢ wp frame (wpE (defs₀ (F := F)) Variants.none c none) E (cc0_slc_attn (F := F) i arg3 harg3 arg4 harg4 arg5 harg5 arg6 harg6 arg7 harg7 arg8 harg8 arg9 harg9) K := by
    intro E K
    simp only [cc0_slc_attn_eq_skeleton]; unfold cc0_slc_attn_skel
    unfold owns
    iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg3.eq_unread hf3; obtain rfl := harg4.eq_unread hf4; obtain rfl := harg5.eq_unread hf5
    obtain rfl := harg6.eq_unread hf6; obtain rfl := harg7.eq_unread hf7
    sl_exec
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; swap; · iexact H8
      ipureintro
      refine (View.read_writes_eq_canon _ _ _ (cover8 _ _ _ _)).trans ?_
      unfold outBlk gated blkAcc last
      rw [dif_pos h1, dif_pos h2, dif_neg h3]
      unfold last1536 lastAcc1536 scrL1536 lastScores1536 qBlk
      simp only [← readAt_LD harg3, ← readAt_LD harg4, ← readAt_LD harg5, ← readAt_LD harg6, ← readAt_LD harg7, ← readCov_LD arg9]
      rfl
    iexists _, _; isplitr; swap; · iexact H9
    ipureintro; rfl

set_option maxHeartbeats 4000000 in
/-- The body at a block whose last tile has 1024 keys. -/
theorem run1024 (c : Dev nD) (i : grid0.Coords) (h1 : k0_cond1 i = 1#1) (h2 : ¬(k0_cond2 i = 1#1)) (arg3 : Memref sig .tc .vmem S1x512x512 .bf16) (harg3 : arg3.IsWhole) (arg4 : Memref sig .tc .vmem S1x16384x128 .bf16) (harg4 : arg4.IsWhole) (arg5 : Memref sig .tc .vmem S1x128x16384 .bf16) (harg5 : arg5.IsWhole) (arg6 : Memref sig .tc .vmem S1x1x512x1024 .bf16) (harg6 : arg6.IsWhole) (arg7 : Memref sig .tc .vmem S1x128x512 .f32) (harg7 : arg7.IsWhole) (arg8 : Memref sig .tc .vmem S1x4x128x512 .bf16) (harg8 : arg8.IsWhole) (arg9 : Memref sig .tc .vmem S2048x2048 .f32) (harg9 : arg9.IsWhole)
    (X3 : Vec F S1x512x512 .bf16) (X4 : Vec F S1x16384x128 .bf16) (X5 : Vec F S1x128x16384 .bf16) (X6 : Vec F S1x1x512x1024 .bf16) (X7 : Vec F S1x128x512 .f32) :
      ∀ (E : Set ℕ) (K : PUnit → sProp 𝕄),
        iprop(owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ (∃ d, owns (c : Thread nD τ) arg8 fullShare d) ∗ (∃ d, owns (c : Thread nD τ) arg9 fullShare d) ∗ (iprop(owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare (outBlk X7 (blkAcc i X3 X4 X5 X6)) ∗ (∃ d, owns (c : Thread nD τ) arg9 fullShare d)) -∗ K ⟨⟩))
          ⊢ wp frame (wpE (defs₀ (F := F)) Variants.none c none) E (cc0_slc_attn (F := F) i arg3 harg3 arg4 harg4 arg5 harg5 arg6 harg6 arg7 harg7 arg8 harg8 arg9 harg9) K := by
    intro E K
    simp only [cc0_slc_attn_eq_skeleton]; unfold cc0_slc_attn_skel
    unfold owns
    iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg3.eq_unread hf3; obtain rfl := harg4.eq_unread hf4; obtain rfl := harg5.eq_unread hf5
    obtain rfl := harg6.eq_unread hf6; obtain rfl := harg7.eq_unread hf7
    sl_exec
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; swap; · iexact H8
      ipureintro
      refine (View.read_writes_eq_canon _ _ _ (cover8 _ _ _ _)).trans ?_
      unfold outBlk gated blkAcc last
      rw [dif_pos h1, dif_neg h2]
      unfold last1024 lastAcc1024 scrL1024 lastScores1024 qBlk
      simp only [← readAt_LD harg3, ← readAt_LD harg4, ← readAt_LD harg5, ← readAt_LD harg6, ← readAt_LD harg7, ← readCov_LD arg9]
      rfl
    iexists _, _; isplitr; swap; · iexact H9
    ipureintro; rfl

set_option maxHeartbeats 4000000 in
/-- The body at a block whose last tile has 512 keys. -/
theorem run512 (c : Dev nD) (i : grid0.Coords) (h1 : ¬(k0_cond1 i = 1#1)) (arg3 : Memref sig .tc .vmem S1x512x512 .bf16) (harg3 : arg3.IsWhole) (arg4 : Memref sig .tc .vmem S1x16384x128 .bf16) (harg4 : arg4.IsWhole) (arg5 : Memref sig .tc .vmem S1x128x16384 .bf16) (harg5 : arg5.IsWhole) (arg6 : Memref sig .tc .vmem S1x1x512x1024 .bf16) (harg6 : arg6.IsWhole) (arg7 : Memref sig .tc .vmem S1x128x512 .f32) (harg7 : arg7.IsWhole) (arg8 : Memref sig .tc .vmem S1x4x128x512 .bf16) (harg8 : arg8.IsWhole) (arg9 : Memref sig .tc .vmem S2048x2048 .f32) (harg9 : arg9.IsWhole)
    (X3 : Vec F S1x512x512 .bf16) (X4 : Vec F S1x16384x128 .bf16) (X5 : Vec F S1x128x16384 .bf16) (X6 : Vec F S1x1x512x1024 .bf16) (X7 : Vec F S1x128x512 .f32) :
      ∀ (E : Set ℕ) (K : PUnit → sProp 𝕄),
        iprop(owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ (∃ d, owns (c : Thread nD τ) arg8 fullShare d) ∗ (∃ d, owns (c : Thread nD τ) arg9 fullShare d) ∗ (iprop(owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare (outBlk X7 (blkAcc i X3 X4 X5 X6)) ∗ (∃ d, owns (c : Thread nD τ) arg9 fullShare d)) -∗ K ⟨⟩))
          ⊢ wp frame (wpE (defs₀ (F := F)) Variants.none c none) E (cc0_slc_attn (F := F) i arg3 harg3 arg4 harg4 arg5 harg5 arg6 harg6 arg7 harg7 arg8 harg8 arg9 harg9) K := by
    intro E K
    simp only [cc0_slc_attn_eq_skeleton]; unfold cc0_slc_attn_skel
    unfold owns
    iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg3.eq_unread hf3; obtain rfl := harg4.eq_unread hf4; obtain rfl := harg5.eq_unread hf5
    obtain rfl := harg6.eq_unread hf6; obtain rfl := harg7.eq_unread hf7
    sl_exec
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; swap; · iexact H8
      ipureintro
      refine (View.read_writes_eq_canon _ _ _ (cover8 _ _ _ _)).trans ?_
      unfold outBlk gated blkAcc last
      rw [dif_neg h1]
      unfold last512 lastAcc512 scrL512 lastScores512 qBlk
      simp only [← readAt_LD harg3, ← readAt_LD harg4, ← readAt_LD harg5, ← readAt_LD harg6, ← readAt_LD harg7, ← readCov_LD arg9]
      rfl
    iexists _, _; isplitr; swap; · iexact H9
    ipureintro; rfl

end Cert.KernelIdeal.Slc
-- ==== Proof.SlcRun.lean ====
module

public import proofs.«01_k».proof.Proof.SlcBody
public import proofs.«01_k».proof.Proof.Gen.KernelIdeal.Frame
public import Idealize.ShloMosaic.Lib.Claim

@[expose] public section

set_option maxRecDepth 16384

noncomputable section

/-! # The run of the selected-attention program

The body's triple at every block, the pipeline's proof data (each output block is `outBlk` of its input
blocks), and the run of the whole program from it. -/

namespace Cert.KernelIdeal.Slc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body at any block: on whole buffers, the inputs kept and the output block at `outBlk`. -/
theorem run (c : Dev nD) (i : grid0.Coords) (arg3 : Memref sig .tc .vmem S1x512x512 .bf16) (harg3 : arg3.IsWhole) (arg4 : Memref sig .tc .vmem S1x16384x128 .bf16) (harg4 : arg4.IsWhole) (arg5 : Memref sig .tc .vmem S1x128x16384 .bf16) (harg5 : arg5.IsWhole) (arg6 : Memref sig .tc .vmem S1x1x512x1024 .bf16) (harg6 : arg6.IsWhole) (arg7 : Memref sig .tc .vmem S1x128x512 .f32) (harg7 : arg7.IsWhole) (arg8 : Memref sig .tc .vmem S1x4x128x512 .bf16) (harg8 : arg8.IsWhole) (arg9 : Memref sig .tc .vmem S2048x2048 .f32) (harg9 : arg9.IsWhole)
    (X3 : Vec F S1x512x512 .bf16) (X4 : Vec F S1x16384x128 .bf16) (X5 : Vec F S1x128x16384 .bf16) (X6 : Vec F S1x1x512x1024 .bf16) (X7 : Vec F S1x128x512 .f32) (E : Set ℕ) (K : PUnit → sProp 𝕄) :
        iprop(owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ (∃ d, owns (c : Thread nD τ) arg8 fullShare d) ∗ (∃ d, owns (c : Thread nD τ) arg9 fullShare d) ∗ (iprop(owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare (outBlk X7 (blkAcc i X3 X4 X5 X6)) ∗ (∃ d, owns (c : Thread nD τ) arg9 fullShare d)) -∗ K ⟨⟩))
          ⊢ wp frame (wpE (defs₀ (F := F)) Variants.none c none) E (cc0_slc_attn (F := F) i arg3 harg3 arg4 harg4 arg5 harg5 arg6 harg6 arg7 harg7 arg8 harg8 arg9 harg9) K := by
  by_cases h1 : k0_cond1 i = 1#1
  · by_cases h2 : k0_cond2 i = 1#1
    · by_cases h3 : k0_cond3 i = 1#1
      · exact run2048 c i h1 h2 h3 arg3 harg3 arg4 harg4 arg5 harg5 arg6 harg6 arg7 harg7 arg8 harg8 arg9 harg9 X3 X4 X5 X6 X7 E K
      · exact run1536 c i h1 h2 h3 arg3 harg3 arg4 harg4 arg5 harg5 arg6 harg6 arg7 harg7 arg8 harg8 arg9 harg9 X3 X4 X5 X6 X7 E K
    · exact run1024 c i h1 h2 arg3 harg3 arg4 harg4 arg5 harg5 arg6 harg6 arg7 harg7 arg8 harg8 arg9 harg9 X3 X4 X5 X6 X7 E K
  · exact run512 c i h1 arg3 harg3 arg4 harg4 arg5 harg5 arg6 harg6 arg7 harg7 arg8 harg8 arg9 harg9 X3 X4 X5 X6 X7 E K

/-! ## The pipeline's proof data -/

abbrev ms0_0 (t : Fin cfg0.N) : Memref sig .tc .vmem S1x512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x16384x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x16384 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x512x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4x128x512 .bf16 := win0_5.stage (cfg0.slots t 5)
abbrev hs0_5 (t : Fin cfg0.N) : (ms0_5 t).IsWhole := hstage0_5 ((cfg0.slots t 5).cast nbuf0_5)
/-- The scratch array. -/
abbrev scM0 : Memref sig .tc .vmem S2048x2048 .f32 := Memref.whole cc0_scratch0

/-- The invariant hands the body its scratch array at some contents. -/
theorem PhiA0_eq (c : Dev nD) :
    (Pipeline.ΦA spec0 c : sProp 𝕄)
      = iprop(iprop((∃ d, owns (c : Thread nD τ) scM0 fullShare d)) ∗ (∃ r, prngReg c r)) := by
  unfold Pipeline.ΦA; rw [scopedRest0_eq]; simp only [scM0, owns_whole]; try rfl

/-- The output block at point `t`. -/
def oblk (c : Dev nD) (t : Fin cfg0.N) : Vec F S1x4x128x512 .bf16 :=
  outBlk (iblk m c 4 t) (blkAcc (grid0.coords t) (iblk m c 0 t) (iblk m c 1 t) (iblk m c 2 t) (iblk m c 3 t))

/-- The proof data: the arrays as the region finds them; after the body each input's buffer at its block and the
output's at `oblk`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => oblk m c t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d

theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d

theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d

theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d

theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d

theorem after0_5 (c : Dev nD) (t : Fin cfg0.N) : (dats m 0 c).after 5 t = oblk m c t := by dsimp only [dats]

/-- What the body is called with at point `t`, -/
def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t))

/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩⟩
  iapply (run c (grid0.coords t) (ms0_0 t) (hs0_0 t) (ms0_1 t) (hs0_1 t) (ms0_2 t) (hs0_2 t) (ms0_3 t) (hs0_3 t) (ms0_4 t) (hs0_4 t) (ms0_5 t) (hs0_5 t) scM0 _
    (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  iintro ⟨H0, H1, H2, H3, H4, H5, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The run: every execution ends with the region's arrays and the host buffers at the stated contents, every semaphore
counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6)) :=
  frame_of m ρ (dats m) (A_eq m) ((θ_run defs _ _).mono (fun _ h => h.1) (run_main m ρ))

/-- The frame: the argument arrays end unchanged and the semaphore counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main m ρ))

end Cert.KernelIdeal.Slc
-- ==== Proof.SlcOff.lean ====
module

public import proofs.«01_k».proof.KernelIdeal

@[expose] public section

set_option maxRecDepth 16384

/-! # Where the selected-attention kernel reads, in closed form

The trip count of the sweep, the branch over the last tile's length and the offsets of the loads, as
functions of the query tile `i 2` (512 queries) and of the super-tile `k` (2048 keys). -/

namespace Cert.KernelIdeal.Slc

open Cert.KernelIdeal
open Idealize.ShloMosaic

theorem tile_lt (i : grid0.Coords) : (i 2).val < 32 := (i 2).isLt

/-- The sweep takes one trip per full super-tile before the query tile. -/
theorem trips_eq (i : grid0.Coords) : (k0_t1_loop i).trips = (i 2).val / 4 := by
  have h := tile_lt i
  unfold k0_t1_loop Scf.Loop.trips
  revert h; generalize (i 2).val = n; revert n
  decide +kernel

theorem sweep_lt (i : grid0.Coords) (k : Fin (k0_t1_loop i).trips) : k.val < 8 := by
  have h := k.isLt; have := trips_eq i; have := tile_lt i; omega

/-- Branch condition 1 is that the query tile is not number 0 of its super-tile. -/
theorem cond1_iff (i : grid0.Coords) : k0_cond1 i = 1#1 ↔ (i 2).val % 4 ≠ 0 := by
  have h := tile_lt i
  unfold k0_cond1
  revert h; generalize (i 2).val = n; revert n
  decide +kernel

/-- Branch condition 2 is that the query tile is not number 1 of its super-tile. -/
theorem cond2_iff (i : grid0.Coords) : k0_cond2 i = 1#1 ↔ (i 2).val % 4 ≠ 1 := by
  have h := tile_lt i
  unfold k0_cond2
  revert h; generalize (i 2).val = n; revert n
  decide +kernel

/-- Branch condition 3 is that the query tile is not number 2 of its super-tile. -/
theorem cond3_iff (i : grid0.Coords) : k0_cond3 i = 1#1 ↔ (i 2).val % 4 ≠ 2 := by
  have h := tile_lt i
  unfold k0_cond3
  revert h; generalize (i 2).val = n; revert n
  decide +kernel

/-- The keys of super-tile `k`. -/
theorem off1_eq (i : grid0.Coords) (k : Fin (k0_t1_loop i).trips) : k0_off1 i k = ![0, 2048 * k.val, 0] := by
  have h := sweep_lt i k
  unfold k0_off1
  revert h; generalize k.val = n; revert n
  decide +kernel

/-- The block bias of super-tile `k`. -/
theorem off2_eq (i : grid0.Coords) (k : Fin (k0_t1_loop i).trips) : k0_off2 i k = ![0, 0, 0, 128 * k.val] := by
  have h := sweep_lt i k
  unfold k0_off2
  revert h; generalize k.val = n; revert n
  decide +kernel

/-- The values of slab `r` of super-tile `k`. -/
theorem off3_eq (i : grid0.Coords) (k : Fin (k0_t1_loop i).trips) (r : Fin 8) : k0_off3 i k (BitVec.ofNat 32 (256 * r.val)) = ![0, 0, 2048 * k.val + 256 * r.val] := by
  have h := sweep_lt i k
  unfold k0_off3
  revert h; generalize k.val = n; revert n r
  decide +kernel

/-- The keys of a last tile of 2048. -/
theorem off7_eq (i : grid0.Coords) : k0_off7 i = ![0, 2048 * ((i 2).val / 4), 0] := by
  have h := tile_lt i
  unfold k0_off7
  revert h; generalize (i 2).val = n; revert n
  decide +kernel

/-- The block bias of a last tile of 2048. -/
theorem off8_eq (i : grid0.Coords) : k0_off8 i = ![0, 0, 0, 128 * ((i 2).val / 4)] := by
  have h := tile_lt i
  unfold k0_off8
  revert h; generalize (i 2).val = n; revert n
  decide +kernel

/-- The values of slab `r` of a last tile of 2048. -/
theorem off9_eq (i : grid0.Coords) (r : Fin 8) : k0_off9 i (BitVec.ofNat 32 (256 * r.val)) = ![0, 0, 2048 * ((i 2).val / 4) + 256 * r.val] := by
  have h := tile_lt i
  unfold k0_off9
  revert h; generalize (i 2).val = n; revert n r
  decide +kernel

/-- The keys of a last tile of 1536. -/
theorem off10_eq (i : grid0.Coords) : k0_off10 i = ![0, 2048 * ((i 2).val / 4), 0] := by
  have h := tile_lt i
  unfold k0_off10
  revert h; generalize (i 2).val = n; revert n
  decide +kernel

/-- The block bias of a last tile of 1536. -/
theorem off11_eq (i : grid0.Coords) : k0_off11 i = ![0, 0, 0, 128 * ((i 2).val / 4)] := by
  have h := tile_lt i
  unfold k0_off11
  revert h; generalize (i 2).val = n; revert n
  decide +kernel

/-- The values of slab `r` of a last tile of 1536. -/
theorem off12_eq (i : grid0.Coords) (r : Fin 6) : k0_off12 i (BitVec.ofNat 32 (256 * r.val)) = ![0, 0, 2048 * ((i 2).val / 4) + 256 * r.val] := by
  have h := tile_lt i
  unfold k0_off12
  revert h; generalize (i 2).val = n; revert n r
  decide +kernel

/-- The keys of a last tile of 1024. -/
theorem off13_eq (i : grid0.Coords) : k0_off13 i = ![0, 2048 * ((i 2).val / 4), 0] := by
  have h := tile_lt i
  unfold k0_off13
  revert h; generalize (i 2).val = n; revert n
  decide +kernel

/-- The block bias of a last tile of 1024. -/
theorem off14_eq (i : grid0.Coords) : k0_off14 i = ![0, 0, 0, 128 * ((i 2).val / 4)] := by
  have h := tile_lt i
  unfold k0_off14
  revert h; generalize (i 2).val = n; revert n
  decide +kernel

/-- The values of slab `r` of a last tile of 1024. -/
theorem off15_eq (i : grid0.Coords) (r : Fin 4) : k0_off15 i (BitVec.ofNat 32 (256 * r.val)) = ![0, 0, 2048 * ((i 2).val / 4) + 256 * r.val] := by
  have h := tile_lt i
  unfold k0_off15
  revert h; generalize (i 2).val = n; revert n r
  decide +kernel

/-- The keys of a last tile of 512. -/
theorem off16_eq (i : grid0.Coords) : k0_off16 i = ![0, 2048 * ((i 2).val / 4), 0] := by
  have h := tile_lt i
  unfold k0_off16
  revert h; generalize (i 2).val = n; revert n
  decide +kernel

/-- The block bias of a last tile of 512. -/
theorem off17_eq (i : grid0.Coords) : k0_off17 i = ![0, 0, 0, 128 * ((i 2).val / 4)] := by
  have h := tile_lt i
  unfold k0_off17
  revert h; generalize (i 2).val = n; revert n
  decide +kernel

/-- The values of slab `r` of a last tile of 512. -/
theorem off18_eq (i : grid0.Coords) (r : Fin 2) : k0_off18 i (BitVec.ofNat 32 (256 * r.val)) = ![0, 0, 2048 * ((i 2).val / 4) + 256 * r.val] := by
  have h := tile_lt i
  unfold k0_off18
  revert h; generalize (i 2).val = n; revert n r
  decide +kernel

end Cert.KernelIdeal.Slc
-- ==== Proof.OnlineSoftmax.lean ====
module

public import Idealize.ShloMosaic.PureOps.Ideal

@[expose] public section

set_option maxRecDepth 16384

noncomputable section

/-! # Softmax weights over the extended reals, one tile of keys after another

`wsum s v M A` is the sum over the keys of `A` of the values `v` weighted by `2 ^ (s - M)`. The facts here
let a running maximum and a running weighted sum be followed over growing sets of keys, and tie the
base-two weights of scaled scores to the exponential weights of the scores themselves. No score is assumed
finite. -/

namespace Cert.OnlineSoftmax

open Idealize.ShloMosaic
open scoped BigOperators

/-- Minus infinity is the bit pattern a maximum starts from. -/
theorem ofBits_neg_inf : Ideal.ofBits .f32 0xFF800000#32 = ⊥ := by
  simp [Ideal.ofBits, Ideal.ieee]

theorem exp2_bot : Ideal.exp2 ⊥ = 0 := rfl
theorem exp_bot : Ideal.exp ⊥ = 0 := rfl

/-- Below the maximum the weight is a real number between 0 and 1. -/
theorem exp2_sub_real {s a : EReal} (h : s ≤ a) : ∃ r : ℝ, 0 ≤ r ∧ r ≤ 1 ∧ Ideal.exp2 (s - a) = (r : EReal) := by
  induction a with
  | bot =>
    obtain rfl : s = ⊥ := le_bot_iff.1 h
    exact ⟨0, le_rfl, zero_le_one, rfl⟩
  | top =>
    have : s - ⊤ = (⊥ : EReal) := by rw [sub_eq_add_neg, EReal.neg_top, EReal.add_bot]
    exact ⟨0, le_rfl, zero_le_one, by rw [this]; rfl⟩
  | coe a =>
    induction s with
    | bot => exact ⟨0, le_rfl, zero_le_one, by rw [EReal.bot_sub]; rfl⟩
    | top => exact absurd (top_le_iff.1 h) (EReal.coe_ne_top a)
    | coe s =>
      have hsa : s ≤ a := EReal.coe_le_coe_iff.1 h
      refine ⟨Real.rpow 2 (s - a), Real.rpow_nonneg (by norm_num) _, ?_, ?_⟩
      · exact Real.rpow_le_one_of_one_le_of_nonpos (by norm_num) (by linarith)
      · rw [← EReal.coe_sub]; rfl

/-- Two rescalings in a row are one. -/
theorem exp2_mul {s a b : EReal} (hsa : s ≤ a) (hab : a ≤ b) :
    Ideal.exp2 (a - b) * Ideal.exp2 (s - a) = Ideal.exp2 (s - b) := by
  induction b with
  | bot =>
    obtain rfl : a = ⊥ := le_bot_iff.1 hab
    obtain rfl : s = ⊥ := le_bot_iff.1 hsa
    simp [exp2_bot]
  | top =>
    have h : ∀ x : EReal, x - ⊤ = (⊥ : EReal) := fun x => by rw [sub_eq_add_neg, EReal.neg_top, EReal.add_bot]
    rw [h, h, exp2_bot, zero_mul]
  | coe b =>
    induction a with
    | top => exact absurd (top_le_iff.1 hab) (EReal.coe_ne_top b)
    | bot =>
      obtain rfl : s = ⊥ := le_bot_iff.1 hsa
      simp [exp2_bot]
    | coe a =>
      induction s with
      | top => exact absurd (top_le_iff.1 hsa) (EReal.coe_ne_top a)
      | bot => simp [exp2_bot]
      | coe s =>
        rw [← EReal.coe_sub, ← EReal.coe_sub, ← EReal.coe_sub]
        show ((Real.rpow 2 (a - b) : ℝ) : EReal) * ((Real.rpow 2 (s - a) : ℝ) : EReal) = ((Real.rpow 2 (s - b) : ℝ) : EReal)
        rw [← EReal.coe_mul]
        congr 1
        show (2 : ℝ) ^ (a - b) * (2 : ℝ) ^ (s - a) = (2 : ℝ) ^ (s - b)
        rw [← Real.rpow_add (by norm_num)]
        congr 1; ring

/-- A nonnegative real factor moves into a sum of extended reals. -/
theorem real_mul_sum {ι : Type*} (A : Finset ι) (f : ι → EReal) {r : ℝ} (hr : 0 ≤ r) :
    (r : EReal) * ∑ k ∈ A, f k = ∑ k ∈ A, (r : EReal) * f k := by
  classical
  induction A using Finset.induction_on with
  | empty => simp
  | insert a A ha ih =>
    rw [Finset.sum_insert ha, Finset.sum_insert ha,
      EReal.left_distrib_of_nonneg_of_ne_top (by exact_mod_cast hr) (EReal.coe_ne_top r), ih]

/-- The values weighted by `2 ^ (s - M)`, summed over the keys of `A`. -/
def wsum (s v : ℕ → EReal) (M : EReal) (A : Finset ℕ) : EReal := ∑ k ∈ A, Ideal.exp2 (s k - M) * v k

/-- Rescaling the weighted sum from an upper bound of the scores to a larger one. -/
theorem rescale_wsum (s v : ℕ → EReal) {a b : EReal} (A : Finset ℕ) (hs : ∀ k ∈ A, s k ≤ a) (hab : a ≤ b) :
    Ideal.exp2 (a - b) * wsum s v a A = wsum s v b A := by
  obtain ⟨r, hr, -, e⟩ := exp2_sub_real hab
  unfold wsum
  rw [e, real_mul_sum _ _ hr]
  refine Finset.sum_congr rfl fun k hk => ?_
  rw [← e, ← mul_assoc, exp2_mul (hs k hk) hab]

/-- The weighted sum grown by `n` further keys, counted from 0. -/
theorem wsum_range_add (s v : ℕ → EReal) (M : EReal) (a n : ℕ) :
    wsum s v M (Finset.range a) + ∑ k : Fin n, Ideal.exp2 (s (a + k) - M) * v (a + k) = wsum s v M (Finset.range (a + n)) := by
  unfold wsum
  rw [Finset.sum_range_add, Fin.sum_univ_eq_sum_range (fun k => Ideal.exp2 (s (a + k) - M) * v (a + k))]

/-- A maximum over `n` keys, counted from 0, joined to the one over the keys before. -/
theorem sup_range_add (s : ℕ → EReal) (a n : ℕ) :
    max ((Finset.range a).sup s) (Finset.univ.fold max ⊥ fun k : Fin n => s (a + k)) = (Finset.range (a + n)).sup s := by
  have h1 : (Finset.univ.fold max ⊥ fun k : Fin n => s (a + k)) = Finset.univ.sup fun k : Fin n => s (a + k) := rfl
  rw [h1]
  apply le_antisymm
  · refine max_le (Finset.sup_mono (Finset.range_mono (Nat.le_add_right _ _))) (Finset.sup_le fun k _ => ?_)
    exact Finset.le_sup (f := s) (Finset.mem_range.2 (by omega))
  · refine Finset.sup_le fun k hk => ?_
    have hk := Finset.mem_range.1 hk
    rcases lt_or_ge k a with h | h
    · exact le_max_of_le_left (Finset.le_sup (f := s) (Finset.mem_range.2 h))
    · refine le_max_of_le_right ?_
      have := Finset.le_sup (f := fun k : Fin n => s (a + k)) (Finset.mem_univ (⟨k - a, by omega⟩ : Fin n))
      simpa [Nat.add_sub_cancel' h] using this

/-- The same with the last `n` keys joined first and the `b` keys before them after. -/
theorem sup_range_add2 (s : ℕ → EReal) (a b n : ℕ) :
    max (max ((Finset.range a).sup s) (Finset.univ.fold max ⊥ fun k : Fin n => s (a + b + k)))
      (Finset.univ.fold max ⊥ fun k : Fin b => s (a + k)) = (Finset.range (a + b + n)).sup s := by
  rw [max_right_comm, sup_range_add, sup_range_add]

/-- A running maximum only grows. -/
theorem sup_range_mono (s : ℕ → EReal) {a b : ℕ} (h : a ≤ b) : (Finset.range a).sup s ≤ (Finset.range b).sup s :=
  Finset.sup_mono (Finset.range_mono h)

/-- Each score is at most the maximum over the keys before `a`. -/
theorem le_sup_range (s : ℕ → EReal) {a : ℕ} : ∀ k ∈ Finset.range a, s k ≤ (Finset.range a).sup s :=
  fun _ h => Finset.le_sup (f := s) h

/-- Scores scaled by `1 / log 2` have base-two weights equal to the exponential weights of the scores. -/
theorem exp2_scaled (z : EReal) : Ideal.exp2 ((((Real.log 2)⁻¹ : ℝ) : EReal) * z) = Ideal.exp z := by
  have hl : 0 < (Real.log 2)⁻¹ := inv_pos.2 (Real.log_pos (by norm_num))
  induction z with
  | bot => rw [EReal.coe_mul_bot_of_pos hl]; rfl
  | top => rw [EReal.coe_mul_top_of_pos hl]; rfl
  | coe z =>
    rw [← EReal.coe_mul]
    show ((Real.rpow 2 ((Real.log 2)⁻¹ * z) : ℝ) : EReal) = ((Real.exp z : ℝ) : EReal)
    congr 1
    show (2 : ℝ) ^ ((Real.log 2)⁻¹ * z) = Real.exp z
    rw [Real.rpow_def_of_pos (by norm_num), ← mul_assoc, mul_inv_cancel₀ (ne_of_gt (Real.log_pos (by norm_num))), one_mul]

/-- A positive real factor moves into a difference of extended reals. -/
theorem real_mul_sub {r : ℝ} (hr : 0 ≤ r) (x y : EReal) : (r : EReal) * (x - y) = (r : EReal) * x - (r : EReal) * y := by
  rw [sub_eq_add_neg, EReal.left_distrib_of_nonneg_of_ne_top (by exact_mod_cast hr) (EReal.coe_ne_top r), mul_neg, ← sub_eq_add_neg]

/-- A positive real factor moves into a maximum. -/
theorem real_mul_sup {ι : Type*} (A : Finset ι) (f : ι → EReal) {r : ℝ} (hr : 0 < r) :
    A.sup (fun k => (r : EReal) * f k) = (r : EReal) * A.sup f := by
  classical
  induction A using Finset.induction_on with
  | empty => rw [Finset.sup_empty, Finset.sup_empty, EReal.coe_mul_bot_of_pos hr]
  | insert a A ha ih =>
    rw [Finset.sup_insert, Finset.sup_insert, ih]
    have hm : Monotone fun x : EReal => (r : EReal) * x := fun x y h =>
      mul_le_mul_of_nonneg_left h (by exact_mod_cast hr.le)
    exact (hm.map_max).symm

/-- THE TWO FORMS OF THE WEIGHTS AGREE. `n` keys in order, of which those with `P` are allowed, their scores
    `1 / log 2` times `S`; against a list `J` of keys `f` with a mask `μ` that lists each allowed key exactly once. -/
theorem weights_eq {J : Type*} [Fintype J] (n : ℕ) (P : ℕ → Prop) [DecidablePred P] (s S v : ℕ → EReal) (f : J → ℕ) (μ : J → Prop) [DecidablePred μ]
    (hs : ∀ k < n, s k = if P k then (((Real.log 2)⁻¹ : ℝ) : EReal) * S k else ⊥)
    (hf : ∀ j, μ j → f j < n ∧ P (f j)) (hinj : ∀ j j', μ j → μ j' → f j = f j' → j = j') (hsur : ∀ k < n, P k → ∃ j, μ j ∧ f j = k) :
    wsum s v ((Finset.range n).sup s) (Finset.range n)
      = ∑ j : J, Ideal.exp ((if μ j then S (f j) else ⊥) - Finset.univ.fold max ⊥ fun j : J => if μ j then S (f j) else ⊥) * (if μ j then 1 else 0) * v (f j) := by
  classical
  have hl : 0 < (Real.log 2)⁻¹ := inv_pos.2 (Real.log_pos (by norm_num))
  set T : ℕ → EReal := fun k => if P k then S k else ⊥ with hT
  have hsT : ∀ k < n, s k = (((Real.log 2)⁻¹ : ℝ) : EReal) * T k := fun k hk => by
    rw [hs k hk, hT]; dsimp only; split
    · rfl
    · rw [EReal.coe_mul_bot_of_pos hl]
  have hfold : (Finset.univ.fold max ⊥ fun j : J => if μ j then S (f j) else ⊥) = (Finset.range n).sup T := by
    show (Finset.univ.sup fun j : J => if μ j then S (f j) else ⊥) = _
    apply le_antisymm
    · refine Finset.sup_le fun j _ => ?_
      split
      · next h =>
        have := Finset.le_sup (f := T) (Finset.mem_range.2 (hf j h).1)
        simpa [hT, (hf j h).2] using this
      · exact bot_le
    · refine Finset.sup_le fun k hk => ?_
      by_cases h : P k
      · obtain ⟨j, hj, rfl⟩ := hsur k (Finset.mem_range.1 hk) h
        have := Finset.le_sup (f := fun j : J => if μ j then S (f j) else ⊥) (Finset.mem_univ j)
        simpa [hT, h, hj] using this
      · simp [hT, h]
  have hsup : (Finset.range n).sup s = (((Real.log 2)⁻¹ : ℝ) : EReal) * (Finset.range n).sup T := by
    rw [← real_mul_sup _ _ hl]
    exact Finset.sup_congr rfl fun k hk => hsT k (Finset.mem_range.1 hk)
  rw [hfold, hsup]
  unfold wsum
  set M := (Finset.range n).sup T
  have hterm : ∀ k ∈ Finset.range n, Ideal.exp2 (s k - (((Real.log 2)⁻¹ : ℝ) : EReal) * M) * v k = if P k then Ideal.exp (S k - M) * v k else 0 := fun k hk => by
    rw [hsT k (Finset.mem_range.1 hk), ← real_mul_sub hl.le, exp2_scaled, hT]
    dsimp only; split
    · rfl
    · rw [EReal.bot_sub, exp_bot, zero_mul]
  rw [Finset.sum_congr rfl hterm, ← Finset.sum_filter]
  have hR : ∀ j : J, Ideal.exp ((if μ j then S (f j) else ⊥) - M) * (if μ j then 1 else 0) * v (f j) = if μ j then Ideal.exp (S (f j) - M) * v (f j) else 0 := fun j => by
    split <;> simp
  simp only [hR]
  rw [← Finset.sum_filter]
  symm
  refine Finset.sum_bij (fun j _ => f j) ?_ ?_ ?_ ?_
  · intro j hj
    have hj := (Finset.mem_filter.1 hj).2
    exact Finset.mem_filter.2 ⟨Finset.mem_range.2 (hf j hj).1, (hf j hj).2⟩
  · intro j hj j' hj' h
    exact hinj j j' (Finset.mem_filter.1 hj).2 (Finset.mem_filter.1 hj').2 h
  · intro k hk
    obtain ⟨hk, hP⟩ := Finset.mem_filter.1 hk
    obtain ⟨j, hj, e⟩ := hsur k (Finset.mem_range.1 hk) hP
    exact ⟨j, Finset.mem_filter.2 ⟨Finset.mem_univ _, hj⟩, e⟩
  · intro j _; rfl

/-- Dividing by the larger of a real number and a positive real is multiplying by a positive real. -/
theorem div_max_real {y c : ℝ} (hc : 0 < c) :
    ∃ r : ℝ, 0 < r ∧ ∀ x : EReal, Ideal.div x (max (y : EReal) (c : EReal)) = x * (r : EReal) := by
  have hm : 0 < max y c := lt_max_of_lt_right hc
  have e : max (y : EReal) (c : EReal) = ((max y c : ℝ) : EReal) := (EReal.coe_strictMono.monotone.map_max).symm
  refine ⟨(max y c)⁻¹, inv_pos.2 hm, fun x => ?_⟩
  rw [e]
  unfold Ideal.div
  rw [if_neg (by exact_mod_cast hm.ne'), EReal.coe_inv]

/-- A weighted sum of ones below the maximum is a real number. -/
theorem wsum_one_real (s v : ℕ → EReal) (n : ℕ) (hv : ∀ k < n, v k = 1) : ∃ y : ℝ, wsum s v ((Finset.range n).sup s) (Finset.range n) = (y : EReal) := by
  classical
  have : ∀ A : Finset ℕ, A ⊆ Finset.range n → ∃ y : ℝ, wsum s v ((Finset.range n).sup s) A = (y : EReal) := by
    intro A
    induction A using Finset.induction_on with
    | empty => exact fun _ => ⟨0, by simp [wsum]⟩
    | insert a A ha ih =>
      intro hA
      obtain ⟨y, hy⟩ := ih fun x hx => hA (Finset.mem_insert_of_mem hx)
      have ha' := hA (Finset.mem_insert_self a A)
      obtain ⟨r, -, -, hr⟩ := exp2_sub_real (le_sup_range s a ha')
      refine ⟨r + y, ?_⟩
      unfold wsum at hy ⊢
      rw [Finset.sum_insert ha, hy, hr, hv a (Finset.mem_range.1 ha'), mul_one, EReal.coe_add]
  exact this _ (Finset.Subset.refl _)

/-- The threshold under a norm, `1e-30` in single precision, is a positive real. -/
theorem ofBits_eps : ∃ c : ℝ, 0 < c ∧ Ideal.ofBits .f32 0x0DA24260#32 = (c : EReal) := by
  have h : (10633824 : ℝ) * (2 : ℝ) ^ (-123 : ℤ) > 0 := by positivity
  refine ⟨(10633824 : ℝ) * (2 : ℝ) ^ (-123 : ℤ), h, ?_⟩
  simp [Ideal.ofBits, Ideal.ieee]

/-- THE GATED OUTPUT. The kernel multiplies its weighted values by `gate / norm`; the reference divides each
    weight by the norm, sums, and multiplies by the gate. -/
theorem gated_eq {J : Type*} [Fintype J] (e w : J → EReal) (g : EReal) {y c : ℝ} (hc : 0 < c) :
    (∑ j : J, e j * w j) * Ideal.div g (max (y : EReal) (c : EReal)) = g * ∑ j : J, w j * Ideal.div (e j) (max (y : EReal) (c : EReal)) := by
  obtain ⟨r, hr, h⟩ := div_max_real (y := y) hc
  simp only [h]
  have : ∀ j, w j * (e j * (r : EReal)) = (r : EReal) * (e j * w j) := fun j => by ac_rfl
  simp only [this]
  rw [← real_mul_sum _ _ hr.le]
  ac_rfl

end Cert.OnlineSoftmax

end
-- ==== Proof.SlcAt.lean ====
module

public import proofs.«01_k».proof.Proof.SlcDefs
public import proofs.«01_k».proof.Proof.SlcOff
public import proofs.«01_k».proof.Proof.OnlineSoftmax
public import Idealize.ShloMosaic.Lib.Pointwise
public import Idealize.ShloMosaic.Lib.WordCmp
public import Idealize.ShloMosaic.Lib.Pipeline.ValueKit

@[expose] public section

set_option maxRecDepth 16384

noncomputable section

/-! # The block's parts, element by element -/

namespace Cert.KernelIdeal.Slc

open Cert.KernelIdeal Cert.KernelIdeal.Gen Cert.OnlineSoftmax
open Idealize.ShloMosaic Idealize.ShloMosaic.TcCoe
open scoped BigOperators

/-- The named mask is minus infinity. -/
theorem mask_eq : (Named.named κ "mask" 0xF149F2CA#32 : Ideal .f32) = ⊥ :=
  IdealRules.named_const.ideal_named_scalar _ _ _ _ rfl

/-- Row `j` of the stacked queries: head `j / 512`, query `j % 512`, with the block bias of that query. -/
theorem qBlk_at (X3 : FVec Ideal S1x512x512 .bf16) (w : FVec Ideal S1x1x512x128 .bf16) (j : Fin 2048) (l : Fin 128) :
    qBlk (F := Ideal) X3 w (ix2 j l) = X3 (ix3 0 ⟨j.val % 512, by omega⟩ ⟨j.val / 512 * 128 + l.val, by omega⟩) + w (ix4 0 0 ⟨j.val % 512, by omega⟩ l) := by
  pointwise [qBlk, qcat, LD]
  split_ifs <;> refine congrArg₂ (· + ·) (congrArg X3 ?_) (congrArg w ?_) <;> blk_ext

/-- The causal bias of the query tile against itself. -/
theorem tri_at (κ : Fin 512) (j : Fin 2048) : tri (F := Ideal) (ix2 κ j) = if κ.val ≤ j.val % 512 then 0 else ⊥ := by
  have key : ∀ a b : ℕ, a < 512 → b < 512 → Scalar.select (IntOp.cmpi CmpIPredicate.sle (BitVec.ofNat 32 a) (BitVec.ofNat 32 b)) (0 : EReal) ⊥ = if a ≤ b then 0 else ⊥ := by
    intro a b ha hb
    word_cmp
  pointwise [tri]
  rw [mask_eq]
  have hκ := κ.isLt
  have hj := j.isLt
  split
  · rw [key _ _ hκ (by omega)]; exact if_congr (by omega) rfl rfl
  split
  · rw [key _ _ hκ (by omega)]; exact if_congr (by omega) rfl rfl
  split
  · rw [key _ _ hκ (by omega)]; exact if_congr (by omega) rfl rfl
  · rw [key _ _ hκ (by omega)]; exact if_congr (by omega) rfl rfl

/-- The gated output: the accumulator times gate over norm. -/
theorem gated_at (X7 : FVec Ideal S1x128x512 .f32) (acc : FVec Ideal S128x2048 .f32) (r : Fin 128) (j : Fin 2048) :
    gated (F := Ideal) X7 acc (ix2 r j) = acc (ix2 r j) * Ideal.div (X7 (ix3 0 ⟨3 * (j.val / 512) + 1, by omega⟩ ⟨j.val % 512, by omega⟩)) (max (acc (ix2 96 j)) (Ideal.ofBits .f32 0x0DA24260#32)) := by
  pointwise [gated, k0_pay85, LD]
  refine congrArg (fun z => acc (ix2 r j) * Ideal.div z (max (acc (ix2 96 j)) (Ideal.ofBits .f32 0x0DA24260#32))) ?_
  split_ifs <;> refine congrArg X7 ?_ <;> blk_ext

theorem rescale_at (m m' : FVec Ideal S1x2048 .f32) (acc : FVec Ideal S128x2048 .f32) (r : Fin 128) (j : Fin 2048) :
    rescale m m' acc (ix2 r j) = Ideal.exp2 (m (ix2 0 j) - m' (ix2 0 j)) * acc (ix2 r j) := by
  pointwise [rescale]
  rfl

theorem pvAdd_at (m' : FVec Ideal S1x2048 .f32) (acc : FVec Ideal S128x2048 .f32) (slab : FVec Ideal S256x2048 .f32) (vt : FVec Ideal S1x128x256 .bf16) (r : Fin 128) (j : Fin 2048) :
    pvAdd (F := Ideal) m' acc slab vt (ix2 r j) = acc (ix2 r j) + ∑ κ : Fin 256, vt (ix3 0 r κ) * Ideal.exp2 (slab (ix2 κ j) - m' (ix2 0 j)) := by
  pointwise [pvAdd]
  rfl

/-- Channel `r` of the values, key by key. -/
def vals (X5 : FVec Ideal S1x128x16384 .bf16) (r : Fin 128) (κ : ℕ) : EReal := if h : κ < 16384 then X5 (ix3 0 r ⟨κ, h⟩) else 0

/-- The score of key `κ` against row `j`, without the causal mask. -/
def raw (X3 : FVec Ideal S1x512x512 .bf16) (X4 : FVec Ideal S1x16384x128 .bf16) (X6 : FVec Ideal S1x1x512x1024 .bf16) (j : Fin 2048) (κ : ℕ) : EReal :=
  if h : κ < 16384 then ∑ l : Fin 128, X4 (ix3 0 ⟨κ, h⟩ l) * (X3 (ix3 0 ⟨j.val % 512, by omega⟩ ⟨j.val / 512 * 128 + l.val, by omega⟩) + X6 (ix4 0 0 ⟨j.val % 512, by omega⟩ ⟨κ / 2048 * 128 + l.val, by omega⟩)) else 0

/-- The score with the causal mask, for a query of tile `n`. -/
def score (n : ℕ) (X3 : FVec Ideal S1x512x512 .bf16) (X4 : FVec Ideal S1x16384x128 .bf16) (X6 : FVec Ideal S1x1x512x1024 .bf16) (j : Fin 2048) (κ : ℕ) : EReal :=
  raw X3 X4 X6 j κ + if κ ≤ 512 * n + j.val % 512 then 0 else ⊥

/-- One slab of 256 keys, read from the scratch array at row `a` and from the values at key `A`, extends the weighted sum. -/
theorem slab_step {s : ℕ → EReal} (X5 : FVec Ideal S1x128x16384 .bf16) (sc : FVec Ideal S2048x2048 .f32) (m' : FVec Ideal S1x2048 .f32)
    (acc : FVec Ideal S128x2048 .f32) (r : Fin 128) (j : Fin 2048) (a A A' : ℕ) (inb) (off : Fin 3 → ℕ) (inb')
    (hoff : off = ![0, 0, A']) (hA : A' = A) (hacc : acc (ix2 r j) = wsum s (vals X5 r) (m' (ix2 0 j)) (Finset.range A))
    (hs : ∀ (κ : Fin 256) (h : a + κ.val < 2048), sc (ix2 ⟨a + κ.val, h⟩ j) = s (A + κ.val)) :
    pvAdd (F := Ideal) m' acc (LD sc (Rect.unit (s := S2048x2048) ![a, 0] S256x2048.size inb).toLoadRect)
      (LD X5 (Rect.unit (s := S1x128x16384) off S1x128x256.size inb').toLoadRect) (ix2 r j)
      = wsum s (vals X5 r) (m' (ix2 0 j)) (Finset.range (A + 256)) := by
  subst hoff hA
  have ha : a + 256 ≤ 2048 := inb 0
  have hb : A' + 256 ≤ 16384 := inb' 2
  rw [pvAdd_at, hacc, ← wsum_range_add]
  refine congrArg (_ + ·) (Finset.sum_congr rfl fun κ _ => ?_)
  have e1 : LD (F := Ideal) (e := .f32) sc (Rect.unit (s := S2048x2048) ![a, 0] S256x2048.size inb).toLoadRect (ix2 κ j) = s (A' + κ.val) := by
    rw [← hs κ (by omega)]
    pointwise [LD]
  have e2 : LD (F := Ideal) (e := .bf16) X5 (Rect.unit (s := S1x128x16384) ![0, 0, A'] S1x128x256.size inb').toLoadRect (ix3 0 r κ) = vals X5 r (A' + κ.val) := by
    unfold vals
    rw [dif_pos (by omega)]
    pointwise [LD]
  rw [mul_comm]
  exact congrArg₂ (· * ·) (congrArg (fun z => Ideal.exp2 (z - m' (ix2 0 j))) e1) e2

theorem scores2048_at (kk : FVec Ideal S1x2048x128 .bf16) (q : FVec Ideal S2048x128 .bf16) (κ : Fin 2048) (j : Fin 2048) :
    scores2048 (F := Ideal) kk q (ix2 κ j) = ∑ l : Fin 128, kk (ix3 0 κ l) * q (ix2 j l) := by
  pointwise [scores2048]

theorem colMax2048_at (s : FVec Ideal S2048x2048 .f32) (j : Fin 2048) :
    colMax2048 s (ix2 0 j) = Finset.univ.fold max ⊥ fun κ : Fin 2048 => s (ix2 κ j) := by
  pointwise [colMax2048]
  rw [ofBits_neg_inf]

/-- The scores of a tile of 2048 keys, from super-tile `K` on, are those of its keys. -/
theorem tile2048_at (X3 : FVec Ideal S1x512x512 .bf16) (X4 : FVec Ideal S1x16384x128 .bf16) (X6 : FVec Ideal S1x1x512x1024 .bf16) (K : ℕ)
    (off : Fin 3 → ℕ) (inb) (off' : Fin 4 → ℕ) (inb') (hoff : off = ![0, 2048 * K, 0]) (hoff' : off' = ![0, 0, 0, 128 * K]) (κ : Fin 2048) (j : Fin 2048) :
    scores2048 (F := Ideal) (LD X4 (Rect.unit (s := S1x16384x128) off S1x2048x128.size inb).toLoadRect)
      (qBlk X3 (LD X6 (Rect.unit (s := S1x1x512x1024) off' S1x1x512x128.size inb').toLoadRect)) (ix2 κ j)
      = raw X3 X4 X6 j (2048 * K + κ.val) := by
  subst hoff hoff'
  have hb : 2048 * K + 2048 ≤ 16384 := inb 1
  rw [scores2048_at]
  unfold raw
  rw [dif_pos (by omega)]
  refine Finset.sum_congr rfl fun l _ => ?_
  rw [qBlk_at]
  have e1 : LD (F := Ideal) (e := .bf16) X4 (Rect.unit (s := S1x16384x128) ![0, 2048 * K, 0] S1x2048x128.size inb).toLoadRect (ix3 0 κ l) = X4 (ix3 0 ⟨2048 * K + κ.val, by omega⟩ l) := by
    pointwise [LD]
  have e2 : LD (F := Ideal) (e := .bf16) X6 (Rect.unit (s := S1x1x512x1024) ![0, 0, 0, 128 * K] S1x1x512x128.size inb').toLoadRect (ix4 0 0 ⟨j.val % 512, by omega⟩ l)
      = X6 (ix4 0 0 ⟨j.val % 512, by omega⟩ ⟨(2048 * K + κ.val) / 2048 * 128 + l.val, by omega⟩) := by
    pointwise [LD]
    refine congrArg X6 ?_
    blk_ext
  exact congrArg₂ (· * ·) e1 (congrArg (_ + ·) e2)

theorem scores1536_at (kk : FVec Ideal S1x1536x128 .bf16) (q : FVec Ideal S2048x128 .bf16) (κ : Fin 1536) (j : Fin 2048) :
    scores1536 (F := Ideal) kk q (ix2 κ j) = ∑ l : Fin 128, kk (ix3 0 κ l) * q (ix2 j l) := by
  pointwise [scores1536]

theorem colMax1536_at (s : FVec Ideal S1536x2048 .f32) (j : Fin 2048) :
    colMax1536 s (ix2 0 j) = Finset.univ.fold max ⊥ fun κ : Fin 1536 => s (ix2 κ j) := by
  pointwise [colMax1536]
  rw [ofBits_neg_inf]

/-- The scores of a tile of 1536 keys, from super-tile `K` on, are those of its keys. -/
theorem tile1536_at (X3 : FVec Ideal S1x512x512 .bf16) (X4 : FVec Ideal S1x16384x128 .bf16) (X6 : FVec Ideal S1x1x512x1024 .bf16) (K : ℕ)
    (off : Fin 3 → ℕ) (inb) (off' : Fin 4 → ℕ) (inb') (hoff : off = ![0, 2048 * K, 0]) (hoff' : off' = ![0, 0, 0, 128 * K]) (κ : Fin 1536) (j : Fin 2048) :
    scores1536 (F := Ideal) (LD X4 (Rect.unit (s := S1x16384x128) off S1x1536x128.size inb).toLoadRect)
      (qBlk X3 (LD X6 (Rect.unit (s := S1x1x512x1024) off' S1x1x512x128.size inb').toLoadRect)) (ix2 κ j)
      = raw X3 X4 X6 j (2048 * K + κ.val) := by
  subst hoff hoff'
  have hb : 2048 * K + 1536 ≤ 16384 := inb 1
  rw [scores1536_at]
  unfold raw
  rw [dif_pos (by omega)]
  refine Finset.sum_congr rfl fun l _ => ?_
  rw [qBlk_at]
  have e1 : LD (F := Ideal) (e := .bf16) X4 (Rect.unit (s := S1x16384x128) ![0, 2048 * K, 0] S1x1536x128.size inb).toLoadRect (ix3 0 κ l) = X4 (ix3 0 ⟨2048 * K + κ.val, by omega⟩ l) := by
    pointwise [LD]
  have e2 : LD (F := Ideal) (e := .bf16) X6 (Rect.unit (s := S1x1x512x1024) ![0, 0, 0, 128 * K] S1x1x512x128.size inb').toLoadRect (ix4 0 0 ⟨j.val % 512, by omega⟩ l)
      = X6 (ix4 0 0 ⟨j.val % 512, by omega⟩ ⟨(2048 * K + κ.val) / 2048 * 128 + l.val, by omega⟩) := by
    pointwise [LD]
    refine congrArg X6 ?_
    blk_ext
  exact congrArg₂ (· * ·) e1 (congrArg (_ + ·) e2)

theorem scores1024_at (kk : FVec Ideal S1x1024x128 .bf16) (q : FVec Ideal S2048x128 .bf16) (κ : Fin 1024) (j : Fin 2048) :
    scores1024 (F := Ideal) kk q (ix2 κ j) = ∑ l : Fin 128, kk (ix3 0 κ l) * q (ix2 j l) := by
  pointwise [scores1024]

theorem colMax1024_at (s : FVec Ideal S1024x2048 .f32) (j : Fin 2048) :
    colMax1024 s (ix2 0 j) = Finset.univ.fold max ⊥ fun κ : Fin 1024 => s (ix2 κ j) := by
  pointwise [colMax1024]
  rw [ofBits_neg_inf]

/-- The scores of a tile of 1024 keys, from super-tile `K` on, are those of its keys. -/
theorem tile1024_at (X3 : FVec Ideal S1x512x512 .bf16) (X4 : FVec Ideal S1x16384x128 .bf16) (X6 : FVec Ideal S1x1x512x1024 .bf16) (K : ℕ)
    (off : Fin 3 → ℕ) (inb) (off' : Fin 4 → ℕ) (inb') (hoff : off = ![0, 2048 * K, 0]) (hoff' : off' = ![0, 0, 0, 128 * K]) (κ : Fin 1024) (j : Fin 2048) :
    scores1024 (F := Ideal) (LD X4 (Rect.unit (s := S1x16384x128) off S1x1024x128.size inb).toLoadRect)
      (qBlk X3 (LD X6 (Rect.unit (s := S1x1x512x1024) off' S1x1x512x128.size inb').toLoadRect)) (ix2 κ j)
      = raw X3 X4 X6 j (2048 * K + κ.val) := by
  subst hoff hoff'
  have hb : 2048 * K + 1024 ≤ 16384 := inb 1
  rw [scores1024_at]
  unfold raw
  rw [dif_pos (by omega)]
  refine Finset.sum_congr rfl fun l _ => ?_
  rw [qBlk_at]
  have e1 : LD (F := Ideal) (e := .bf16) X4 (Rect.unit (s := S1x16384x128) ![0, 2048 * K, 0] S1x1024x128.size inb).toLoadRect (ix3 0 κ l) = X4 (ix3 0 ⟨2048 * K + κ.val, by omega⟩ l) := by
    pointwise [LD]
  have e2 : LD (F := Ideal) (e := .bf16) X6 (Rect.unit (s := S1x1x512x1024) ![0, 0, 0, 128 * K] S1x1x512x128.size inb').toLoadRect (ix4 0 0 ⟨j.val % 512, by omega⟩ l)
      = X6 (ix4 0 0 ⟨j.val % 512, by omega⟩ ⟨(2048 * K + κ.val) / 2048 * 128 + l.val, by omega⟩) := by
    pointwise [LD]
    refine congrArg X6 ?_
    blk_ext
  exact congrArg₂ (· * ·) e1 (congrArg (_ + ·) e2)

theorem scores512_at (kk : FVec Ideal S1x512x128 .bf16) (q : FVec Ideal S2048x128 .bf16) (κ : Fin 512) (j : Fin 2048) :
    scores512 (F := Ideal) kk q (ix2 κ j) = ∑ l : Fin 128, kk (ix3 0 κ l) * q (ix2 j l) := by
  pointwise [scores512]

theorem colMax512_at (s : FVec Ideal S512x2048 .f32) (j : Fin 2048) :
    colMax512 s (ix2 0 j) = Finset.univ.fold max ⊥ fun κ : Fin 512 => s (ix2 κ j) := by
  pointwise [colMax512]
  rw [ofBits_neg_inf]

/-- The scores of a tile of 512 keys, from super-tile `K` on, are those of its keys. -/
theorem tile512_at (X3 : FVec Ideal S1x512x512 .bf16) (X4 : FVec Ideal S1x16384x128 .bf16) (X6 : FVec Ideal S1x1x512x1024 .bf16) (K : ℕ)
    (off : Fin 3 → ℕ) (inb) (off' : Fin 4 → ℕ) (inb') (hoff : off = ![0, 2048 * K, 0]) (hoff' : off' = ![0, 0, 0, 128 * K]) (κ : Fin 512) (j : Fin 2048) :
    scores512 (F := Ideal) (LD X4 (Rect.unit (s := S1x16384x128) off S1x512x128.size inb).toLoadRect)
      (qBlk X3 (LD X6 (Rect.unit (s := S1x1x512x1024) off' S1x1x512x128.size inb').toLoadRect)) (ix2 κ j)
      = raw X3 X4 X6 j (2048 * K + κ.val) := by
  subst hoff hoff'
  have hb : 2048 * K + 512 ≤ 16384 := inb 1
  rw [scores512_at]
  unfold raw
  rw [dif_pos (by omega)]
  refine Finset.sum_congr rfl fun l _ => ?_
  rw [qBlk_at]
  have e1 : LD (F := Ideal) (e := .bf16) X4 (Rect.unit (s := S1x16384x128) ![0, 2048 * K, 0] S1x512x128.size inb).toLoadRect (ix3 0 κ l) = X4 (ix3 0 ⟨2048 * K + κ.val, by omega⟩ l) := by
    pointwise [LD]
  have e2 : LD (F := Ideal) (e := .bf16) X6 (Rect.unit (s := S1x1x512x1024) ![0, 0, 0, 128 * K] S1x1x512x128.size inb').toLoadRect (ix4 0 0 ⟨j.val % 512, by omega⟩ l)
      = X6 (ix4 0 0 ⟨j.val % 512, by omega⟩ ⟨(2048 * K + κ.val) / 2048 * 128 + l.val, by omega⟩) := by
    pointwise [LD]
    refine congrArg X6 ?_
    blk_ext
  exact congrArg₂ (· * ·) e1 (congrArg (_ + ·) e2)

end Cert.KernelIdeal.Slc
-- ==== Proof.SlcTile.lean ====
module

public import proofs.«01_k».proof.Proof.SlcAt

@[expose] public section

set_option maxRecDepth 16384

noncomputable section

/-! # The accumulator of a block is the softmax-weighted sum over the keys up to its query tile -/

namespace Cert.KernelIdeal.Slc

open Cert.KernelIdeal Cert.KernelIdeal.Gen Cert.OnlineSoftmax
open Idealize.ShloMosaic Idealize.ShloMosaic.TcCoe
open scoped BigOperators

/-- The output block holds the gated accumulator, head by head. -/
theorem outBlk_at (X7 : FVec Ideal S1x128x512 .f32) (acc : FVec Ideal S128x2048 .f32) (h : Fin 4) (r : Fin 128) (q : Fin 512) :
    outBlk (F := Ideal) X7 acc (ix4 0 h r q) = gated (F := Ideal) X7 acc (ix2 r ⟨512 * h.val + q.val, by omega⟩) := by
  unfold outBlk
  canon_tiles x hx
  all_goals
    have e1 : h.val = _ := hx1
    have e2 : r.val = (x 2).val := hx2
    have e3 : q.val = (x 3).val := hx3
    pointwise [k0_pay1, k0_pay2, k0_pay3, k0_pay86, k0_pay87, gated]
    refine congrArg (k0_pay85 (F := Ideal) acc _ _ _ _) ?_
    blk_ext

/-- While the sweep works on a super-tile the scratch array holds its scores. -/
theorem scr2048_at (s : FVec Ideal S2048x2048 .f32) (κ j : Fin 2048) : scr2048 s (ix2 κ j) = s (ix2 κ j) := by
  unfold scr2048
  have e : ix2 κ j = (Rect.unit (s := S2048x2048) ![0, 0] S2048x2048.size inb_S2048x2048_S2048x2048_0_0).emb (ix2 κ j) := by blk_ext
  refine (congrArg (View.canon _) e).trans ((View.canon_cons_emb _ _ _ _).trans ?_)
  pointwise

/-- In a last tile of 2048 keys the scratch array holds the scores of the keys before the query tile, -/
theorem scrL2048_bef (s : FVec Ideal S2048x2048 .f32) (κ : Fin 1536) (j : Fin 2048) : scrL2048 (F := Ideal) s (ix2 ⟨κ.val, by omega⟩ j) = s (ix2 ⟨κ.val, by omega⟩ j) := by
  unfold scrL2048
  have e : (ix2 ⟨κ.val, by omega⟩ j : S2048x2048.Idx) = (Rect.unit (s := S2048x2048) ![0, 0] S1536x2048.size inb_S2048x2048_S1536x2048_0_0).emb (ix2 κ j) := by blk_ext
  refine (congrArg (View.canon _) e).trans ((View.canon_cons_emb _ _ _ _).trans ?_)
  pointwise [bef2048]

/-- and those of the query tile itself with the causal bias. -/
theorem scrL2048_own (s : FVec Ideal S2048x2048 .f32) (κ : Fin 512) (j : Fin 2048) : scrL2048 (F := Ideal) s (ix2 ⟨1536 + κ.val, by omega⟩ j)
    = own2048 (F := Ideal) s (ix2 κ j) := by
  unfold scrL2048
  have e : (ix2 ⟨1536 + κ.val, by omega⟩ j : S2048x2048.Idx) = (Rect.unit (s := S2048x2048) ![1536, 0] S512x2048.size inb_S2048x2048_S512x2048_1536_0).emb (ix2 κ j) := by blk_ext
  refine (View.canon_cons_of_not_mem _ _ ?_).trans ?_
  · intro hm
    have h0 := Rect.mem_set_unit.1 (show _ ∈ (Rect.unit (s := S2048x2048) ![0, 0] S1536x2048.size inb_S2048x2048_S1536x2048_0_0).set from hm) 0
    have h1 : 1536 + κ.val < 0 + 1536 := h0.2
    omega
  refine (congrArg (View.canon _) e).trans ((View.canon_cons_emb _ _ _ _).trans ?_)
  pointwise

theorem own2048_at (s : FVec Ideal S2048x2048 .f32) (κ : Fin 512) (j : Fin 2048) :
    own2048 (F := Ideal) s (ix2 κ j) = s (ix2 ⟨1536 + κ.val, by omega⟩ j) + tri (F := Ideal) (ix2 κ j) := by
  pointwise [own2048]

/-- In a last tile of 1536 keys the scratch array holds the scores of the keys before the query tile, -/
theorem scrL1536_bef (s : FVec Ideal S1536x2048 .f32) (κ : Fin 1024) (j : Fin 2048) : scrL1536 (F := Ideal) s (ix2 ⟨κ.val, by omega⟩ j) = s (ix2 ⟨κ.val, by omega⟩ j) := by
  unfold scrL1536
  have e : (ix2 ⟨κ.val, by omega⟩ j : S2048x2048.Idx) = (Rect.unit (s := S2048x2048) ![0, 0] S1024x2048.size inb_S2048x2048_S1024x2048_0_0).emb (ix2 κ j) := by blk_ext
  refine (congrArg (View.canon _) e).trans ((View.canon_cons_emb _ _ _ _).trans ?_)
  pointwise [bef1536]

/-- and those of the query tile itself with the causal bias. -/
theorem scrL1536_own (s : FVec Ideal S1536x2048 .f32) (κ : Fin 512) (j : Fin 2048) : scrL1536 (F := Ideal) s (ix2 ⟨1024 + κ.val, by omega⟩ j)
    = own1536 (F := Ideal) s (ix2 κ j) := by
  unfold scrL1536
  have e : (ix2 ⟨1024 + κ.val, by omega⟩ j : S2048x2048.Idx) = (Rect.unit (s := S2048x2048) ![1024, 0] S512x2048.size inb_S2048x2048_S512x2048_1024_0).emb (ix2 κ j) := by blk_ext
  refine (View.canon_cons_of_not_mem _ _ ?_).trans ?_
  · intro hm
    have h0 := Rect.mem_set_unit.1 (show _ ∈ (Rect.unit (s := S2048x2048) ![0, 0] S1024x2048.size inb_S2048x2048_S1024x2048_0_0).set from hm) 0
    have h1 : 1024 + κ.val < 0 + 1024 := h0.2
    omega
  refine (congrArg (View.canon _) e).trans ((View.canon_cons_emb _ _ _ _).trans ?_)
  pointwise

theorem own1536_at (s : FVec Ideal S1536x2048 .f32) (κ : Fin 512) (j : Fin 2048) :
    own1536 (F := Ideal) s (ix2 κ j) = s (ix2 ⟨1024 + κ.val, by omega⟩ j) + tri (F := Ideal) (ix2 κ j) := by
  pointwise [own1536]

/-- In a last tile of 1024 keys the scratch array holds the scores of the keys before the query tile, -/
theorem scrL1024_bef (s : FVec Ideal S1024x2048 .f32) (κ : Fin 512) (j : Fin 2048) : scrL1024 (F := Ideal) s (ix2 ⟨κ.val, by omega⟩ j) = s (ix2 ⟨κ.val, by omega⟩ j) := by
  unfold scrL1024
  have e : (ix2 ⟨κ.val, by omega⟩ j : S2048x2048.Idx) = (Rect.unit (s := S2048x2048) ![0, 0] S512x2048.size inb_S2048x2048_S512x2048_0_0).emb (ix2 κ j) := by blk_ext
  refine (congrArg (View.canon _) e).trans ((View.canon_cons_emb _ _ _ _).trans ?_)
  pointwise [bef1024]

/-- and those of the query tile itself with the causal bias. -/
theorem scrL1024_own (s : FVec Ideal S1024x2048 .f32) (κ : Fin 512) (j : Fin 2048) : scrL1024 (F := Ideal) s (ix2 ⟨512 + κ.val, by omega⟩ j)
    = own1024 (F := Ideal) s (ix2 κ j) := by
  unfold scrL1024
  have e : (ix2 ⟨512 + κ.val, by omega⟩ j : S2048x2048.Idx) = (Rect.unit (s := S2048x2048) ![512, 0] S512x2048.size inb_S2048x2048_S512x2048_512_0).emb (ix2 κ j) := by blk_ext
  refine (View.canon_cons_of_not_mem _ _ ?_).trans ?_
  · intro hm
    have h0 := Rect.mem_set_unit.1 (show _ ∈ (Rect.unit (s := S2048x2048) ![0, 0] S512x2048.size inb_S2048x2048_S512x2048_0_0).set from hm) 0
    have h1 : 512 + κ.val < 0 + 512 := h0.2
    omega
  refine (congrArg (View.canon _) e).trans ((View.canon_cons_emb _ _ _ _).trans ?_)
  pointwise

theorem own1024_at (s : FVec Ideal S1024x2048 .f32) (κ : Fin 512) (j : Fin 2048) :
    own1024 (F := Ideal) s (ix2 κ j) = s (ix2 ⟨512 + κ.val, by omega⟩ j) + tri (F := Ideal) (ix2 κ j) := by
  pointwise [own1024]

/-- A last tile that is the query tile alone. -/
theorem scrL512_own (s : FVec Ideal S512x2048 .f32) (κ : Fin 512) (j : Fin 2048) : scrL512 (F := Ideal) s (ix2 ⟨κ.val, by omega⟩ j)
    = own512 (F := Ideal) s (ix2 κ j) := by
  unfold scrL512
  have e : (ix2 ⟨κ.val, by omega⟩ j : S2048x2048.Idx) = (Rect.unit (s := S2048x2048) ![0, 0] S512x2048.size inb_S2048x2048_S512x2048_0_0).emb (ix2 κ j) := by blk_ext
  refine (congrArg (View.canon _) e).trans ((View.canon_cons_emb _ _ _ _).trans ?_)
  pointwise

theorem own512_at (s : FVec Ideal S512x2048 .f32) (κ : Fin 512) (j : Fin 2048) :
    own512 (F := Ideal) s (ix2 κ j) = s (ix2 κ j) + tri (F := Ideal) (ix2 κ j) := by
  pointwise [own512]

/-- The slabs of a tile of 2048 keys extend the weighted sum by its keys. -/
theorem sweepAcc_at {s : ℕ → EReal} (i : grid0.Coords) (k : Fin (k0_t1_loop i).trips) (X5 : FVec Ideal S1x128x16384 .bf16) (m' : FVec Ideal S1x2048 .f32)
    (sc : FVec Ideal S2048x2048 .f32) (acc : FVec Ideal S128x2048 .f32) (r : Fin 128) (j : Fin 2048)
    (hacc : acc (ix2 r j) = wsum s (vals X5 r) (m' (ix2 0 j)) (Finset.range (2048 * k.val)))
    (hs : ∀ κ : Fin 2048, sc (ix2 κ j) = s (2048 * k.val + κ.val)) :
    sweepAcc (F := Ideal) i k X5 m' sc acc (ix2 r j) = wsum s (vals X5 r) (m' (ix2 0 j)) (Finset.range (2048 * k.val + 2048)) := by
  unfold sweepAcc
  exact (slab_step X5 sc m' _ r j 1792 (2048 * k.val + 1792) _ _ _ _ (off3_eq i k 7) rfl (slab_step X5 sc m' _ r j 1536 (2048 * k.val + 1536) _ _ _ _ (off3_eq i k 6) rfl (slab_step X5 sc m' _ r j 1280 (2048 * k.val + 1280) _ _ _ _ (off3_eq i k 5) rfl (slab_step X5 sc m' _ r j 1024 (2048 * k.val + 1024) _ _ _ _ (off3_eq i k 4) rfl (slab_step X5 sc m' _ r j 768 (2048 * k.val + 768) _ _ _ _ (off3_eq i k 3) rfl (slab_step X5 sc m' _ r j 512 (2048 * k.val + 512) _ _ _ _ (off3_eq i k 2) rfl (slab_step X5 sc m' _ r j 256 (2048 * k.val + 256) _ _ _ _ (off3_eq i k 1) rfl (slab_step X5 sc m' _ r j 0 (2048 * k.val) _ _ _ _ (off3_eq i k 0) rfl hacc
      (fun κ h => (hs ⟨0 + κ.val, h⟩ ) |>.trans (congrArg s (by simp only; omega))))
      (fun κ h => (hs ⟨256 + κ.val, h⟩ ) |>.trans (congrArg s (by simp only; omega))))
      (fun κ h => (hs ⟨512 + κ.val, h⟩ ) |>.trans (congrArg s (by simp only; omega))))
      (fun κ h => (hs ⟨768 + κ.val, h⟩ ) |>.trans (congrArg s (by simp only; omega))))
      (fun κ h => (hs ⟨1024 + κ.val, h⟩ ) |>.trans (congrArg s (by simp only; omega))))
      (fun κ h => (hs ⟨1280 + κ.val, h⟩ ) |>.trans (congrArg s (by simp only; omega))))
      (fun κ h => (hs ⟨1536 + κ.val, h⟩ ) |>.trans (congrArg s (by simp only; omega))))
      (fun κ h => (hs ⟨1792 + κ.val, h⟩ ) |>.trans (congrArg s (by simp only; omega))))

/-- The slabs of a tile of 2048 keys extend the weighted sum by its keys. -/
theorem lastAcc2048_at {s : ℕ → EReal} (i : grid0.Coords) (h1 : k0_cond1 i = 1#1) (h2 : k0_cond2 i = 1#1) (h3 : k0_cond3 i = 1#1) (X5 : FVec Ideal S1x128x16384 .bf16) (m' : FVec Ideal S1x2048 .f32)
    (sc : FVec Ideal S2048x2048 .f32) (acc : FVec Ideal S128x2048 .f32) (r : Fin 128) (j : Fin 2048)
    (hacc : acc (ix2 r j) = wsum s (vals X5 r) (m' (ix2 0 j)) (Finset.range (2048 * ((i 2).val / 4))))
    (hs : ∀ κ : Fin 2048, sc (ix2 κ j) = s (2048 * ((i 2).val / 4) + κ.val)) :
    lastAcc2048 (F := Ideal) i h1 h2 h3 X5 m' sc acc (ix2 r j) = wsum s (vals X5 r) (m' (ix2 0 j)) (Finset.range (2048 * ((i 2).val / 4) + 2048)) := by
  unfold lastAcc2048
  exact (slab_step X5 sc m' _ r j 1792 (2048 * ((i 2).val / 4) + 1792) _ _ _ _ (off9_eq i 7) rfl (slab_step X5 sc m' _ r j 1536 (2048 * ((i 2).val / 4) + 1536) _ _ _ _ (off9_eq i 6) rfl (slab_step X5 sc m' _ r j 1280 (2048 * ((i 2).val / 4) + 1280) _ _ _ _ (off9_eq i 5) rfl (slab_step X5 sc m' _ r j 1024 (2048 * ((i 2).val / 4) + 1024) _ _ _ _ (off9_eq i 4) rfl (slab_step X5 sc m' _ r j 768 (2048 * ((i 2).val / 4) + 768) _ _ _ _ (off9_eq i 3) rfl (slab_step X5 sc m' _ r j 512 (2048 * ((i 2).val / 4) + 512) _ _ _ _ (off9_eq i 2) rfl (slab_step X5 sc m' _ r j 256 (2048 * ((i 2).val / 4) + 256) _ _ _ _ (off9_eq i 1) rfl (slab_step X5 sc m' _ r j 0 (2048 * ((i 2).val / 4)) _ _ _ _ (off9_eq i 0) rfl hacc
      (fun κ h => (hs ⟨0 + κ.val, h⟩ ) |>.trans (congrArg s (by simp only; omega))))
      (fun κ h => (hs ⟨256 + κ.val, h⟩ ) |>.trans (congrArg s (by simp only; omega))))
      (fun κ h => (hs ⟨512 + κ.val, h⟩ ) |>.trans (congrArg s (by simp only; omega))))
      (fun κ h => (hs ⟨768 + κ.val, h⟩ ) |>.trans (congrArg s (by simp only; omega))))
      (fun κ h => (hs ⟨1024 + κ.val, h⟩ ) |>.trans (congrArg s (by simp only; omega))))
      (fun κ h => (hs ⟨1280 + κ.val, h⟩ ) |>.trans (congrArg s (by simp only; omega))))
      (fun κ h => (hs ⟨1536 + κ.val, h⟩ ) |>.trans (congrArg s (by simp only; omega))))
      (fun κ h => (hs ⟨1792 + κ.val, h⟩ ) |>.trans (congrArg s (by simp only; omega))))

/-- The slabs of a tile of 1536 keys extend the weighted sum by its keys. -/
theorem lastAcc1536_at {s : ℕ → EReal} (i : grid0.Coords) (h1 : k0_cond1 i = 1#1) (h2 : k0_cond2 i = 1#1) (h3 : ¬(k0_cond3 i = 1#1)) (X5 : FVec Ideal S1x128x16384 .bf16) (m' : FVec Ideal S1x2048 .f32)
    (sc : FVec Ideal S2048x2048 .f32) (acc : FVec Ideal S128x2048 .f32) (r : Fin 128) (j : Fin 2048)
    (hacc : acc (ix2 r j) = wsum s (vals X5 r) (m' (ix2 0 j)) (Finset.range (2048 * ((i 2).val / 4))))
    (hs : ∀ κ : Fin 2048, κ.val < 1536 → sc (ix2 κ j) = s (2048 * ((i 2).val / 4) + κ.val)) :
    lastAcc1536 (F := Ideal) i h1 h2 h3 X5 m' sc acc (ix2 r j) = wsum s (vals X5 r) (m' (ix2 0 j)) (Finset.range (2048 * ((i 2).val / 4) + 1536)) := by
  unfold lastAcc1536
  exact (slab_step X5 sc m' _ r j 1280 (2048 * ((i 2).val / 4) + 1280) _ _ _ _ (off12_eq i 5) rfl (slab_step X5 sc m' _ r j 1024 (2048 * ((i 2).val / 4) + 1024) _ _ _ _ (off12_eq i 4) rfl (slab_step X5 sc m' _ r j 768 (2048 * ((i 2).val / 4) + 768) _ _ _ _ (off12_eq i 3) rfl (slab_step X5 sc m' _ r j 512 (2048 * ((i 2).val / 4) + 512) _ _ _ _ (off12_eq i 2) rfl (slab_step X5 sc m' _ r j 256 (2048 * ((i 2).val / 4) + 256) _ _ _ _ (off12_eq i 1) rfl (slab_step X5 sc m' _ r j 0 (2048 * ((i 2).val / 4)) _ _ _ _ (off12_eq i 0) rfl hacc
      (fun κ h => (hs ⟨0 + κ.val, h⟩ (by show 0 + κ.val < 1536; omega)) |>.trans (congrArg s (by simp only; omega))))
      (fun κ h => (hs ⟨256 + κ.val, h⟩ (by show 256 + κ.val < 1536; omega)) |>.trans (congrArg s (by simp only; omega))))
      (fun κ h => (hs ⟨512 + κ.val, h⟩ (by show 512 + κ.val < 1536; omega)) |>.trans (congrArg s (by simp only; omega))))
      (fun κ h => (hs ⟨768 + κ.val, h⟩ (by show 768 + κ.val < 1536; omega)) |>.trans (congrArg s (by simp only; omega))))
      (fun κ h => (hs ⟨1024 + κ.val, h⟩ (by show 1024 + κ.val < 1536; omega)) |>.trans (congrArg s (by simp only; omega))))
      (fun κ h => (hs ⟨1280 + κ.val, h⟩ (by show 1280 + κ.val < 1536; omega)) |>.trans (congrArg s (by simp only; omega))))

/-- The slabs of a tile of 1024 keys extend the weighted sum by its keys. -/
theorem lastAcc1024_at {s : ℕ → EReal} (i : grid0.Coords) (h1 : k0_cond1 i = 1#1) (h2 : ¬(k0_cond2 i = 1#1)) (X5 : FVec Ideal S1x128x16384 .bf16) (m' : FVec Ideal S1x2048 .f32)
    (sc : FVec Ideal S2048x2048 .f32) (acc : FVec Ideal S128x2048 .f32) (r : Fin 128) (j : Fin 2048)
    (hacc : acc (ix2 r j) = wsum s (vals X5 r) (m' (ix2 0 j)) (Finset.range (2048 * ((i 2).val / 4))))
    (hs : ∀ κ : Fin 2048, κ.val < 1024 → sc (ix2 κ j) = s (2048 * ((i 2).val / 4) + κ.val)) :
    lastAcc1024 (F := Ideal) i h1 h2 X5 m' sc acc (ix2 r j) = wsum s (vals X5 r) (m' (ix2 0 j)) (Finset.range (2048 * ((i 2).val / 4) + 1024)) := by
  unfold lastAcc1024
  exact (slab_step X5 sc m' _ r j 768 (2048 * ((i 2).val / 4) + 768) _ _ _ _ (off15_eq i 3) rfl (slab_step X5 sc m' _ r j 512 (2048 * ((i 2).val / 4) + 512) _ _ _ _ (off15_eq i 2) rfl (slab_step X5 sc m' _ r j 256 (2048 * ((i 2).val / 4) + 256) _ _ _ _ (off15_eq i 1) rfl (slab_step X5 sc m' _ r j 0 (2048 * ((i 2).val / 4)) _ _ _ _ (off15_eq i 0) rfl hacc
      (fun κ h => (hs ⟨0 + κ.val, h⟩ (by show 0 + κ.val < 1024; omega)) |>.trans (congrArg s (by simp only; omega))))
      (fun κ h => (hs ⟨256 + κ.val, h⟩ (by show 256 + κ.val < 1024; omega)) |>.trans (congrArg s (by simp only; omega))))
      (fun κ h => (hs ⟨512 + κ.val, h⟩ (by show 512 + κ.val < 1024; omega)) |>.trans (congrArg s (by simp only; omega))))
      (fun κ h => (hs ⟨768 + κ.val, h⟩ (by show 768 + κ.val < 1024; omega)) |>.trans (congrArg s (by simp only; omega))))

/-- The slabs of a tile of 512 keys extend the weighted sum by its keys. -/
theorem lastAcc512_at {s : ℕ → EReal} (i : grid0.Coords) (h1 : ¬(k0_cond1 i = 1#1)) (X5 : FVec Ideal S1x128x16384 .bf16) (m' : FVec Ideal S1x2048 .f32)
    (sc : FVec Ideal S2048x2048 .f32) (acc : FVec Ideal S128x2048 .f32) (r : Fin 128) (j : Fin 2048)
    (hacc : acc (ix2 r j) = wsum s (vals X5 r) (m' (ix2 0 j)) (Finset.range (2048 * ((i 2).val / 4))))
    (hs : ∀ κ : Fin 2048, κ.val < 512 → sc (ix2 κ j) = s (2048 * ((i 2).val / 4) + κ.val)) :
    lastAcc512 (F := Ideal) i h1 X5 m' sc acc (ix2 r j) = wsum s (vals X5 r) (m' (ix2 0 j)) (Finset.range (2048 * ((i 2).val / 4) + 512)) := by
  unfold lastAcc512
  exact (slab_step X5 sc m' _ r j 256 (2048 * ((i 2).val / 4) + 256) _ _ _ _ (off18_eq i 1) rfl (slab_step X5 sc m' _ r j 0 (2048 * ((i 2).val / 4)) _ _ _ _ (off18_eq i 0) rfl hacc
      (fun κ h => (hs ⟨0 + κ.val, h⟩ (by show 0 + κ.val < 512; omega)) |>.trans (congrArg s (by simp only; omega))))
      (fun κ h => (hs ⟨256 + κ.val, h⟩ (by show 256 + κ.val < 512; omega)) |>.trans (congrArg s (by simp only; omega))))

end Cert.KernelIdeal.Slc
-- ==== Proof.SlcAcc.lean ====
module

public import proofs.«01_k».proof.Proof.SlcTile

@[expose] public section

set_option maxRecDepth 16384

noncomputable section

/-! # The accumulator of a block is the softmax-weighted sum over the keys up to its query tile -/

namespace Cert.KernelIdeal.Slc

open Cert.KernelIdeal Cert.KernelIdeal.Gen Cert.OnlineSoftmax
open Idealize.ShloMosaic Idealize.ShloMosaic.TcCoe
open scoped BigOperators

/-- Before the query tile the causal mask lets every key through. -/
theorem score_bef (n : ℕ) (X3 : FVec Ideal S1x512x512 .bf16) (X4 : FVec Ideal S1x16384x128 .bf16) (X6 : FVec Ideal S1x1x512x1024 .bf16) (j : Fin 2048)
    {κ : ℕ} (h : κ < 512 * n) : score n X3 X4 X6 j κ = raw X3 X4 X6 j κ := by
  unfold score; rw [if_pos (by omega), add_zero]

/-- Inside the query tile it is the triangular bias. -/
theorem score_own (n : ℕ) (X3 : FVec Ideal S1x512x512 .bf16) (X4 : FVec Ideal S1x16384x128 .bf16) (X6 : FVec Ideal S1x1x512x1024 .bf16) (j : Fin 2048)
    (κ : Fin 512) {a : ℕ} (ha : a = 512 * n + κ.val) : score n X3 X4 X6 j a = raw X3 X4 X6 j a + tri (F := Ideal) (ix2 κ j) := by
  unfold score; rw [tri_at]
  exact congrArg (_ + ·) (if_congr (by omega) rfl rfl)

theorem maximumf_at (a b : FVec Ideal S1x2048 .f32) (x : S1x2048.Idx) : maximumf a b x = max (a x) (b x) := by
  pointwise

/-- THE SWEEP: before super-tile `k` the block holds the maximum and the weighted sums over the first `2048 k` keys. -/
theorem sweep_at (i : grid0.Coords) (X3 : FVec Ideal S1x512x512 .bf16) (X4 : FVec Ideal S1x16384x128 .bf16) (X5 : FVec Ideal S1x128x16384 .bf16)
    (X6 : FVec Ideal S1x1x512x1024 .bf16) (j : Fin 2048) : ∀ k : ℕ, k ≤ (k0_t1_loop i).trips →
    (sweep (F := Ideal) i X3 X4 X5 X6 k).1 (ix2 0 j) = (Finset.range (2048 * k)).sup (score (i 2).val X3 X4 X6 j)
    ∧ ∀ r : Fin 128, (sweep (F := Ideal) i X3 X4 X5 X6 k).2 (ix2 r j)
      = wsum (score (i 2).val X3 X4 X6 j) (vals X5 r) ((Finset.range (2048 * k)).sup (score (i 2).val X3 X4 X6 j)) (Finset.range (2048 * k))
  | 0, _ => by
    refine ⟨?_, fun r => ?_⟩
    · show k0_pay77 (F := Ideal) (ix2 0 j) = ⊥
      pointwise [k0_pay77]
      exact mask_eq
    · show k0_pay78 (F := Ideal) (Scalar.ofBits .f32 0x00000000#32) (ix2 r j) = wsum _ _ _ ∅
      pointwise [k0_pay78]
      rfl
  | k + 1, hk => by
    obtain ⟨hm, hacc⟩ := sweep_at i X3 X4 X5 X6 j k (by omega)
    have e : sweep (F := Ideal) i X3 X4 X5 X6 (k + 1) = sweep1 i X3 X4 X5 X6 ⟨k, by omega⟩ (sweep i X3 X4 X5 X6 k) := by
      rw [sweep, dif_pos (by omega)]
    rw [e]
    generalize sweep (F := Ideal) i X3 X4 X5 X6 k = st at hm hacc
    have hlt : 2048 * k + 2048 ≤ 512 * (i 2).val := by have := trips_eq i; omega
    have hsc : ∀ κ : Fin 2048, sweepScores (F := Ideal) i ⟨k, by omega⟩ X3 X4 X6 (ix2 κ j) = score (i 2).val X3 X4 X6 j (2048 * k + κ.val) := fun κ => by
      rw [score_bef _ _ _ _ _ (by omega)]
      exact tile2048_at X3 X4 X6 k _ _ _ _ (off1_eq i ⟨k, by omega⟩) (off2_eq i ⟨k, by omega⟩) κ j
    generalize hS : sweepScores (F := Ideal) i ⟨k, by omega⟩ X3 X4 X6 = sc at hsc
    have hm' : maximumf st.1 (colMax2048 sc) (ix2 0 j) = (Finset.range (2048 * k + 2048)).sup (score (i 2).val X3 X4 X6 j) := by
      rw [← sup_range_add, ← hm]
      refine (maximumf_at _ _ _).trans (congrArg (max _) ?_)
      rw [colMax2048_at]
      exact congrArg (fun f => Finset.univ.fold max ⊥ f) (funext hsc)
    refine ⟨?_, fun r => ?_⟩
    · unfold sweep1; rw [hS]; exact hm'
    · unfold sweep1; rw [hS]
      have := sweepAcc_at (s := score (i 2).val X3 X4 X6 j) i ⟨k, by omega⟩ X5 (maximumf st.1 (colMax2048 sc)) (scr2048 sc) (rescale st.1 (maximumf st.1 (colMax2048 sc)) st.2) r j ?_ ?_
      · rw [hm'] at this; exact this
      · rw [rescale_at, hacc r, hm', hm]
        exact rescale_wsum _ _ _ (le_sup_range _) (sup_range_mono _ (by omega))
      · intro κ; rw [scr2048_at]; exact hsc κ

/-- A last tile of 2048 keys takes the weighted sums up to the end of the query tile. -/
theorem last2048_at (i : grid0.Coords) (h1 : k0_cond1 i = 1#1) (h2 : k0_cond2 i = 1#1) (h3 : k0_cond3 i = 1#1) (hrem : (i 2).val % 4 = 3) (X3 : FVec Ideal S1x512x512 .bf16) (X4 : FVec Ideal S1x16384x128 .bf16)
    (X5 : FVec Ideal S1x128x16384 .bf16) (X6 : FVec Ideal S1x1x512x1024 .bf16) (st : FVec Ideal S1x2048 .f32 × FVec Ideal S128x2048 .f32) (j : Fin 2048) (r : Fin 128)
    (hm : st.1 (ix2 0 j) = (Finset.range (2048 * ((i 2).val / 4))).sup (score (i 2).val X3 X4 X6 j))
    (hacc : st.2 (ix2 r j) = wsum (score (i 2).val X3 X4 X6 j) (vals X5 r) ((Finset.range (2048 * ((i 2).val / 4))).sup (score (i 2).val X3 X4 X6 j)) (Finset.range (2048 * ((i 2).val / 4)))) :
    last2048 (F := Ideal) i h1 h2 h3 X3 X4 X5 X6 st (ix2 r j)
      = wsum (score (i 2).val X3 X4 X6 j) (vals X5 r) ((Finset.range (2048 * ((i 2).val / 4) + 2048)).sup (score (i 2).val X3 X4 X6 j)) (Finset.range (2048 * ((i 2).val / 4) + 2048)) := by
    have hsc : ∀ κ : Fin 2048, lastScores2048 (F := Ideal) i h1 h2 h3 X3 X4 X6 (ix2 κ j) = raw X3 X4 X6 j (2048 * ((i 2).val / 4) + κ.val) := fun κ =>
      tile2048_at X3 X4 X6 ((i 2).val / 4) _ _ _ _ (off7_eq i) (off8_eq i) κ j
    unfold last2048
    generalize lastScores2048 (F := Ideal) i h1 h2 h3 X3 X4 X6 = sc at hsc ⊢
    have hm' : maxL2048 (F := Ideal) st.1 sc (ix2 0 j) = (Finset.range (2048 * ((i 2).val / 4) + 2048)).sup (score (i 2).val X3 X4 X6 j) := by
      rw [show 2048 * ((i 2).val / 4) + 2048 = 2048 * ((i 2).val / 4) + 1536 + 512 from rfl, ← sup_range_add2, ← hm]
      refine (maximumf_at _ _ _).trans (congrArg₂ max ((maximumf_at _ _ _).trans (congrArg (max _) ?_)) ?_)
      · rw [colMax512_at]
        refine congrArg (fun f => Finset.univ.fold max ⊥ f) (funext fun κ => ?_)
        rw [own2048_at, hsc, score_own (i 2).val X3 X4 X6 j κ (by omega)]
        exact congrArg (fun a => raw X3 X4 X6 j a + _) (by simp only; omega)
      · rw [colMax1536_at]
        refine congrArg (fun f => Finset.univ.fold max ⊥ f) (funext fun κ => ?_)
        rw [score_bef _ _ _ _ _ (by omega)]
        refine Eq.trans ?_ (hsc ⟨κ.val, by omega⟩)
        pointwise [bef2048]
    have := lastAcc2048_at (s := score (i 2).val X3 X4 X6 j) i h1 h2 h3 X5 (maxL2048 st.1 sc) (scrL2048 sc) (rescale st.1 (maxL2048 st.1 sc) st.2) r j ?_ ?_
    · rw [hm'] at this; exact this
    · rw [rescale_at, hacc, hm', hm]
      exact rescale_wsum _ _ _ (le_sup_range _) (sup_range_mono _ (by omega))
    · intro κ
      have hκ := κ.isLt
      rcases lt_or_ge κ.val 1536 with h | h
      · refine (scrL2048_bef sc ⟨κ.val, h⟩ j).trans ?_
        rw [score_bef _ _ _ _ _ (by omega)]
        exact hsc ⟨κ.val, hκ⟩
      · have e : κ = ⟨1536 + (κ.val - 1536), by omega⟩ := Fin.ext (by simp only; omega)
        rw [e]
        refine (scrL2048_own sc ⟨κ.val - 1536, by omega⟩ j).trans ?_
        rw [own2048_at, hsc, score_own (i 2).val X3 X4 X6 j ⟨κ.val - 1536, by omega⟩ (by simp only; omega)]

/-- A last tile of 1536 keys takes the weighted sums up to the end of the query tile. -/
theorem last1536_at (i : grid0.Coords) (h1 : k0_cond1 i = 1#1) (h2 : k0_cond2 i = 1#1) (h3 : ¬(k0_cond3 i = 1#1)) (hrem : (i 2).val % 4 = 2) (X3 : FVec Ideal S1x512x512 .bf16) (X4 : FVec Ideal S1x16384x128 .bf16)
    (X5 : FVec Ideal S1x128x16384 .bf16) (X6 : FVec Ideal S1x1x512x1024 .bf16) (st : FVec Ideal S1x2048 .f32 × FVec Ideal S128x2048 .f32) (j : Fin 2048) (r : Fin 128)
    (hm : st.1 (ix2 0 j) = (Finset.range (2048 * ((i 2).val / 4))).sup (score (i 2).val X3 X4 X6 j))
    (hacc : st.2 (ix2 r j) = wsum (score (i 2).val X3 X4 X6 j) (vals X5 r) ((Finset.range (2048 * ((i 2).val / 4))).sup (score (i 2).val X3 X4 X6 j)) (Finset.range (2048 * ((i 2).val / 4)))) :
    last1536 (F := Ideal) i h1 h2 h3 X3 X4 X5 X6 st (ix2 r j)
      = wsum (score (i 2).val X3 X4 X6 j) (vals X5 r) ((Finset.range (2048 * ((i 2).val / 4) + 1536)).sup (score (i 2).val X3 X4 X6 j)) (Finset.range (2048 * ((i 2).val / 4) + 1536)) := by
    have hsc : ∀ κ : Fin 1536, lastScores1536 (F := Ideal) i h1 h2 h3 X3 X4 X6 (ix2 κ j) = raw X3 X4 X6 j (2048 * ((i 2).val / 4) + κ.val) := fun κ =>
      tile1536_at X3 X4 X6 ((i 2).val / 4) _ _ _ _ (off10_eq i) (off11_eq i) κ j
    unfold last1536
    generalize lastScores1536 (F := Ideal) i h1 h2 h3 X3 X4 X6 = sc at hsc ⊢
    have hm' : maxL1536 (F := Ideal) st.1 sc (ix2 0 j) = (Finset.range (2048 * ((i 2).val / 4) + 1536)).sup (score (i 2).val X3 X4 X6 j) := by
      rw [show 2048 * ((i 2).val / 4) + 1536 = 2048 * ((i 2).val / 4) + 1024 + 512 from rfl, ← sup_range_add2, ← hm]
      refine (maximumf_at _ _ _).trans (congrArg₂ max ((maximumf_at _ _ _).trans (congrArg (max _) ?_)) ?_)
      · rw [colMax512_at]
        refine congrArg (fun f => Finset.univ.fold max ⊥ f) (funext fun κ => ?_)
        rw [own1536_at, hsc, score_own (i 2).val X3 X4 X6 j κ (by omega)]
        exact congrArg (fun a => raw X3 X4 X6 j a + _) (by simp only; omega)
      · rw [colMax1024_at]
        refine congrArg (fun f => Finset.univ.fold max ⊥ f) (funext fun κ => ?_)
        rw [score_bef _ _ _ _ _ (by omega)]
        refine Eq.trans ?_ (hsc ⟨κ.val, by omega⟩)
        pointwise [bef1536]
    have := lastAcc1536_at (s := score (i 2).val X3 X4 X6 j) i h1 h2 h3 X5 (maxL1536 st.1 sc) (scrL1536 sc) (rescale st.1 (maxL1536 st.1 sc) st.2) r j ?_ ?_
    · rw [hm'] at this; exact this
    · rw [rescale_at, hacc, hm', hm]
      exact rescale_wsum _ _ _ (le_sup_range _) (sup_range_mono _ (by omega))
    · intro κ hκ
      rcases lt_or_ge κ.val 1024 with h | h
      · refine (scrL1536_bef sc ⟨κ.val, h⟩ j).trans ?_
        rw [score_bef _ _ _ _ _ (by omega)]
        exact hsc ⟨κ.val, hκ⟩
      · have e : κ = ⟨1024 + (κ.val - 1024), by omega⟩ := Fin.ext (by simp only; omega)
        rw [e]
        refine (scrL1536_own sc ⟨κ.val - 1024, by omega⟩ j).trans ?_
        rw [own1536_at, hsc, score_own (i 2).val X3 X4 X6 j ⟨κ.val - 1024, by omega⟩ (by simp only; omega)]

/-- A last tile of 1024 keys takes the weighted sums up to the end of the query tile. -/
theorem last1024_at (i : grid0.Coords) (h1 : k0_cond1 i = 1#1) (h2 : ¬(k0_cond2 i = 1#1)) (hrem : (i 2).val % 4 = 1) (X3 : FVec Ideal S1x512x512 .bf16) (X4 : FVec Ideal S1x16384x128 .bf16)
    (X5 : FVec Ideal S1x128x16384 .bf16) (X6 : FVec Ideal S1x1x512x1024 .bf16) (st : FVec Ideal S1x2048 .f32 × FVec Ideal S128x2048 .f32) (j : Fin 2048) (r : Fin 128)
    (hm : st.1 (ix2 0 j) = (Finset.range (2048 * ((i 2).val / 4))).sup (score (i 2).val X3 X4 X6 j))
    (hacc : st.2 (ix2 r j) = wsum (score (i 2).val X3 X4 X6 j) (vals X5 r) ((Finset.range (2048 * ((i 2).val / 4))).sup (score (i 2).val X3 X4 X6 j)) (Finset.range (2048 * ((i 2).val / 4)))) :
    last1024 (F := Ideal) i h1 h2 X3 X4 X5 X6 st (ix2 r j)
      = wsum (score (i 2).val X3 X4 X6 j) (vals X5 r) ((Finset.range (2048 * ((i 2).val / 4) + 1024)).sup (score (i 2).val X3 X4 X6 j)) (Finset.range (2048 * ((i 2).val / 4) + 1024)) := by
    have hsc : ∀ κ : Fin 1024, lastScores1024 (F := Ideal) i h1 h2 X3 X4 X6 (ix2 κ j) = raw X3 X4 X6 j (2048 * ((i 2).val / 4) + κ.val) := fun κ =>
      tile1024_at X3 X4 X6 ((i 2).val / 4) _ _ _ _ (off13_eq i) (off14_eq i) κ j
    unfold last1024
    generalize lastScores1024 (F := Ideal) i h1 h2 X3 X4 X6 = sc at hsc ⊢
    have hm' : maxL1024 (F := Ideal) st.1 sc (ix2 0 j) = (Finset.range (2048 * ((i 2).val / 4) + 1024)).sup (score (i 2).val X3 X4 X6 j) := by
      rw [show 2048 * ((i 2).val / 4) + 1024 = 2048 * ((i 2).val / 4) + 512 + 512 from rfl, ← sup_range_add2, ← hm]
      refine (maximumf_at _ _ _).trans (congrArg₂ max ((maximumf_at _ _ _).trans (congrArg (max _) ?_)) ?_)
      · rw [colMax512_at]
        refine congrArg (fun f => Finset.univ.fold max ⊥ f) (funext fun κ => ?_)
        rw [own1024_at, hsc, score_own (i 2).val X3 X4 X6 j κ (by omega)]
        exact congrArg (fun a => raw X3 X4 X6 j a + _) (by simp only; omega)
      · rw [colMax512_at]
        refine congrArg (fun f => Finset.univ.fold max ⊥ f) (funext fun κ => ?_)
        rw [score_bef _ _ _ _ _ (by omega)]
        refine Eq.trans ?_ (hsc ⟨κ.val, by omega⟩)
        pointwise [bef1024]
    have := lastAcc1024_at (s := score (i 2).val X3 X4 X6 j) i h1 h2 X5 (maxL1024 st.1 sc) (scrL1024 sc) (rescale st.1 (maxL1024 st.1 sc) st.2) r j ?_ ?_
    · rw [hm'] at this; exact this
    · rw [rescale_at, hacc, hm', hm]
      exact rescale_wsum _ _ _ (le_sup_range _) (sup_range_mono _ (by omega))
    · intro κ hκ
      rcases lt_or_ge κ.val 512 with h | h
      · refine (scrL1024_bef sc ⟨κ.val, h⟩ j).trans ?_
        rw [score_bef _ _ _ _ _ (by omega)]
        exact hsc ⟨κ.val, hκ⟩
      · have e : κ = ⟨512 + (κ.val - 512), by omega⟩ := Fin.ext (by simp only; omega)
        rw [e]
        refine (scrL1024_own sc ⟨κ.val - 512, by omega⟩ j).trans ?_
        rw [own1024_at, hsc, score_own (i 2).val X3 X4 X6 j ⟨κ.val - 512, by omega⟩ (by simp only; omega)]

/-- A last tile of 512 keys takes the weighted sums up to the end of the query tile. -/
theorem last512_at (i : grid0.Coords) (h1 : ¬(k0_cond1 i = 1#1)) (hrem : (i 2).val % 4 = 0) (X3 : FVec Ideal S1x512x512 .bf16) (X4 : FVec Ideal S1x16384x128 .bf16)
    (X5 : FVec Ideal S1x128x16384 .bf16) (X6 : FVec Ideal S1x1x512x1024 .bf16) (st : FVec Ideal S1x2048 .f32 × FVec Ideal S128x2048 .f32) (j : Fin 2048) (r : Fin 128)
    (hm : st.1 (ix2 0 j) = (Finset.range (2048 * ((i 2).val / 4))).sup (score (i 2).val X3 X4 X6 j))
    (hacc : st.2 (ix2 r j) = wsum (score (i 2).val X3 X4 X6 j) (vals X5 r) ((Finset.range (2048 * ((i 2).val / 4))).sup (score (i 2).val X3 X4 X6 j)) (Finset.range (2048 * ((i 2).val / 4)))) :
    last512 (F := Ideal) i h1 X3 X4 X5 X6 st (ix2 r j)
      = wsum (score (i 2).val X3 X4 X6 j) (vals X5 r) ((Finset.range (2048 * ((i 2).val / 4) + 512)).sup (score (i 2).val X3 X4 X6 j)) (Finset.range (2048 * ((i 2).val / 4) + 512)) := by
    have hsc : ∀ κ : Fin 512, lastScores512 (F := Ideal) i h1 X3 X4 X6 (ix2 κ j) = raw X3 X4 X6 j (2048 * ((i 2).val / 4) + κ.val) := fun κ =>
      tile512_at X3 X4 X6 ((i 2).val / 4) _ _ _ _ (off16_eq i) (off17_eq i) κ j
    unfold last512
    generalize lastScores512 (F := Ideal) i h1 X3 X4 X6 = sc at hsc ⊢
    have hm' : maxL512 (F := Ideal) st.1 sc (ix2 0 j) = (Finset.range (2048 * ((i 2).val / 4) + 512)).sup (score (i 2).val X3 X4 X6 j) := by
      rw [← sup_range_add, ← hm]
      refine (maximumf_at _ _ _).trans (congrArg (max _) ?_)
      rw [colMax512_at]
      refine congrArg (fun f => Finset.univ.fold max ⊥ f) (funext fun κ => ?_)
      rw [own512_at, hsc, score_own (i 2).val X3 X4 X6 j κ (by omega)]
    have := lastAcc512_at (s := score (i 2).val X3 X4 X6 j) i h1 X5 (maxL512 st.1 sc) (scrL512 sc) (rescale st.1 (maxL512 st.1 sc) st.2) r j ?_ ?_
    · rw [hm'] at this; exact this
    · rw [rescale_at, hacc, hm', hm]
      exact rescale_wsum _ _ _ (le_sup_range _) (sup_range_mono _ (by omega))
    · intro κ hκ
      refine (scrL512_own sc ⟨κ.val, hκ⟩ j).trans ?_
      rw [own512_at, hsc, score_own (i 2).val X3 X4 X6 j ⟨κ.val, hκ⟩ (by simp only; omega)]

/-- THE BLOCK: its accumulator holds, per channel and query, the values weighted by the softmax weights (before
    normalisation) over the keys up to the end of the query tile. -/
theorem blkAcc_at (i : grid0.Coords) (X3 : FVec Ideal S1x512x512 .bf16) (X4 : FVec Ideal S1x16384x128 .bf16)
    (X5 : FVec Ideal S1x128x16384 .bf16) (X6 : FVec Ideal S1x1x512x1024 .bf16) (j : Fin 2048) (r : Fin 128) :
    blkAcc (F := Ideal) i X3 X4 X5 X6 (ix2 r j)
      = wsum (score (i 2).val X3 X4 X6 j) (vals X5 r) ((Finset.range (512 * (i 2).val + 512)).sup (score (i 2).val X3 X4 X6 j)) (Finset.range (512 * (i 2).val + 512)) := by
  obtain ⟨hm, hacc⟩ := sweep_at i X3 X4 X5 X6 j _ le_rfl
  have hacc := hacc r
  unfold blkAcc
  generalize sweep (F := Ideal) i X3 X4 X5 X6 (k0_t1_loop i).trips = st at hm hacc ⊢
  rw [trips_eq] at hm hacc
  have c1 := cond1_iff i
  have c2 := cond2_iff i
  have c3 := cond3_iff i
  unfold last
  split
  · next h1 =>
    split
    · next h2 =>
      split
      · next h3 =>
        have hrem : (i 2).val % 4 = 3 := by have := c1.1 h1; have := c2.1 h2; have := c3.1 h3; omega
        have e : 2048 * ((i 2).val / 4) + 2048 = 512 * (i 2).val + 512 := by omega
        rw [← e]; exact last2048_at i h1 h2 h3 hrem X3 X4 X5 X6 st j r hm hacc
      · next h3 =>
        have hrem : (i 2).val % 4 = 2 := by by_contra h; exact h3 (c3.2 h)
        have e : 2048 * ((i 2).val / 4) + 1536 = 512 * (i 2).val + 512 := by omega
        rw [← e]; exact last1536_at i h1 h2 h3 hrem X3 X4 X5 X6 st j r hm hacc
    · next h2 =>
      have hrem : (i 2).val % 4 = 1 := by by_contra h; exact h2 (c2.2 h)
      have e : 2048 * ((i 2).val / 4) + 1024 = 512 * (i 2).val + 512 := by omega
      rw [← e]; exact last1024_at i h1 h2 hrem X3 X4 X5 X6 st j r hm hacc
  · next h1 =>
    have hrem : (i 2).val % 4 = 0 := by by_contra h; exact h1 (c1.2 h)
    have e : 2048 * ((i 2).val / 4) + 512 = 512 * (i 2).val + 512 := by omega
    rw [← e]; exact last512_at i h1 hrem X3 X4 X5 X6 st j r hm hacc

end Cert.KernelIdeal.Slc
-- ==== Proof.SlcHost.lean ====
module

public import proofs.«01_k».proof.Proof.Gen.KernelIdeal.Frame
public import Idealize.ShloMosaic.Lib.Claim
public import Idealize.ShloMosaic.Lib.Routing.OpsOrder
public import Idealize.ShloMosaic.Lib.Pointwise
public import Idealize.ShloMosaic.Lib.WordCmp
public import Idealize.ShloMosaic.Lib.Pipeline.ValueKit

@[expose] public section

set_option maxRecDepth 16384

noncomputable section

/-! # What the windows' arrays hold, from the arguments -/

namespace Cert.KernelIdeal.Slc

open Cert.KernelIdeal Cert.KernelIdeal.Gen
open Idealize.ShloMosaic Idealize.ShloMosaic.TcCoe Idealize.ShloMosaic.StableHlo Idealize.SL.Sem
open scoped BigOperators

variable (m : (ℓ : Loc nD τ sig) → Buf (Elt Ideal) ℓ) (c : Dev nD)

/-- The queries as launched. -/
abbrev argQ : FVec Ideal S2x16384x768 .f32 := m ((c : Thread nD τ).loc main_arg0)
/-- The keys as launched. -/
abbrev argK : FVec Ideal S2x16384x192 .f32 := m ((c : Thread nD τ).loc main_arg1)
/-- The values as launched. -/
abbrev argV : FVec Ideal S2x16384x192 .f32 := m ((c : Thread nD τ).loc main_arg2)
/-- The selected block numbers as launched. -/
abbrev argI : IVec S2x2x16384x16 32 := m ((c : Thread nD τ).loc main_arg3)
/-- The selection's scores as launched. -/
abbrev argT : FVec Ideal S2x2x16384x16 .f32 := m ((c : Thread nD τ).loc main_arg4)
/-- The gates as launched. -/
abbrev argG : FVec Ideal S2x16384x24 .f32 := m ((c : Thread nD τ).loc main_arg5)
/-- The mask value as launched. -/
abbrev argN : FVec Ideal S_ .f32 := m ((c : Thread nD τ).loc main_arg6)

/-- Whether block `blk` is among the selected blocks of query `t` (of batch `b`, group `g`) whose score counts. -/
def chosen (I : IVec S2x2x16384x16 32) (T : FVec Ideal S2x2x16384x16 .f32) (b g : Fin 2) (t : Fin 16384) (blk : ℕ) : Prop :=
  ∃ n : Fin 16, I (ix4 b g t n) = BitVec.ofNat 32 blk ∧ Ideal.ofBits .f32 0xF0C9F2CA#32 < T (ix4 b g t n)

/-- The scale of the queries: the inverse of the product of the root of 96 and the logarithm of 2. -/
theorem scale_eq : Ideal.div (Ideal.ofBits .f32 0x3F800000#32) (Ideal.sqrt (Ideal.ofBits .f32 0x42C00000#32) * Ideal.log (Ideal.ofBits .f32 0x40000000#32))
    = (((Real.sqrt 96)⁻¹ * (Real.log 2)⁻¹ : ℝ) : EReal) := by
  have h1 : Ideal.ofBits .f32 0x3F800000#32 = ((1 : ℝ) : EReal) := by simp [Ideal.ofBits, Ideal.ieee, -EReal.coe_mul]; norm_num
  have h96 : Ideal.ofBits .f32 0x42C00000#32 = ((96 : ℝ) : EReal) := by simp [Ideal.ofBits, Ideal.ieee, -EReal.coe_mul]; norm_num
  have h2 : Ideal.ofBits .f32 0x40000000#32 = ((2 : ℝ) : EReal) := by simp [Ideal.ofBits, Ideal.ieee, -EReal.coe_mul]; norm_num
  have hs : Real.sqrt 96 ≠ 0 := (Real.sqrt_pos.2 (by norm_num)).ne'
  have hl : Real.log 2 ≠ 0 := (Real.log_pos (by norm_num)).ne'
  rw [h1, h96, h2, Ideal.sqrt_coe, Ideal.log_coe, if_neg (by norm_num), if_neg (by norm_num), ← EReal.coe_mul,
    Ideal.div_coe (mul_ne_zero hs hl), ← EReal.coe_mul]
  congr 1
  field_simp

/-- The integer zero as a float. -/
theorem sitofp_zero : (FloatOps.sitofp FTy.f32 0#32 : Ideal .f32) = 0 := by simp [FloatOps.sitofp]

/-- The queries' array: lane `l` below 96 of head `j / 128` is the scaled query, the lanes above are zero. -/
theorem q_entry (b : Fin 2) (t : Fin 16384) (j : Fin 1024) : V m c main_v9 (ix3 b t j)
    = (if h : j.val % 128 < 96 then argQ m c (ix3 b t ⟨j.val / 128 * 96 + j.val % 128, by omega⟩) else 0) * (((Real.sqrt 96)⁻¹ * (Real.log 2)⁻¹ : ℝ) : EReal) := by
  simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  simp only [TRef.ternary, TRef.binary, TRef.unary, TRef.toBuf, TRef.ofBuf, cast_eq]
  after_results_simp
  rw [← scale_eq]
  pointwise
  refine congrArg (· * _) ?_
  by_cases h : j.val % 128 < 96
  · rw [dif_pos ⟨by omega, h⟩]
    refine Eq.trans ?_ (dif_pos h).symm
    rfl
  · rw [dif_neg (fun e => h e.2), dif_neg h]
    exact sitofp_zero

/-- The lane of a column: its number modulo 128, as words. -/
theorem lane_word : ∀ j : Fin 256, IntOp.andi (BitVec.ofNat 32 j.val) 127#32 = BitVec.ofNat 32 (j.val % 128) := by decide +kernel
/-- The block of a key modulo 32, as words. -/
theorem block_word (t : ℕ) (h : t < 16384) : IntOp.andi (IntOp.shrsi ArithUnit.host (BitVec.ofNat 32 t) 6#32) 31#32 = BitVec.ofNat 32 (t / 64 % 32) := by
  unfold IntOp.shrsi
  rw [if_pos (by decide)]
  change BitVec.sshiftRight (BitVec.ofNat 32 t) 6 &&& 31#32 = _
  rw [BitVec.sshiftRight_eq_of_msb_false (by rw [BitVec.msb_eq_decide]; simp; omega)]
  apply BitVec.eq_of_toNat_eq
  rw [BitVec.toNat_and, BitVec.toNat_ushiftRight, BitVec.toNat_ofNat, BitVec.toNat_ofNat, Nat.shiftRight_eq_div_pow,
    show 31 % 2 ^ 32 = 2 ^ 5 - 1 from rfl, Nat.and_two_pow_sub_one_eq_mod, BitVec.toNat_ofNat]
  omega
/-- A lane past the head's 96, as words. -/
theorem offset_word (x : ℕ) : IntOp.addi (96#32) (BitVec.ofNat 32 x) = BitVec.ofNat 32 (96 + x) := (BitVec.ofNat_add 96 x).symm

/-- The keys' array: lanes below 96 of group `j / 128` are the key, the lane of the key's block one, the others zero. -/
theorem k_entry (b : Fin 2) (t : Fin 16384) (j : Fin 256) : V m c main_v25 (ix3 b t j)
    = if h : j.val % 128 < 96 then argK m c (ix3 b t ⟨j.val / 128 * 96 + j.val % 128, by omega⟩)
      else if j.val % 128 = 96 + t.val / 64 % 32 then 1 else 0 := by
  simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  simp only [TRef.ternary, TRef.binary, TRef.unary, TRef.toBuf, TRef.ofBuf, cast_eq]
  after_results_simp
  pointwise
  have key : IntOp.cmpi CmpIPredicate.eq (IntOp.andi (BitVec.ofNat 32 j.val) 127#32)
        (IntOp.addi (96#32) (IntOp.andi (IntOp.shrsi ArithUnit.host (BitVec.ofNat 32 t.val) 6#32) 31#32))
      = BitVec.ofBool (decide (j.val % 128 = 96 + t.val / 64 % 32)) := by
    rw [lane_word, block_word _ t.isLt, offset_word, WordCmp.cmpi_eq_ofNat (by omega) (by omega)]
  by_cases h : j.val % 128 < 96
  · refine (WordCmp.select_of_eq_zero (key.trans ?_) _ _).trans ((dif_pos ⟨by omega, h⟩).trans (Eq.trans ?_ (dif_pos h).symm))
    · rw [decide_eq_false (by omega)]; rfl
    · rfl
  · refine Eq.trans ?_ (dif_neg h).symm
    by_cases h2 : j.val % 128 = 96 + t.val / 64 % 32
    · refine (WordCmp.select_of_eq_one (key.trans ?_) _ _).trans (Eq.trans ?_ (if_pos h2).symm)
      · rw [decide_eq_true h2]; rfl
      · exact Ideal.ofBits_one_f32
    · refine (WordCmp.select_of_eq_zero (key.trans ?_) _ _).trans ((dif_neg (fun e => h e.2)).trans (Eq.trans ?_ (if_neg h2).symm))
      · rw [decide_eq_false h2]; rfl
      · exact sitofp_zero

/-- The values' array: channels below 96 of group `j / 128` are the value, channel 96 is one, the others zero. -/
theorem v_entry (b : Fin 2) (j : Fin 256) (t : Fin 16384) : V m c main_v36 (ix3 b j t)
    = if h : j.val % 128 < 96 then argV m c (ix3 b t ⟨j.val / 128 * 96 + j.val % 128, by omega⟩)
      else if j.val % 128 = 96 then 1 else 0 := by
  simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  simp only [TRef.ternary, TRef.binary, TRef.unary, TRef.toBuf, TRef.ofBuf, cast_eq]
  after_results_simp
  pointwise
  have key : IntOp.cmpi CmpIPredicate.eq (IntOp.andi (BitVec.ofNat 32 j.val) 127#32) 96#32
      = BitVec.ofBool (decide (j.val % 128 = 96)) := by
    rw [lane_word]
    exact WordCmp.cmpi_eq_ofNat (a := j.val % 128) (b := 96) (by omega) (by omega)
  by_cases h : j.val % 128 < 96
  · refine (WordCmp.select_of_eq_zero (key.trans ?_) _ _).trans ((dif_pos ⟨by omega, h⟩).trans (Eq.trans ?_ (dif_pos h).symm))
    · rw [decide_eq_false (by omega)]; rfl
    · rfl
  · refine Eq.trans ?_ (dif_neg h).symm
    by_cases h2 : j.val % 128 = 96
    · refine (WordCmp.select_of_eq_one (key.trans ?_) _ _).trans (Eq.trans ?_ (if_pos h2).symm)
      · rw [decide_eq_true h2]; rfl
      · exact Ideal.ofBits_one_f32
    · refine (WordCmp.select_of_eq_zero (key.trans ?_) _ _).trans ((dif_neg (fun e => h e.2)).trans (Eq.trans ?_ (if_neg h2).symm))
      · rw [decide_eq_false h2]; rfl
      · exact sitofp_zero

/-- The gates' array: rows below 12 of group `j / 128` are the gates. -/
theorem g_entry (b : Fin 2) (j : Fin 256) (h : j.val % 128 < 12) (t : Fin 16384) : V m c main_v40 (ix3 b j t)
    = argG m c (ix3 b t ⟨j.val / 128 * 12 + j.val % 128, by omega⟩) := by
  simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  simp only [TRef.ternary, TRef.binary, TRef.unary, TRef.toBuf, TRef.ofBuf, cast_eq]
  after_results_simp
  pointwise
  rw [dif_pos ⟨by omega, h⟩]

open Classical in
/-- The selection's array: zero below lane 96; above, zero for a chosen block and the mask value for the others. -/
theorem s_entry (b g : Fin 2) (t : Fin 16384) (j : Fin 1024) : V m c main_v58 (ix4 b g t j)
    = if 96 ≤ j.val % 128 then
        if chosen (argI m c) (argT m c) b g t (j.val / 128 * 32 + (j.val % 128 - 96)) then 0 else argN m c ix0
      else 0 := by
  simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  simp only [TRef.ternary, TRef.binary, TRef.unary, TRef.toBuf, TRef.ofBuf, cast_eq]
  after_results_simp
  pointwise
  by_cases h : 96 ≤ j.val % 128
  · rw [dif_pos ⟨by omega, h, by omega⟩, if_pos h]
    by_cases hc : chosen (argI m c) (argT m c) b g t (j.val / 128 * 32 + (j.val % 128 - 96))
    · rw [if_pos hc]
      refine (WordCmp.select_of_eq_one ((Routing.fold_ori _ _).2 ?_) _ _).trans ?_
      · obtain ⟨n, hn, hT⟩ := hc
        refine ⟨n, Finset.mem_univ _, ?_⟩
        exact IntOp.andi_eq_one.2 ⟨IntOp.cmpi_eq.2 hn, (WordCmp.ofBool_decide_eq_one_iff _).2 hT⟩
      · exact Ideal.ofBits_zero_f32
    · rw [if_neg hc]
      refine WordCmp.select_of_eq_zero ?_ _ _
      refine (BitVec.eq_zero_or_eq_one _).resolve_right fun e => hc ?_
      obtain ⟨n, -, hn⟩ := (Routing.fold_ori _ _).1 e
      obtain ⟨h1, h2⟩ := IntOp.andi_eq_one.1 hn
      exact ⟨n, IntOp.cmpi_eq.1 h1, (WordCmp.ofBool_decide_eq_one_iff _).1 h2⟩
  · rw [dif_neg (fun e => h e.2.1), if_neg h, sitofp_zero]

end Cert.KernelIdeal.Slc
-- ==== Proof.SlcRef.lean ====
module

public import proofs.«01_k».proof.Proof.Gen.ReferenceIdeal.Run
public import Idealize.ShloMosaic.Lib.Claim
public import Idealize.ShloMosaic.Lib.Pointwise
public import Idealize.ShloMosaic.Lib.WordCmp
public import Idealize.ShloMosaic.Lib.IdealHost

@[expose] public section

set_option maxRecDepth 16384

noncomputable section
namespace Cert.ReferenceIdeal.Slc

open Cert.ReferenceIdeal Cert.ReferenceIdeal.Gen Cert.ReferenceIdeal.Value
open Idealize.ShloMosaic Idealize.ShloMosaic.TcCoe Idealize.ShloMosaic.StableHlo Idealize.SL.Sem
open scoped BigOperators

variable (m : (ℓ : Loc nD τ sig) → Buf (Elt Ideal) ℓ) (c : Dev nD)

/-- The reference's read of whole blocks: where the three start coordinates are in range, the element read is
    the table's at those coordinates and at the position inside the block. -/
theorem gather_at {α : Type} (X : S2x2x256x64x96.Idx → α) (idx : IVec S2x2x16384x16x3 32) (b g : Fin 2)
    (t : Fin 16384) (n : Fin 16) (p : Fin 64) (d : Fin 96) (k : Fin 256)
    (h0 : (idx (ix5 b g t n 0)).toInt.toNat = b.val) (h1 : (idx (ix5 b g t n 1)).toInt.toNat = g.val)
    (h2 : (idx (ix5 b g t n 2)).toInt.toNat = k.val) :
    Host.gather gather_S2x2x256x64x96_S2x2x16384x16x3_S2x2x16384x16x64x96_45_012_n_n_012_4_1116496 X idx (ix6 b g t n p d) = X (ix5 b g k p d) := by
  have s0 : gather_S2x2x256x64x96_S2x2x16384x16x3_S2x2x16384x16x64x96_45_012_n_n_012_4_1116496.siIdx (ix6 b g t n p d) ⟨0, by decide⟩ = ix5 b g t n 0 := by
    funext a; refine Fin.ext ?_
    match a with
    | ⟨0, _⟩ => rfl
    | ⟨1, _⟩ => rfl
    | ⟨2, _⟩ => rfl
    | ⟨3, _⟩ => rfl
    | ⟨4, _⟩ => rfl
  have s1 : gather_S2x2x256x64x96_S2x2x16384x16x3_S2x2x16384x16x64x96_45_012_n_n_012_4_1116496.siIdx (ix6 b g t n p d) ⟨1, by decide⟩ = ix5 b g t n 1 := by
    funext a; refine Fin.ext ?_
    match a with
    | ⟨0, _⟩ => rfl
    | ⟨1, _⟩ => rfl
    | ⟨2, _⟩ => rfl
    | ⟨3, _⟩ => rfl
    | ⟨4, _⟩ => rfl
  have s2 : gather_S2x2x256x64x96_S2x2x16384x16x3_S2x2x16384x16x64x96_45_012_n_n_012_4_1116496.siIdx (ix6 b g t n p d) ⟨2, by decide⟩ = ix5 b g t n 2 := by
    funext a; refine Fin.ext ?_
    match a with
    | ⟨0, _⟩ => rfl
    | ⟨1, _⟩ => rfl
    | ⟨2, _⟩ => rfl
    | ⟨3, _⟩ => rfl
    | ⟨4, _⟩ => rfl
  unfold Host.gather
  congr 1
  funext a
  refine Fin.ext ?_
  show gather_S2x2x256x64x96_S2x2x16384x16x3_S2x2x16384x16x64x96_45_012_n_n_012_4_1116496.start (ix6 b g t n p d) idx a + gather_S2x2x256x64x96_S2x2x16384x16x3_S2x2x16384x16x64x96_45_012_n_n_012_4_1116496.batchCoord (ix6 b g t n p d) a + gather_S2x2x256x64x96_S2x2x16384x16x3_S2x2x16384x16x64x96_45_012_n_n_012_4_1116496.offCoord (ix6 b g t n p d) a = _
  rw [GatherDims.batchCoord_eq_zero _ _ _ (List.not_mem_nil), Nat.add_zero]
  match a with
  | ⟨0, _⟩ =>
    have e : gather_S2x2x256x64x96_S2x2x16384x16x3_S2x2x16384x16x64x96_45_012_n_n_012_4_1116496.offCoord (ix6 b g t n p d) (0 : Fin 5) = 0 := GatherDims.offCoord_eq_zero _ _ _ (by decide)
    show min (idx (gather_S2x2x256x64x96_S2x2x16384x16x3_S2x2x16384x16x64x96_45_012_n_n_012_4_1116496.siIdx (ix6 b g t n p d) ⟨0, by decide⟩)).toInt.toNat 1 + gather_S2x2x256x64x96_S2x2x16384x16x3_S2x2x16384x16x64x96_45_012_n_n_012_4_1116496.offCoord (ix6 b g t n p d) (0 : Fin 5) = b.val
    rw [e, s0, h0]; omega
  | ⟨1, _⟩ =>
    have e : gather_S2x2x256x64x96_S2x2x16384x16x3_S2x2x16384x16x64x96_45_012_n_n_012_4_1116496.offCoord (ix6 b g t n p d) (1 : Fin 5) = 0 := GatherDims.offCoord_eq_zero _ _ _ (by decide)
    show min (idx (gather_S2x2x256x64x96_S2x2x16384x16x3_S2x2x16384x16x64x96_45_012_n_n_012_4_1116496.siIdx (ix6 b g t n p d) ⟨1, by decide⟩)).toInt.toNat 1 + gather_S2x2x256x64x96_S2x2x16384x16x3_S2x2x16384x16x64x96_45_012_n_n_012_4_1116496.offCoord (ix6 b g t n p d) (1 : Fin 5) = g.val
    rw [e, s1, h1]; omega
  | ⟨2, _⟩ =>
    have e : gather_S2x2x256x64x96_S2x2x16384x16x3_S2x2x16384x16x64x96_45_012_n_n_012_4_1116496.offCoord (ix6 b g t n p d) (2 : Fin 5) = 0 := GatherDims.offCoord_eq_zero _ _ _ (by decide)
    show min (idx (gather_S2x2x256x64x96_S2x2x16384x16x3_S2x2x16384x16x64x96_45_012_n_n_012_4_1116496.siIdx (ix6 b g t n p d) ⟨2, by decide⟩)).toInt.toNat 255 + gather_S2x2x256x64x96_S2x2x16384x16x3_S2x2x16384x16x64x96_45_012_n_n_012_4_1116496.offCoord (ix6 b g t n p d) (2 : Fin 5) = k.val
    rw [e, s2, h2]; omega
  | ⟨3, _⟩ =>
    show 0 + p.val = p.val
    omega
  | ⟨4, _⟩ =>
    show 0 + d.val = d.val
    omega

/-- The block chosen for one place of one query's selection. -/
def block (I : S2x2x16384x16.Idx → BitVec 32) (b g : Fin 2) (t : Fin 16384) (n : Fin 16) : Fin 256 :=
  ⟨(I (ix4 b g t n)).toNat % 256, Nat.mod_lt _ (by decide)⟩

/-- The key at place `x` of the list of 1024 keys gathered for one query. -/
def key (I : S2x2x16384x16.Idx → BitVec 32) (b g : Fin 2) (t : Fin 16384) (x : Fin 1024) : Fin 16384 :=
  ⟨(block I b g t ⟨x.val / 64, by omega⟩).val * 64 + x.val % 64, by omega⟩

/-- The array of start coordinates the reference forms from the selection. -/
def starts (I : S2x2x16384x16.Idx → BitVec 32) : IVec S2x2x16384x16x3 32 :=
  ((concatenate S2x2x16384x16x3 4 [⟨S2x2x16384x16x1, ((broadcastInDim S2x2x16384x16x1 ![0, 1, 2, 3] bcast_S2x2x16384x16_S2x2x16384x16x1_0_1_2_3 (broadcastInDim S2x2x16384x16 ![0, 1, 2, 3] bcast_S2x1x1x1_S2x2x16384x16_0_1_2_3 (select (cmpi .slt (broadcastInDim S2x1x1x1 ![0] bcast_S2_S2x1x1x1_0 (iotaInDim S2 32 0)) (broadcastInDim S2x1x1x1 ![] bcast_S_S2x1x1x1 (constantI S_ 32 0#32))) (addi (broadcastInDim S2x1x1x1 ![0] bcast_S2_S2x1x1x1_0 (iotaInDim S2 32 0)) (broadcastInDim S2x1x1x1 ![] bcast_S_S2x1x1x1 (constantI S_ 32 2#32))) (broadcastInDim S2x1x1x1 ![0] bcast_S2_S2x1x1x1_0 (iotaInDim S2 32 0))))) : (⟨S2x2x16384x16x1, .i32⟩ : BufTy).Contents (Elt Ideal))⟩, ⟨S2x2x16384x16x1, ((broadcastInDim S2x2x16384x16x1 ![0, 1, 2, 3] bcast_S2x2x16384x16_S2x2x16384x16x1_0_1_2_3 (broadcastInDim S2x2x16384x16 ![0, 1, 2, 3] bcast_S1x2x1x1_S2x2x16384x16_0_1_2_3 (select (cmpi .slt (broadcastInDim S1x2x1x1 ![1] bcast_S2_S1x2x1x1_1 (iotaInDim S2 32 0)) (broadcastInDim S1x2x1x1 ![] bcast_S_S1x2x1x1 (constantI S_ 32 0#32))) (addi (broadcastInDim S1x2x1x1 ![1] bcast_S2_S1x2x1x1_1 (iotaInDim S2 32 0)) (broadcastInDim S1x2x1x1 ![] bcast_S_S1x2x1x1 (constantI S_ 32 2#32))) (broadcastInDim S1x2x1x1 ![1] bcast_S2_S1x2x1x1_1 (iotaInDim S2 32 0))))) : (⟨S2x2x16384x16x1, .i32⟩ : BufTy).Contents (Elt Ideal))⟩, ⟨S2x2x16384x16x1, ((broadcastInDim S2x2x16384x16x1 ![0, 1, 2, 3] bcast_S2x2x16384x16_S2x2x16384x16x1_0_1_2_3 (select (cmpi .slt I (broadcastInDim S2x2x16384x16 ![] bcast_S_S2x2x16384x16 (constantI S_ 32 0#32))) (addi I (broadcastInDim S2x2x16384x16 ![] bcast_S_S2x2x16384x16 (constantI S_ 32 256#32))) I)) : (⟨S2x2x16384x16x1, .i32⟩ : BufTy).Contents (Elt Ideal))⟩] concatenates_S2x2x16384x16x1_S2x2x16384x16x1_S2x2x16384x16x1_S2x2x16384x16x3_d4 : (⟨S2x2x16384x16x3, .i32⟩ : BufTy).Contents (Elt Ideal)))

/-- The first start coordinate is the batch's number. -/
theorem starts_batch (I : S2x2x16384x16.Idx → BitVec 32) (b g : Fin 2) (t : Fin 16384) (n : Fin 16) :
    (starts I (ix5 b g t n 0)).toInt.toNat = b.val := by
  have e : starts I (ix5 b g t n 0) = Scalar.select (IntOp.cmpi .slt (BitVec.ofNat 32 b.val) 0#32)
      (IntOp.addi (BitVec.ofNat 32 b.val) 2#32) (BitVec.ofNat 32 b.val) := by pointwise [starts]
  rw [e]
  clear e; revert b; decide

/-- The second start coordinate is the group's number. -/
theorem starts_group (I : S2x2x16384x16.Idx → BitVec 32) (b g : Fin 2) (t : Fin 16384) (n : Fin 16) :
    (starts I (ix5 b g t n 1)).toInt.toNat = g.val := by
  have e : starts I (ix5 b g t n 1) = Scalar.select (IntOp.cmpi .slt (BitVec.ofNat 32 g.val) 0#32)
      (IntOp.addi (BitVec.ofNat 32 g.val) 2#32) (BitVec.ofNat 32 g.val) := by pointwise [starts]
  rw [e]
  clear e; revert g; decide

/-- The third start coordinate is the selected block, where the selection is in range. -/
theorem starts_block (I : S2x2x16384x16.Idx → BitVec 32) (b g : Fin 2) (t : Fin 16384) (n : Fin 16)
    (h : (I (ix4 b g t n)).toNat < 256) :
    (starts I (ix5 b g t n 2)).toInt.toNat = (block I b g t n).val := by
  have e : starts I (ix5 b g t n 2) = Scalar.select (IntOp.cmpi .slt (I (ix4 b g t n)) 0#32)
      (IntOp.addi (I (ix4 b g t n)) 256#32) (I (ix4 b g t n)) := by pointwise [starts]
  have hs : IntOp.cmpi .slt (I (ix4 b g t n)) 0#32 = 0#1 := by
    show BitVec.ofBool (BitVec.slt _ _) = _
    have : ¬ (I (ix4 b g t n)).toInt < 0 := by rw [BitVec.toInt_eq_toNat_of_lt (by omega)]; omega
    simp [BitVec.slt, this]
  rw [e, WordCmp.select_of_eq_zero hs, BitVec.toInt_eq_toNat_of_lt (by omega)]
  show _ = (I (ix4 b g t n)).toNat % 256
  omega

/-- One gathered element: the array's at the chosen key. -/
theorem picked_at (X : S2x16384x192.Idx → EReal) (I : S2x2x16384x16.Idx → BitVec 32) (b g : Fin 2)
    (t : Fin 16384) (n : Fin 16) (p : Fin 64) (d : Fin 96) (h : (I (ix4 b g t n)).toNat < 256) :
    Host.gather gather_S2x2x256x64x96_S2x2x16384x16x3_S2x2x16384x16x64x96_45_012_n_n_012_4_1116496 (shapeCast S2x2x256x64x96 (transpose S2x2x16384x96 [0, 2, 1, 3] (shapeCast S2x16384x2x96 X
        shapeCasts_S2x16384x192_S2x16384x2x96) transposes_S2x16384x2x96_S2x2x16384x96_0_2_1_3)
        shapeCasts_S2x2x16384x96_S2x2x256x64x96) (starts I) (ix6 b g t n p d)
      = X (ix3 b ⟨(block I b g t n).val * 64 + p.val, by omega⟩ ⟨g.val * 96 + d.val, by omega⟩) := by
  rw [gather_at _ _ b g t n p d (block I b g t n) (starts_batch I b g t n) (starts_group I b g t n)
    (starts_block I b g t n h)]
  pointwise

/-- Whether a gathered key takes part: at or before the query, in a block whose score is above the floor. -/
def pick (I : S2x2x16384x16.Idx → BitVec 32) (T : S2x2x16384x16.Idx → EReal) (b g : Fin 2) (t : Fin 16384)
    (x : Fin 1024) : BitVec 1 :=
  IntOp.andi
    (IntOp.cmpi .sle (IntOp.addi (IntOp.muli (I (ix4 b g t ⟨x.val / 64, by omega⟩)) 64#32) (BitVec.ofNat 32 (x.val % 64)))
      (BitVec.ofNat 32 t.val))
    (BitVec.ofBool (decide (Ideal.ofBits .f32 0xF0C9F2CA#32 < T (ix4 b g t ⟨x.val / 64, by omega⟩))))

/-- The masked product of one query with one gathered key, for the result column `j`. -/
def logit (Q : S2x16384x768.Idx → EReal) (K : S2x16384x192.Idx → EReal) (I : S2x2x16384x16.Idx → BitVec 32)
    (T : S2x2x16384x16.Idx → EReal) (N : EReal) (b : Fin 2) (t : Fin 16384) (j : Fin 768) (x : Fin 1024) : EReal :=
  Scalar.select (pick I T b ⟨j.val / 384, by omega⟩ t x)
    (∑ l : Fin 96, K (ix3 b (key I b ⟨j.val / 384, by omega⟩ t x) ⟨j.val / 384 * 96 + l.val, by omega⟩)
      * Ideal.div (Q (ix3 b t ⟨j.val / 384 * 384 + j.val / 96 % 4 * 96 + l.val, by omega⟩))
          (Ideal.sqrt (Ideal.ofBits .f32 0x42C00000#32)))
    N

/-- The weight of one gathered key before division by their sum. -/
def weight (Q : S2x16384x768.Idx → EReal) (K : S2x16384x192.Idx → EReal) (I : S2x2x16384x16.Idx → BitVec 32)
    (T : S2x2x16384x16.Idx → EReal) (N : EReal) (b : Fin 2) (t : Fin 16384) (j : Fin 768) (x : Fin 1024) : EReal :=
  Ideal.exp (logit Q K I T N b t j x
      - Finset.fold max (Ideal.ofBits .f32 0xFF800000#32) (logit Q K I T N b t j) Finset.univ)
    * FloatOps.uitofp (F := Ideal) .f32 (pick I T b ⟨j.val / 384, by omega⟩ t x)

/-- The queries. -/
abbrev argQ : S2x16384x768.Idx → EReal := m ((c.tc : Thread nD τ).loc main_arg0)
/-- The keys. -/
abbrev argK : S2x16384x192.Idx → EReal := m ((c.tc : Thread nD τ).loc main_arg1)
/-- The values. -/
abbrev argV : S2x16384x192.Idx → EReal := m ((c.tc : Thread nD τ).loc main_arg2)
/-- The selected blocks. -/
abbrev argI : S2x2x16384x16.Idx → BitVec 32 := m ((c.tc : Thread nD τ).loc main_arg3)
/-- The scores of the selected blocks. -/
abbrev argT : S2x2x16384x16.Idx → EReal := m ((c.tc : Thread nD τ).loc main_arg4)
/-- The gates. -/
abbrev argG : S2x16384x24.Idx → EReal := m ((c.tc : Thread nD τ).loc main_arg5)
/-- The mask value. -/
abbrev argN : S_.Idx → EReal := m ((c.tc : Thread nD τ).loc main_arg6)

/-- The selected branch at one index: a gate times the mean of the chosen keys' values under their weights. -/
def branch (Q : S2x16384x768.Idx → EReal) (K V : S2x16384x192.Idx → EReal) (I : S2x2x16384x16.Idx → BitVec 32)
    (T : S2x2x16384x16.Idx → EReal) (G : S2x16384x24.Idx → EReal) (N : EReal) (b : Fin 2) (t : Fin 16384) (j : Fin 768) : EReal :=
  G (ix3 b t ⟨j.val / 384 * 12 + j.val / 96 % 4 * 3 + 1, by omega⟩)
    * ∑ x : Fin 1024, V (ix3 b (key I b ⟨j.val / 384, by omega⟩ t x) ⟨j.val / 384 * 96 + j.val % 96, by omega⟩)
      * Ideal.div (weight Q K I T N b t j x)
          (max (∑ y : Fin 1024, weight Q K I T N b t j y) (Ideal.ofBits .f32 0x0DA24260#32))

/-- The reference's result at one index, where the selection is in range. -/
theorem ref_at (b : Fin 2) (t : Fin 16384) (j : Fin 768)
    (h : ∀ (b g : Fin 2) (t : Fin 16384) (n : Fin 16), (argI m c (ix4 b g t n)).toNat < 256) :
    res_main_v106 m c (ix3 b t j)
      = branch (argQ m c) (argK m c) (argV m c) (argI m c) (argT m c) (argG m c) (argN m c ix0) b t j := by
  have hK : ∀ (X : S2x16384x192.Idx → EReal) (GK : S2x2x16384x16x64x96.Idx → EReal),
      Host.gather gather_S2x2x256x64x96_S2x2x16384x16x3_S2x2x16384x16x64x96_45_012_n_n_012_4_1116496 (shapeCast S2x2x256x64x96 (transpose S2x2x16384x96 [0, 2, 1, 3] (shapeCast S2x16384x2x96 X
        shapeCasts_S2x16384x192_S2x16384x2x96) transposes_S2x16384x2x96_S2x2x16384x96_0_2_1_3)
        shapeCasts_S2x2x16384x96_S2x2x256x64x96) (starts (argI m c)) = GK →
      ∀ (b g : Fin 2) (t : Fin 16384) (n : Fin 16) (p : Fin 64) (d : Fin 96), GK (ix6 b g t n p d)
        = X (ix3 b ⟨(block (argI m c) b g t n).val * 64 + p.val, by omega⟩ ⟨g.val * 96 + d.val, by omega⟩) := by
    intro X GK e b g t n p d
    rw [← e]
    exact picked_at X _ b g t n p d (h b g t n)
  unfold res_main_v106
  generalize eK : Host.gather _ (shapeCast _ (transpose _ _ (shapeCast _ (m ((c.tc : Thread nD τ).loc main_arg1)) _) _) _) _ = GK
  generalize eV : Host.gather _ _ _ = GV
  have hk := hK _ GK eK
  have hv := hK _ GV eV
  clear eK eV hK h
  unfold branch
  pointwise
  simp only [hk, hv]
  rfl

end Cert.ReferenceIdeal.Slc
-- ==== Proof.SlcScore.lean ====
module

public import proofs.«01_k».proof.Proof.SlcAcc
public import proofs.«01_k».proof.Proof.SlcHost
public import proofs.«01_k».proof.Proof.SlcRef

@[expose] public section

set_option maxRecDepth 16384

noncomputable section

/-! # A block of the kernel against the reference's branch, element by element -/

namespace Cert.KernelIdeal.Slc

open Cert.KernelIdeal Cert.KernelIdeal.Gen Cert.OnlineSoftmax
open Idealize.ShloMosaic Idealize.ShloMosaic.TcCoe
open scoped BigOperators

/-- The product of a query's and a key's lanes, the query divided by the root of the head's width. -/
theorem div_root (x : EReal) : Ideal.div x (Ideal.sqrt (Ideal.ofBits .f32 0x42C00000#32)) = x * (((Real.sqrt 96)⁻¹ : ℝ) : EReal) := by
  have h96 : Ideal.ofBits .f32 0x42C00000#32 = ((96 : ℝ) : EReal) := by simp [Ideal.ofBits, Ideal.ieee, -EReal.coe_mul]; norm_num
  have hs : Real.sqrt 96 ≠ 0 := (Real.sqrt_pos.2 (by norm_num)).ne'
  rw [h96, Ideal.sqrt_coe, if_neg (by norm_num), Ideal.div_coe hs, one_div]

open Classical in
/-- THE SCORE WITHOUT THE CAUSAL MASK. Where the key lanes hold the key and the mark of its block, the query lanes the
    scaled query, and the selection lanes zero for a chosen block and minus infinity for the others, the product over
    all 128 lanes is the scaled product over the head's 96 for a key of a chosen block, and minus infinity for the others. -/
theorem raw_eq (X3 : FVec Ideal S1x512x512 .bf16) (X4 : FVec Ideal S1x16384x128 .bf16) (X6 : FVec Ideal S1x1x512x1024 .bf16)
    (j : Fin 2048) (κ : ℕ) (hκ : κ < 16384) (ch : ℕ → Prop) (Qf Kf : Fin 96 → EReal)
    (hX3 : ∀ (l : Fin 128) (h), X3 (ix3 0 ⟨j.val % 512, by omega⟩ ⟨j.val / 512 * 128 + l.val, h⟩)
      = (if h : l.val < 96 then Qf ⟨l.val, h⟩ else 0) * (((Real.sqrt 96)⁻¹ * (Real.log 2)⁻¹ : ℝ) : EReal))
    (hX4 : ∀ l : Fin 128, X4 (ix3 0 ⟨κ, hκ⟩ l) = if h : l.val < 96 then Kf ⟨l.val, h⟩ else if l.val = 96 + κ / 64 % 32 then 1 else 0)
    (hX6 : ∀ (l : Fin 128) (h), X6 (ix4 0 0 ⟨j.val % 512, by omega⟩ ⟨κ / 2048 * 128 + l.val, h⟩)
      = if 96 ≤ l.val then if ch (κ / 2048 * 32 + (l.val - 96)) then 0 else ⊥ else 0) :
    raw X3 X4 X6 j κ = if ch (κ / 64) then (((Real.log 2)⁻¹ : ℝ) : EReal) * ∑ l : Fin 96, Kf l * (Qf l * (((Real.sqrt 96)⁻¹ : ℝ) : EReal)) else ⊥ := by
  have hl : 0 ≤ (Real.log 2)⁻¹ := (inv_pos.2 (Real.log_pos (by norm_num))).le
  unfold raw
  rw [dif_pos hκ]
  simp only [hX3, hX4, hX6]
  have hsplit := Fin.sum_univ_add (a := 96) (b := 32) (M := EReal) (fun l : Fin 128 =>
    (if h : l.val < 96 then Kf ⟨l.val, h⟩ else if l.val = 96 + κ / 64 % 32 then 1 else 0)
      * ((if h : l.val < 96 then Qf ⟨l.val, h⟩ else 0) * (((Real.sqrt 96)⁻¹ * (Real.log 2)⁻¹ : ℝ) : EReal)
        + if 96 ≤ l.val then if ch (κ / 2048 * 32 + (l.val - 96)) then 0 else ⊥ else 0))
  refine hsplit.trans ?_
  have h1 : ∀ l : Fin 96, (if h : (Fin.castAdd 32 l).val < 96 then Kf ⟨(Fin.castAdd 32 l).val, h⟩ else if (Fin.castAdd 32 l).val = 96 + κ / 64 % 32 then 1 else 0)
      * ((if h : (Fin.castAdd 32 l).val < 96 then Qf ⟨(Fin.castAdd 32 l).val, h⟩ else 0) * (((Real.sqrt 96)⁻¹ * (Real.log 2)⁻¹ : ℝ) : EReal)
        + if 96 ≤ (Fin.castAdd 32 l).val then if ch (κ / 2048 * 32 + ((Fin.castAdd 32 l).val - 96)) then 0 else ⊥ else 0)
      = (((Real.log 2)⁻¹ : ℝ) : EReal) * (Kf l * (Qf l * (((Real.sqrt 96)⁻¹ : ℝ) : EReal))) := by
    intro l
    have hlt : (Fin.castAdd 32 l).val < 96 := l.isLt
    rw [dif_pos hlt, dif_pos hlt, if_neg (by omega), add_zero, EReal.coe_mul]
    show Kf l * (Qf l * _) = _
    ac_rfl
  have h2 : ∀ k : Fin 32, (if h : (Fin.natAdd 96 k).val < 96 then Kf ⟨(Fin.natAdd 96 k).val, h⟩ else if (Fin.natAdd 96 k).val = 96 + κ / 64 % 32 then 1 else 0)
      * ((if h : (Fin.natAdd 96 k).val < 96 then Qf ⟨(Fin.natAdd 96 k).val, h⟩ else 0) * (((Real.sqrt 96)⁻¹ * (Real.log 2)⁻¹ : ℝ) : EReal)
        + if 96 ≤ (Fin.natAdd 96 k).val then if ch (κ / 2048 * 32 + ((Fin.natAdd 96 k).val - 96)) then 0 else ⊥ else 0)
      = if k = ⟨κ / 64 % 32, by omega⟩ then (if ch (κ / 64) then 0 else ⊥ : EReal) else 0 := by
    intro k
    have hv : (Fin.natAdd 96 k).val = 96 + k.val := rfl
    rw [hv, dif_neg (by omega), dif_neg (by omega), if_pos (show 96 ≤ 96 + k.val by omega), zero_mul, zero_add]
    by_cases hk : k.val = κ / 64 % 32
    · rw [if_pos (show 96 + k.val = 96 + κ / 64 % 32 by omega), if_pos (Fin.ext hk), one_mul,
        show κ / 2048 * 32 + (96 + k.val - 96) = κ / 64 by omega]
    · rw [if_neg (show ¬ 96 + k.val = 96 + κ / 64 % 32 by omega), if_neg (fun e => hk (congrArg Fin.val e)), zero_mul]
  rw [Finset.sum_congr rfl fun l _ => h1 l, Finset.sum_congr rfl fun k _ => h2 k, Finset.sum_ite_eq' Finset.univ, if_pos (Finset.mem_univ _),
    ← real_mul_sum _ _ hl]
  split
  · rw [add_zero]
  · rw [EReal.add_bot]

open Classical in
/-- The score with the causal mask. -/
theorem score_eq (n : ℕ) (X3 : FVec Ideal S1x512x512 .bf16) (X4 : FVec Ideal S1x16384x128 .bf16) (X6 : FVec Ideal S1x1x512x1024 .bf16)
    (j : Fin 2048) (κ : ℕ) (ch : Prop) (S : EReal) (h : raw X3 X4 X6 j κ = if ch then (((Real.log 2)⁻¹ : ℝ) : EReal) * S else ⊥) :
    score n X3 X4 X6 j κ = if ch ∧ κ ≤ 512 * n + j.val % 512 then (((Real.log 2)⁻¹ : ℝ) : EReal) * S else ⊥ := by
  unfold score
  rw [h]
  by_cases h1 : ch <;> by_cases h2 : κ ≤ 512 * n + j.val % 512 <;> simp [h1, h2]

/-- When a gathered key takes part: its number is at most the query's, and its block's score is above the floor. -/
theorem pick_iff (I : IVec S2x2x16384x16 32) (T : FVec Ideal S2x2x16384x16 .f32) (b g : Fin 2) (t : Fin 16384)
    (hI : ∀ (b g : Fin 2) (t : Fin 16384) (n : Fin 16), (I (ix4 b g t n)).toNat < 256) (x : Fin 1024) :
    Cert.ReferenceIdeal.Slc.pick I T b g t x = 1#1
      ↔ (Cert.ReferenceIdeal.Slc.key I b g t x).val ≤ t.val ∧ Ideal.ofBits .f32 0xF0C9F2CA#32 < T (ix4 b g t ⟨x.val / 64, by omega⟩) := by
  have hx := hI b g t ⟨x.val / 64, by omega⟩
  have hkey : (Cert.ReferenceIdeal.Slc.key I b g t x).val = (I (ix4 b g t ⟨x.val / 64, by omega⟩)).toNat * 64 + x.val % 64 := by
    show (I (ix4 b g t ⟨x.val / 64, by omega⟩)).toNat % 256 * 64 + x.val % 64 = _
    omega
  have hw : IntOp.addi (IntOp.muli (I (ix4 b g t ⟨x.val / 64, by omega⟩)) 64#32) (BitVec.ofNat 32 (x.val % 64))
      = BitVec.ofNat 32 ((I (ix4 b g t ⟨x.val / 64, by omega⟩)).toNat * 64 + x.val % 64) := by
    generalize I (ix4 b g t ⟨x.val / 64, by omega⟩) = w at hx
    apply BitVec.eq_of_toNat_eq
    show ((w * 64#32) + BitVec.ofNat 32 (x.val % 64)).toNat = _
    rw [BitVec.toNat_add, BitVec.toNat_mul, BitVec.toNat_ofNat, BitVec.toNat_ofNat, BitVec.toNat_ofNat]
    omega
  unfold Cert.ReferenceIdeal.Slc.pick
  rw [IntOp.andi_eq_one, WordCmp.ofBool_decide_eq_one_iff, hw, hkey, WordCmp.cmpi_sle_ofNat_eq_one_iff (by omega) (by omega)]

/-- A mask bit as a float. -/
theorem uitofp_bit (p : BitVec 1) [Decidable (p = 1#1)] : (FloatOps.uitofp (F := Ideal) .f32 p : EReal) = if p = 1#1 then 1 else 0 := by
  rcases BitVec.eq_zero_or_eq_one p with rfl | rfl
  · rw [if_neg (by simp)]; simp [FloatOps.uitofp]
  · rw [if_pos rfl]; simp [FloatOps.uitofp]

open Classical Cert.ReferenceIdeal.Slc in
/-- ONE ELEMENT. Where the blocks hold what the host arrays say they do, an element of the output block is the
    reference's branch at its batch, query and channel. -/
theorem entry_eq (i : grid0.Coords) (X3 : FVec Ideal S1x512x512 .bf16) (X4 : FVec Ideal S1x16384x128 .bf16)
    (X5 : FVec Ideal S1x128x16384 .bf16) (X6 : FVec Ideal S1x1x512x1024 .bf16) (X7 : FVec Ideal S1x128x512 .f32)
    (Q : FVec Ideal S2x16384x768 .f32) (K V : FVec Ideal S2x16384x192 .f32) (I : IVec S2x2x16384x16 32)
    (T : FVec Ideal S2x2x16384x16 .f32) (G : FVec Ideal S2x16384x24 .f32) (b : Fin 2) (t : Fin 16384) (j : Fin 768)
    (hi : (i 2).val = t.val / 512)
    (hI : ∀ (b g : Fin 2) (t : Fin 16384) (n : Fin 16), (I (ix4 b g t n)).toNat < 256)
    (hd : ∀ (b g : Fin 2) (t : Fin 16384) (n n' : Fin 16), I (ix4 b g t n) = I (ix4 b g t n') → n = n')
    (hX3 : ∀ l : Fin 128, X3 (ix3 0 ⟨t.val % 512, by omega⟩ ⟨j.val / 96 % 4 * 128 + l.val, by omega⟩)
      = (if h : l.val < 96 then Q (ix3 b t ⟨j.val / 384 * 384 + j.val / 96 % 4 * 96 + l.val, by omega⟩) else 0) * (((Real.sqrt 96)⁻¹ * (Real.log 2)⁻¹ : ℝ) : EReal))
    (hX4 : ∀ (κ : Fin 16384) (l : Fin 128), X4 (ix3 0 κ l)
      = if h : l.val < 96 then K (ix3 b κ ⟨j.val / 384 * 96 + l.val, by omega⟩) else if l.val = 96 + κ.val / 64 % 32 then 1 else 0)
    (hX5 : ∀ (r : Fin 128) (κ : Fin 16384), X5 (ix3 0 r κ)
      = if h : r.val < 96 then V (ix3 b κ ⟨j.val / 384 * 96 + r.val, by omega⟩) else if r.val = 96 then 1 else 0)
    (hX6 : ∀ (k : Fin 8) (l : Fin 128), X6 (ix4 0 0 ⟨t.val % 512, by omega⟩ ⟨k.val * 128 + l.val, by omega⟩)
      = if 96 ≤ l.val then if chosen I T b ⟨j.val / 384, by omega⟩ t (k.val * 32 + (l.val - 96)) then 0 else ⊥ else 0)
    (hX7 : X7 (ix3 0 ⟨3 * (j.val / 96 % 4) + 1, by omega⟩ ⟨t.val % 512, by omega⟩) = G (ix3 b t ⟨j.val / 384 * 12 + j.val / 96 % 4 * 3 + 1, by omega⟩)) :
    outBlk (F := Ideal) X7 (blkAcc (F := Ideal) i X3 X4 X5 X6) (ix4 0 ⟨j.val / 96 % 4, by omega⟩ ⟨j.val % 96, by omega⟩ ⟨t.val % 512, by omega⟩)
      = branch Q K V I T G ⊥ b t j := by
  set g : Fin 2 := ⟨j.val / 384, by omega⟩ with hg
  rw [outBlk_at, gated_at, blkAcc_at, blkAcc_at]
  dsimp only
  have hrow : (512 * (j.val / 96 % 4) + t.val % 512) / 512 = j.val / 96 % 4 := by omega
  have hcol : (512 * (j.val / 96 % 4) + t.val % 512) % 512 = t.val % 512 := by omega
  simp only [hrow, hcol]
  set j2 : Fin 2048 := ⟨512 * (j.val / 96 % 4) + t.val % 512, by omega⟩ with hj2
  set n : ℕ := 512 * (i 2).val + 512 with hn
  have hn' : n ≤ 16384 := by have := (i 2).isLt; omega
  have ht : t.val < n := by omega
  set S : ℕ → EReal := fun κ => if h : κ < 16384 then ∑ l : Fin 96, K (ix3 b ⟨κ, h⟩ ⟨j.val / 384 * 96 + l.val, by omega⟩)
      * Ideal.div (Q (ix3 b t ⟨j.val / 384 * 384 + j.val / 96 % 4 * 96 + l.val, by omega⟩)) (Ideal.sqrt (Ideal.ofBits .f32 0x42C00000#32)) else 0 with hS
  set P : ℕ → Prop := fun κ => chosen I T b g t (κ / 64) ∧ κ ≤ t.val with hP
  set f : Fin 1024 → ℕ := fun x => (key I b g t x).val with hf'
  set μ : Fin 1024 → Prop := fun x => pick I T b g t x = 1#1 with hμ
  have hs : ∀ κ < n, score (i 2).val X3 X4 X6 j2 κ = if P κ then (((Real.log 2)⁻¹ : ℝ) : EReal) * S κ else ⊥ := by
    intro κ hκ
    have hκ' : κ < 16384 := by omega
    have hraw := raw_eq X3 X4 X6 j2 κ hκ' (fun k => chosen I T b g t k)
      (fun l => Q (ix3 b t ⟨j.val / 384 * 384 + j.val / 96 % 4 * 96 + l.val, by omega⟩))
      (fun l => K (ix3 b ⟨κ, hκ'⟩ ⟨j.val / 384 * 96 + l.val, by omega⟩))
      (fun l h => by
        refine Eq.trans (congrArg X3 ?_) (hX3 l)
        congr 1 <;> exact Fin.ext (by simp only [hj2, hrow, hcol]))
      (fun l => hX4 ⟨κ, hκ'⟩ l)
      (fun l h => by
        refine Eq.trans (congrArg X6 ?_) (hX6 ⟨κ / 2048, by omega⟩ l)
        congr 1; exact Fin.ext (by simp only [hj2, hcol]))
    have hsc := score_eq (i 2).val X3 X4 X6 j2 κ _ _ hraw
    rw [hsc]
    have hq : 512 * (i 2).val + j2.val % 512 = t.val := by simp only [hj2, hcol]; omega
    rw [hq, hS]
    simp only [hP, dif_pos hκ', div_root]
  have hf : ∀ x, μ x → f x < n ∧ P (f x) := by
    intro x hx
    obtain ⟨h1, h2⟩ := (pick_iff I T b g t hI x).1 hx
    refine ⟨lt_of_le_of_lt h1 ht, ⟨⟨⟨x.val / 64, by omega⟩, ?_, h2⟩, h1⟩⟩
    have hx := hI b g t ⟨x.val / 64, by omega⟩
    apply BitVec.eq_of_toNat_eq
    rw [BitVec.toNat_ofNat]
    show _ = ((I (ix4 b g t ⟨x.val / 64, by omega⟩)).toNat % 256 * 64 + x.val % 64) / 64 % 2 ^ 32
    omega
  have hinj : ∀ x x', μ x → μ x' → f x = f x' → x = x' := by
    intro x x' _ _ e
    have h1 := hI b g t ⟨x.val / 64, by omega⟩
    have h2 := hI b g t ⟨x'.val / 64, by omega⟩
    have e : (I (ix4 b g t ⟨x.val / 64, by omega⟩)).toNat % 256 * 64 + x.val % 64
      = (I (ix4 b g t ⟨x'.val / 64, by omega⟩)).toNat % 256 * 64 + x'.val % 64 := e
    have e1 := hd b g t ⟨x.val / 64, by omega⟩ ⟨x'.val / 64, by omega⟩ (BitVec.eq_of_toNat_eq (by omega))
    have e2 : x.val / 64 = x'.val / 64 := congrArg Fin.val e1
    exact Fin.ext (by omega)
  have hsur : ∀ κ < n, P κ → ∃ x, μ x ∧ f x = κ := by
    rintro κ hκ ⟨⟨k, hk, hT⟩, hle⟩
    have hk' : (I (ix4 b g t k)).toNat = κ / 64 := by rw [hk, BitVec.toNat_ofNat]; omega
    have hx : (⟨(k.val * 64 + κ % 64) / 64, by omega⟩ : Fin 16) = k := Fin.ext (by show (k.val * 64 + κ % 64) / 64 = k.val; omega)
    have hfx : f ⟨k.val * 64 + κ % 64, by omega⟩ = κ := by
      show (I (ix4 b g t ⟨(k.val * 64 + κ % 64) / 64, by omega⟩)).toNat % 256 * 64 + (k.val * 64 + κ % 64) % 64 = κ
      rw [hx, hk']; omega
    refine ⟨⟨k.val * 64 + κ % 64, by omega⟩, (pick_iff I T b g t hI _).2 ⟨?_, ?_⟩, hfx⟩
    · exact (le_of_eq hfx).trans hle
    · show _ < T (ix4 b g t ⟨(k.val * 64 + κ % 64) / 64, by omega⟩)
      rw [hx]; exact hT
  have hlog : (fun x => if μ x then S (f x) else ⊥) = logit Q K I T ⊥ b t j := by
    funext x
    unfold logit
    by_cases h : μ x
    · rw [if_pos h]
      refine Eq.trans ?_ (WordCmp.select_of_eq_one h _ _).symm
      rw [hS]
      exact dif_pos (key I b g t x).isLt
    · rw [if_neg h]
      exact (WordCmp.select_of_eq_zero ((BitVec.eq_zero_or_eq_one _).resolve_right h) _ _).symm
  have hW : ∀ v : ℕ → EReal, wsum (score (i 2).val X3 X4 X6 j2) v ((Finset.range n).sup (score (i 2).val X3 X4 X6 j2)) (Finset.range n)
      = ∑ x : Fin 1024, weight Q K I T ⊥ b t j x * v (f x) := by
    intro v
    rw [weights_eq n P _ S v f μ hs hf hinj hsur]
    refine Finset.sum_congr rfl fun x _ => ?_
    unfold weight
    rw [hlog, ofBits_neg_inf, uitofp_bit, ← hlog]
  obtain ⟨y, hy⟩ := wsum_one_real (score (i 2).val X3 X4 X6 j2) (vals X5 96) n fun κ hκ => by
    unfold vals
    rw [dif_pos (by omega), hX5, dif_neg (by decide), if_pos (by decide)]
  have hsum : ∑ x : Fin 1024, weight Q K I T ⊥ b t j x = (y : EReal) := by
    rw [← hy, hW]
    refine Finset.sum_congr rfl fun x _ => ?_
    unfold vals
    rw [dif_pos (key I b g t x).isLt, hX5, dif_neg (by decide), if_pos (by decide), mul_one]
  obtain ⟨e, he, hbits⟩ := ofBits_eps
  rw [hy, hW, hX7]
  unfold branch
  rw [hsum, hbits, ← gated_eq (weight Q K I T ⊥ b t j) _ _ he]
  refine congrArg (· * _) (Finset.sum_congr rfl fun x _ => congrArg (fun z => weight Q K I T ⊥ b t j x * z) ?_)
  unfold vals
  rw [dif_pos (key I b g t x).isLt, hX5]
  exact dif_pos (Nat.mod_lt _ (by decide))

end Cert.KernelIdeal.Slc

end
-- ==== Proof.SlcOut.lean ====
module

public import proofs.«01_k».proof.Proof.SlcScore
public import proofs.«01_k».proof.Proof.SlcRun
public import Idealize.ShloMosaic.Lib.Claim
public import Idealize.ShloMosaic.Lib.Pipeline.ValueKit.Point

@[expose] public section

set_option maxRecDepth 16384

noncomputable section

/-! # The output array, block by block -/

namespace Cert.KernelIdeal.Slc

open Cert.KernelIdeal Cert.KernelIdeal.Gen
open Idealize.ShloMosaic Idealize.ShloMosaic.TcCoe Idealize.ShloMosaic.Tactic Idealize.SL.Sem
open scoped BigOperators

variable (m : (ℓ : Loc nD τ sig) → Buf (Elt Ideal) ℓ) (c : Dev nD)

/-- Where each window's block lies at a grid point. -/
theorem idx : ∀ t : Fin cfg0.N,
    win0_0.index t = ![(grid0.coords t 0).val, (grid0.coords t 2).val, (grid0.coords t 1).val]
    ∧ win0_1.index t = ![(grid0.coords t 0).val, 0, (grid0.coords t 1).val]
    ∧ win0_2.index t = ![(grid0.coords t 0).val, (grid0.coords t 1).val, 0]
    ∧ win0_3.index t = ![(grid0.coords t 0).val, (grid0.coords t 1).val, (grid0.coords t 2).val, 0]
    ∧ win0_4.index t = ![(grid0.coords t 0).val, (grid0.coords t 1).val, (grid0.coords t 2).val]
    ∧ win0_5.index t = ![(grid0.coords t 0).val, (grid0.coords t 1).val, 0, (grid0.coords t 2).val] :=
  (by decide +kernel : ∀ t : Fin grid0.N, _)

/-- A grid point's coordinates from its number. -/
theorem coords_val : ∀ t : Fin cfg0.N, (grid0.coords t 0).val = t.val / 64 ∧ (grid0.coords t 1).val = t.val / 32 % 2 ∧ (grid0.coords t 2).val = t.val % 32 :=
  (by decide +kernel : ∀ t : Fin grid0.N, _)

/-- The grid point that works on batch `b`, group `g`, query tile `i`. -/
def pt (b g : Fin 2) (i : Fin 32) : Fin cfg0.N := ⟨(b.val * 2 + g.val) * 32 + i.val, by
  have : cfg0.N = 128 := rfl
  omega⟩

set_option maxHeartbeats 400000
/-- The queries' block as an index of the array, axis by axis. -/
theorem emb_q (t : Fin cfg0.N) (y : S1x512x512.Idx) (a : Fin 3) :
    ((((cfg0.win 0).blk t).view.emb y : S2x16384x1024.Idx) a : ℕ) = win0_0.index t a * win0_0.size a + y a := Pipeline.Window.rect_emb_val win0_0 t y a

/-- Reading the queries' block of an array. -/
theorem read_q (f : FVec Ideal S2x16384x1024 .bf16) (t : Fin cfg0.N) (y : S1x512x512.Idx) :
    View.read (Elt Ideal) ((cfg0.win 0).blk t).view f y = f (((cfg0.win 0).blk t).view.emb y) := rfl

/-- Which index of the array an index of the queries' block is. -/
theorem at_q (t : Fin cfg0.N) (b : Fin 2) (s : Fin 16384) (j : Fin 1024) (q l : Fin 512)
    (hb : (grid0.coords t 0).val = b.val) (hs : (grid0.coords t 2).val * 512 + q.val = s.val) (hj : (grid0.coords t 1).val * 512 + l.val = j.val) :
    (((cfg0.win 0).blk t).view.emb (ix3 0 q l : S1x512x512.Idx) : S2x16384x1024.Idx) = ix3 b s j := by
  funext a
  refine Fin.ext ((emb_q t (ix3 0 q l) a).trans ?_)
  rw [(idx t).1]
  match a with
  | ⟨0, _⟩ => show (grid0.coords t 0).val * 1 + 0 = b.val; omega
  | ⟨1, _⟩ => show (grid0.coords t 2).val * 512 + q.val = s.val; omega
  | ⟨2, _⟩ => show (grid0.coords t 1).val * 512 + l.val = j.val; omega

/-- The queries' block. -/
theorem blk_q (t : Fin cfg0.N) (b : Fin 2) (s : Fin 16384) (j : Fin 1024) (q l : Fin 512)
    (hb : (grid0.coords t 0).val = b.val) (hs : (grid0.coords t 2).val * 512 + q.val = s.val) (hj : (grid0.coords t 1).val * 512 + l.val = j.val) :
    iblk m c 0 t (ix3 0 q l : S1x512x512.Idx) = V m c main_v9 (ix3 b s j) := by
  unfold iblk
  exact (read_q (V m c main_v9) t (ix3 0 q l)).trans (congrArg (V m c main_v9) (at_q t b s j q l hb hs hj))

/-- The keys' block as an index of the array, axis by axis. -/
theorem emb_k (t : Fin cfg0.N) (y : S1x16384x128.Idx) (a : Fin 3) :
    ((((cfg0.win 1).blk t).view.emb y : S2x16384x256.Idx) a : ℕ) = win0_1.index t a * win0_1.size a + y a := Pipeline.Window.rect_emb_val win0_1 t y a

/-- Reading the keys' block of an array. -/
theorem read_k (f : FVec Ideal S2x16384x256 .bf16) (t : Fin cfg0.N) (y : S1x16384x128.Idx) :
    View.read (Elt Ideal) ((cfg0.win 1).blk t).view f y = f (((cfg0.win 1).blk t).view.emb y) := rfl

/-- Which index of the array an index of the keys' block is. -/
theorem at_k (t : Fin cfg0.N) (b : Fin 2) (s : Fin 16384) (j : Fin 256) (l : Fin 128)
    (hb : (grid0.coords t 0).val = b.val) (hj : (grid0.coords t 1).val * 128 + l.val = j.val) :
    (((cfg0.win 1).blk t).view.emb (ix3 0 s l : S1x16384x128.Idx) : S2x16384x256.Idx) = ix3 b s j := by
  funext a
  refine Fin.ext ((emb_k t (ix3 0 s l) a).trans ?_)
  rw [(idx t).2.1]
  match a with
  | ⟨0, _⟩ => show (grid0.coords t 0).val * 1 + 0 = b.val; omega
  | ⟨1, _⟩ => show 0 * win0_1.size (1 : Fin 3) + s.val = s.val; rw [Nat.zero_mul, Nat.zero_add]
  | ⟨2, _⟩ => show (grid0.coords t 1).val * 128 + l.val = j.val; omega

/-- The keys' block. -/
theorem blk_k (t : Fin cfg0.N) (b : Fin 2) (s : Fin 16384) (j : Fin 256) (l : Fin 128)
    (hb : (grid0.coords t 0).val = b.val) (hj : (grid0.coords t 1).val * 128 + l.val = j.val) :
    iblk m c 1 t (ix3 0 s l : S1x16384x128.Idx) = V m c main_v25 (ix3 b s j) := by
  unfold iblk
  exact (read_k (V m c main_v25) t (ix3 0 s l)).trans (congrArg (V m c main_v25) (at_k t b s j l hb hj))

/-- The values' block as an index of the array, axis by axis. -/
theorem emb_v (t : Fin cfg0.N) (y : S1x128x16384.Idx) (a : Fin 3) :
    ((((cfg0.win 2).blk t).view.emb y : S2x256x16384.Idx) a : ℕ) = win0_2.index t a * win0_2.size a + y a := Pipeline.Window.rect_emb_val win0_2 t y a

/-- Reading the values' block of an array. -/
theorem read_v (f : FVec Ideal S2x256x16384 .bf16) (t : Fin cfg0.N) (y : S1x128x16384.Idx) :
    View.read (Elt Ideal) ((cfg0.win 2).blk t).view f y = f (((cfg0.win 2).blk t).view.emb y) := rfl

/-- Which index of the array an index of the values' block is. -/
theorem at_v (t : Fin cfg0.N) (b : Fin 2) (s : Fin 16384) (j : Fin 256) (l : Fin 128)
    (hb : (grid0.coords t 0).val = b.val) (hj : (grid0.coords t 1).val * 128 + l.val = j.val) :
    (((cfg0.win 2).blk t).view.emb (ix3 0 l s : S1x128x16384.Idx) : S2x256x16384.Idx) = ix3 b j s := by
  funext a
  refine Fin.ext ((emb_v t (ix3 0 l s) a).trans ?_)
  rw [(idx t).2.2.1]
  match a with
  | ⟨0, _⟩ => show (grid0.coords t 0).val * 1 + 0 = b.val; omega
  | ⟨1, _⟩ => show (grid0.coords t 1).val * 128 + l.val = j.val; omega
  | ⟨2, _⟩ => show 0 * win0_2.size (2 : Fin 3) + s.val = s.val; rw [Nat.zero_mul, Nat.zero_add]

/-- The values' block. -/
theorem blk_v (t : Fin cfg0.N) (b : Fin 2) (s : Fin 16384) (j : Fin 256) (l : Fin 128)
    (hb : (grid0.coords t 0).val = b.val) (hj : (grid0.coords t 1).val * 128 + l.val = j.val) :
    iblk m c 2 t (ix3 0 l s : S1x128x16384.Idx) = V m c main_v36 (ix3 b j s) := by
  unfold iblk
  exact (read_v (V m c main_v36) t (ix3 0 l s)).trans (congrArg (V m c main_v36) (at_v t b s j l hb hj))

/-- The selection's block as an index of the array, axis by axis. -/
theorem emb_s (t : Fin cfg0.N) (y : S1x1x512x1024.Idx) (a : Fin 4) :
    ((((cfg0.win 3).blk t).view.emb y : S2x2x16384x1024.Idx) a : ℕ) = win0_3.index t a * win0_3.size a + y a := Pipeline.Window.rect_emb_val win0_3 t y a

/-- Reading the selection's block of an array. -/
theorem read_s (f : FVec Ideal S2x2x16384x1024 .bf16) (t : Fin cfg0.N) (y : S1x1x512x1024.Idx) :
    View.read (Elt Ideal) ((cfg0.win 3).blk t).view f y = f (((cfg0.win 3).blk t).view.emb y) := rfl

/-- Which index of the array an index of the selection's block is. -/
theorem at_s (t : Fin cfg0.N) (b g : Fin 2) (s : Fin 16384) (j : Fin 1024) (q : Fin 512)
    (hb : (grid0.coords t 0).val = b.val) (hg : (grid0.coords t 1).val = g.val) (hs : (grid0.coords t 2).val * 512 + q.val = s.val) :
    (((cfg0.win 3).blk t).view.emb (ix4 0 0 q j : S1x1x512x1024.Idx) : S2x2x16384x1024.Idx) = ix4 b g s j := by
  funext a
  refine Fin.ext ((emb_s t (ix4 0 0 q j) a).trans ?_)
  rw [(idx t).2.2.2.1]
  match a with
  | ⟨0, _⟩ => show (grid0.coords t 0).val * 1 + 0 = b.val; omega
  | ⟨1, _⟩ => show (grid0.coords t 1).val * 1 + 0 = g.val; omega
  | ⟨2, _⟩ => show (grid0.coords t 2).val * 512 + q.val = s.val; omega
  | ⟨3, _⟩ => show 0 * win0_3.size (3 : Fin 4) + j.val = j.val; rw [Nat.zero_mul, Nat.zero_add]

/-- The selection's block. -/
theorem blk_s (t : Fin cfg0.N) (b g : Fin 2) (s : Fin 16384) (j : Fin 1024) (q : Fin 512)
    (hb : (grid0.coords t 0).val = b.val) (hg : (grid0.coords t 1).val = g.val) (hs : (grid0.coords t 2).val * 512 + q.val = s.val) :
    iblk m c 3 t (ix4 0 0 q j : S1x1x512x1024.Idx) = V m c main_v58 (ix4 b g s j) := by
  unfold iblk
  exact (read_s (V m c main_v58) t (ix4 0 0 q j)).trans (congrArg (V m c main_v58) (at_s t b g s j q hb hg hs))

/-- The gates' block as an index of the array, axis by axis. -/
theorem emb_g (t : Fin cfg0.N) (y : S1x128x512.Idx) (a : Fin 3) :
    ((((cfg0.win 4).blk t).view.emb y : S2x256x16384.Idx) a : ℕ) = win0_4.index t a * win0_4.size a + y a := Pipeline.Window.rect_emb_val win0_4 t y a

/-- Reading the gates' block of an array. -/
theorem read_g (f : FVec Ideal S2x256x16384 .f32) (t : Fin cfg0.N) (y : S1x128x512.Idx) :
    View.read (Elt Ideal) ((cfg0.win 4).blk t).view f y = f (((cfg0.win 4).blk t).view.emb y) := rfl

/-- Which index of the array an index of the gates' block is. -/
theorem at_g (t : Fin cfg0.N) (b : Fin 2) (s : Fin 16384) (j : Fin 256) (l : Fin 128) (q : Fin 512)
    (hb : (grid0.coords t 0).val = b.val) (hj : (grid0.coords t 1).val * 128 + l.val = j.val) (hs : (grid0.coords t 2).val * 512 + q.val = s.val) :
    (((cfg0.win 4).blk t).view.emb (ix3 0 l q : S1x128x512.Idx) : S2x256x16384.Idx) = ix3 b j s := by
  funext a
  refine Fin.ext ((emb_g t (ix3 0 l q) a).trans ?_)
  rw [(idx t).2.2.2.2.1]
  match a with
  | ⟨0, _⟩ => show (grid0.coords t 0).val * 1 + 0 = b.val; omega
  | ⟨1, _⟩ => show (grid0.coords t 1).val * 128 + l.val = j.val; omega
  | ⟨2, _⟩ => show (grid0.coords t 2).val * 512 + q.val = s.val; omega

/-- The gates' block. -/
theorem blk_g (t : Fin cfg0.N) (b : Fin 2) (s : Fin 16384) (j : Fin 256) (l : Fin 128) (q : Fin 512)
    (hb : (grid0.coords t 0).val = b.val) (hj : (grid0.coords t 1).val * 128 + l.val = j.val) (hs : (grid0.coords t 2).val * 512 + q.val = s.val) :
    iblk m c 4 t (ix3 0 l q : S1x128x512.Idx) = V m c main_v40 (ix3 b j s) := by
  unfold iblk
  exact (read_g (V m c main_v40) t (ix3 0 l q)).trans (congrArg (V m c main_v40) (at_g t b s j l q hb hj hs))

/-- The output array: each element from the block of its batch, group and query tile. -/
def outArr : FVec Ideal S2x8x128x16384 .bf16 := fun y =>
  oblk m c (pt ⟨(y 0).val, (y 0).isLt⟩ ⟨(y 1).val / 4, by have : (y 1).val < 8 := (y 1).isLt; omega⟩ ⟨(y 3).val / 512, by have : (y 3).val < 16384 := (y 3).isLt; omega⟩)
    (ix4 0 ⟨(y 1).val % 4, by omega⟩ ⟨(y 2).val, (y 2).isLt⟩ ⟨(y 3).val % 512, by omega⟩)

/-- An index of an output block as an index of the array, axis by axis. -/
theorem emb_o (t : Fin cfg0.N) (y : S1x4x128x512.Idx) (a : Fin 4) :
    ((((cfg0.win 5).blk t).view.emb y : S2x8x128x16384.Idx) a : ℕ) = win0_5.index t a * win0_5.size a + y a := Pipeline.Window.rect_emb_val win0_5 t y a

/-- The output array at an index of a block is that block. -/
theorem out_emb (t : Fin cfg0.N) (y : S1x4x128x512.Idx) : oblk m c t y = outArr m c (((cfg0.win 5).blk t).view.emb y) := by
  have e := emb_o t y
  generalize (((cfg0.win 5).blk t).view.emb y : S2x8x128x16384.Idx) = z at e
  obtain ⟨h0, h1, h2⟩ := coords_val t
  have hN : cfg0.N = 128 := rfl
  have ht := t.isLt
  rw [(idx t).2.2.2.2.2] at e
  have e0 : (z 0 : ℕ) = (grid0.coords t 0).val * 1 + (y 0).val := e 0
  have e1 : (z 1 : ℕ) = (grid0.coords t 1).val * 4 + (y 1).val := e 1
  have e2 : (z 2 : ℕ) = 0 * win0_5.size (2 : Fin 4) + (y 2).val := e 2
  rw [Nat.zero_mul, Nat.zero_add] at e2
  have e3 : (z 3 : ℕ) = (grid0.coords t 2).val * 512 + (y 3).val := e 3
  have l0 : (y 0).val < 1 := (y 0).isLt
  have l1 : (y 1).val < 4 := (y 1).isLt
  have l3 : (y 3).val < 512 := (y 3).isLt
  unfold outArr
  have hp : t = pt ⟨(z 0).val, (z 0).isLt⟩ ⟨(z 1).val / 4, by have : (z 1).val < 8 := (z 1).isLt; omega⟩ ⟨(z 3).val / 512, by have : (z 3).val < 16384 := (z 3).isLt; omega⟩ := by
    refine Fin.ext ?_
    show t.val = ((z 0).val * 2 + (z 1).val / 4) * 32 + (z 3).val / 512
    omega
  have hy : y = (ix4 0 ⟨(z 1).val % 4, by omega⟩ ⟨(z 2).val, (z 2).isLt⟩ ⟨(z 3).val % 512, by omega⟩ : S1x4x128x512.Idx) := by
    funext a
    refine Fin.ext ?_
    match a with
    | ⟨0, _⟩ => show (y 0).val = 0; omega
    | ⟨1, _⟩ => show (y 1).val = (z 1).val % 4; omega
    | ⟨2, _⟩ => show (y 2).val = (z 2).val; omega
    | ⟨3, _⟩ => show (y 3).val = (z 3).val % 512; omega
  rw [← hp, ← hy]

/-- After the run the output array holds `outArr`. -/
theorem arr_eq : (dats m 0 c).arrAt 5 cfg0.N = outArr m c := by
  refine (dats m 0 c).arrAt_eq_of_covers 5 _ (by decide +kernel) fun t hf y => ?_
  rw [after0_5]
  exact (cast_eq _ _).trans (out_emb m c t y)

end Cert.KernelIdeal.Slc

end
-- ==== Proof.SlcVal.lean ====
module

public import proofs.«01_k».proof.Proof.SlcOut

@[expose] public section

set_option maxRecDepth 16384
set_option maxHeartbeats 400000

noncomputable section

/-! # The output array at one index: the selected branch -/

namespace Cert.KernelIdeal.Slc

open Cert.KernelIdeal Cert.KernelIdeal.Gen
open Idealize.ShloMosaic Idealize.ShloMosaic.TcCoe Idealize.ShloMosaic.Tactic Idealize.SL.Sem
open scoped BigOperators

/-- The queries' lanes of one head, counted from the head's start. -/
theorem lane_q (Q : FVec Ideal S2x16384x768 .f32) (b : Fin 2) (t : Fin 16384) (j : Fin 768) (l : Fin 128) (j' : Fin 1024)
    (hj : j'.val = j.val / 384 * 512 + (j.val / 96 % 4 * 128 + l.val)) :
    (if h : j'.val % 128 < 96 then Q (ix3 b t ⟨j'.val / 128 * 96 + j'.val % 128, by omega⟩) else 0)
      = if h : l.val < 96 then Q (ix3 b t ⟨j.val / 384 * 384 + j.val / 96 % 4 * 96 + l.val, by omega⟩) else 0 := by
  have h1 : j'.val % 128 = l.val := by omega
  have h2 : j'.val / 128 * 96 = j.val / 384 * 384 + j.val / 96 % 4 * 96 := by omega
  simp only [h1, h2]

/-- The keys' lanes of one group, counted from the group's start. -/
theorem lane_k (K : FVec Ideal S2x16384x192 .f32) (b : Fin 2) (κ : Fin 16384) (g : Fin 2) (l : Fin 128) (j' : Fin 256)
    (hj : j'.val = g.val * 128 + l.val) (z : EReal) (n : ℕ) :
    (if h : j'.val % 128 < 96 then K (ix3 b κ ⟨j'.val / 128 * 96 + j'.val % 128, by omega⟩) else if j'.val % 128 = n then 1 else 0)
      = if h : l.val < 96 then K (ix3 b κ ⟨g.val * 96 + l.val, by omega⟩) else if l.val = n then 1 else 0 := by
  have h1 : j'.val % 128 = l.val := by omega
  have h2 : j'.val / 128 = g.val := by omega
  simp only [h1, h2]

variable (m : (ℓ : Loc nD τ sig) → Buf (Elt Ideal) ℓ) (c : Dev nD)

/-- The coordinates of a grid point numbered by batch, group and query tile. -/
theorem pt_coords (b g : Fin 2) (i : Fin 32) : (grid0.coords (pt b g i) 0).val = b.val ∧ (grid0.coords (pt b g i) 1).val = g.val ∧ (grid0.coords (pt b g i) 2).val = i.val := by
  obtain ⟨h0, h1, h2⟩ := coords_val (pt b g i)
  have hv : (pt b g i).val = (b.val * 2 + g.val) * 32 + i.val := rfl
  omega

/-- One output block's element, over the arrays the region finds. -/
theorem oblk_at (b : Fin 2) (t : Fin 16384) (j : Fin 768) (p : Fin cfg0.N)
    (h0 : (grid0.coords p 0).val = b.val) (h1 : (grid0.coords p 1).val = j.val / 384) (h2 : (grid0.coords p 2).val = t.val / 512)
    (hI : ∀ (b g : Fin 2) (t : Fin 16384) (n : Fin 16), (argI m c (ix4 b g t n)).toNat < 256)
    (hd : ∀ (b g : Fin 2) (t : Fin 16384) (n n' : Fin 16), argI m c (ix4 b g t n) = argI m c (ix4 b g t n') → n = n')
    (hN : argN m c ix0 = ⊥) :
    oblk m c p (ix4 0 ⟨j.val / 96 % 4, by omega⟩ ⟨j.val % 96, by omega⟩ ⟨t.val % 512, by omega⟩)
      = Cert.ReferenceIdeal.Slc.branch (argQ m c) (argK m c) (argV m c) (argI m c) (argT m c) (argG m c) ⊥ b t j := by
  unfold oblk
  refine entry_eq (grid0.coords p) (iblk m c 0 p) (iblk m c 1 p) (iblk m c 2 p) (iblk m c 3 p) (iblk m c 4 p)
    (argQ m c) (argK m c) (argV m c) (argI m c) (argT m c) (argG m c) b t j h2 hI hd ?_ ?_ ?_ ?_ ?_
  · intro l
    refine (blk_q m c p b t ⟨j.val / 384 * 512 + (j.val / 96 % 4 * 128 + l.val), by omega⟩ ⟨t.val % 512, by omega⟩ ⟨j.val / 96 % 4 * 128 + l.val, by omega⟩ h0 (by dsimp only; omega) (by dsimp only; omega)).trans ?_
    rw [q_entry, lane_q (argQ m c) b t j l _ rfl]
  · intro κ l
    refine (blk_k m c p b κ ⟨j.val / 384 * 128 + l.val, by omega⟩ l h0 (by dsimp only; omega)).trans ?_
    rw [k_entry, lane_k (argK m c) b κ ⟨j.val / 384, by omega⟩ l _ rfl 0]
  · intro r κ
    refine (blk_v m c p b κ ⟨j.val / 384 * 128 + r.val, by omega⟩ r h0 (by dsimp only; omega)).trans ?_
    rw [v_entry, lane_k (argV m c) b κ ⟨j.val / 384, by omega⟩ r _ rfl 0]
  · intro k l
    refine (blk_s m c p b ⟨j.val / 384, by omega⟩ t ⟨k.val * 128 + l.val, by omega⟩ ⟨t.val % 512, by omega⟩ h0 h1 (by dsimp only; omega)).trans ?_
    rw [s_entry, hN]
    have e1 : (k.val * 128 + l.val) % 128 = l.val := by omega
    have e2 : (k.val * 128 + l.val) / 128 = k.val := by omega
    dsimp only
    rw [e1, e2]
  · refine (blk_g m c p b t ⟨j.val / 384 * 128 + (3 * (j.val / 96 % 4) + 1), by omega⟩ ⟨3 * (j.val / 96 % 4) + 1, by omega⟩ ⟨t.val % 512, by omega⟩ h0 (by dsimp only; omega) (by dsimp only; omega)).trans ?_
    have hr : j.val / 96 % 4 < 4 := Nat.mod_lt _ (by decide)
    have hrow : ∀ e r : ℕ, r < 4 → (e * 128 + (3 * r + 1)) % 128 = 3 * r + 1 ∧ (e * 128 + (3 * r + 1)) / 128 = e := by intro e r h; omega
    obtain ⟨hm, hq⟩ := hrow (j.val / 384) _ hr
    rw [g_entry m c b _ (show (j.val / 384 * 128 + (3 * (j.val / 96 % 4) + 1)) % 128 < 12 by rw [hm]; omega)]
    have e1 : (j.val / 384 * 128 + (3 * (j.val / 96 % 4) + 1)) / 128 * 12 + (j.val / 384 * 128 + (3 * (j.val / 96 % 4) + 1)) % 128
        = j.val / 384 * 12 + j.val / 96 % 4 * 3 + 1 := by rw [hm, hq]; omega
    simp only [e1]

/-- The output array holds the selected branch. -/
theorem out_at (b : Fin 2) (t : Fin 16384) (j : Fin 768)
    (hI : ∀ (b g : Fin 2) (t : Fin 16384) (n : Fin 16), (argI m c (ix4 b g t n)).toNat < 256)
    (hd : ∀ (b g : Fin 2) (t : Fin 16384) (n n' : Fin 16), argI m c (ix4 b g t n) = argI m c (ix4 b g t n') → n = n')
    (hN : argN m c ix0 = ⊥) :
    outArr m c (ix4 b ⟨j.val / 96, by omega⟩ ⟨j.val % 96, by omega⟩ t)
      = Cert.ReferenceIdeal.Slc.branch (argQ m c) (argK m c) (argV m c) (argI m c) (argT m c) (argG m c) ⊥ b t j := by
  unfold outArr
  obtain ⟨h0, h1, h2⟩ := pt_coords b ⟨j.val / 96 / 4, by omega⟩ ⟨t.val / 512, by omega⟩
  exact oblk_at m c b t j (pt b ⟨j.val / 96 / 4, by omega⟩ ⟨t.val / 512, by omega⟩) h0 (h1.trans (by dsimp only; omega)) h2 hI hd hN

/-- The host lines after the region, of an array: its first 96 channels widened, transposed and laid flat. -/
def tailOf (A : FVec Ideal S2x8x128x16384 .bf16) : FVec Ideal S2x16384x768 .f32 :=
  shapeCast S2x16384x768 (transpose S2x16384x8x96 [0, 3, 1, 2] (extf (F := Ideal) .f32 (extractStridedSlice S2x8x96x16384 ![0, 0, 0, 0] A slices_S2x8x128x16384_S2x8x96x16384_0_0_0_0) bitsLt_bf16_f32) transposes_S2x8x96x16384_S2x16384x8x96_0_3_1_2) shapeCasts_S2x16384x8x96_S2x16384x768

/-- Those lines at one index. -/
theorem tail_at (A : FVec Ideal S2x8x128x16384 .bf16) (b : Fin 2) (t : Fin 16384) (j : Fin 768) :
    tailOf A (ix3 b t j) = A (ix4 b ⟨j.val / 96, by omega⟩ ⟨j.val % 96, by omega⟩ t) := by
  unfold tailOf
  pointwise

/-- What the result's buffer holds after the host lines. -/
theorem W_result : Pipeline.afterTail₀ cfgs (dats m) 0 (V0 m) [hostOps1] c main_v63 = tailOf ((dats m 0 c).arrAt 5 cfg0.N) := by
  unfold Pipeline.afterTail₀
  generalize hV : Pipeline.withArrays (cfgs 0).spec c (V0 m c) (fun w => (dats m 0 c).arrAt w (cfgs 0).N) = W
  have hW : W (Proc.devRef .tc main_v59) = (dats m 0 c).arrAt 5 cfg0.N := by
    rw [← hV]
    exact Pipeline.withArrays_arr spec0 launch0.win.arr_inj c (V0 m c) _ 5
  simp only [hostOps1, List.flatten_cons, List.flatten_nil, List.append_nil]
  after_results
  rw [hW]
  rfl

variable (ρ : Dev nD → PrngReg)

/-- The run's result: the host lines of the output array; the arguments unchanged. -/
theorem value : θ_run defs (onTc (τ := τ) (main (F := Ideal))) ⟨m, fun _ => 0, ρ⟩ (fun r => ∀ c : Dev nD,
      r.2.mem ((c.tc : Thread nD τ).loc main_v63) = tailOf (outArr m c)) :=
  (θ_run defs _ _).mono (fun _ h c => ((h.1 c).2 main_v63 (Pipeline.mem_restRefs_of main_v63 (by decide) (by decide))).trans
    ((W_result m c).trans (congrArg tailOf (arr_eq m c)))) (run_main m ρ)

end Cert.KernelIdeal.Slc

end
-- ==== Proof.SlcPre.lean ====
module

public import proofs.«01_k».proof.Proof.Gen.Pre_distinct_blocks
public import proofs.«01_k».proof.Proof.OnlineSoftmax
public import Idealize.ShloMosaic.Lib.Pointwise
public import Idealize.ShloMosaic.Lib.WordCmp
public import Idealize.ShloMosaic.Lib.IdealHost
public import Idealize.ShloMosaic.Lib.Routing.OpsOrder

@[expose] public section

set_option maxRecDepth 16384

noncomputable section

/-! # What the precondition says of the arguments -/

namespace Cert.Pre_distinct_blocks

open Idealize.ShloMosaic Idealize.ShloMosaic.StableHlo

variable (Q : FVec Ideal S2x16384x768 .f32) (K V : FVec Ideal S2x16384x192 .f32) (I : IVec S2x2x16384x16 32)
  (T : FVec Ideal S2x2x16384x16 .f32) (G : FVec Ideal S2x16384x24 .f32) (N : FVec Ideal S_ .f32)

/-- The precondition's array at one index. -/
theorem fn_at [Facts] (b g : Fin 2) (t : Fin 16384) (n : Fin 16) : fn (F := Ideal) Q K V I T G N (ix4 b g t n)
    = IntOp.andi
      (IntOp.andi
        (IntOp.andi (IntOp.cmpi .sge (I (ix4 b g t n)) 0#32) (IntOp.cmpi .slt (I (ix4 b g t n)) 256#32))
        (BitVec.ofBool (decide (N ix0 = Ideal.ofBits .f32 0xFF800000#32))))
      (Finset.fold IntOp.andi (1#1)
        (fun x : Fin 16 =>
          IntOp.ori (IntOp.cmpi .ne (I (ix4 b g t n)) (I (ix4 b g t x)))
            (IntOp.cmpi .eq (BitVec.ofNat 32 n.val) (BitVec.ofNat 32 x.val)))
        Finset.univ) := by
  unfold fn fn_part1
  pointwise

/-- A conjunction over a finite set that holds, holds of each member. -/
theorem fold_andi {ι : Type} [DecidableEq ι] (s : Finset ι) (p : ι → BitVec 1)
    (h : Finset.fold IntOp.andi (1#1) p s = 1#1) : ∀ x ∈ s, p x = 1#1 := by
  induction s using Finset.induction_on with
  | empty => exact fun x hx => absurd hx (Finset.notMem_empty x)
  | insert a s ha ih =>
    rw [Finset.fold_insert ha] at h
    obtain ⟨h1, h2⟩ := IntOp.andi_eq_one.1 h
    intro x hx
    rcases Finset.mem_insert.1 hx with rfl | hx
    · exact h1
    · exact ih h2 x hx

/-- The precondition decoded: every selected block is one of the 256, a query's 16 blocks are distinct, and the
    mask value is minus infinity. -/
theorem decode [Facts] (h : fn (F := Ideal) Q K V I T G N = fun _ => 1#1) :
    (∀ (b g : Fin 2) (t : Fin 16384) (n : Fin 16), (I (ix4 b g t n)).toNat < 256)
    ∧ (∀ (b g : Fin 2) (t : Fin 16384) (n n' : Fin 16), I (ix4 b g t n) = I (ix4 b g t n') → n = n')
    ∧ N ix0 = ⊥ := by
  have key : ∀ (b g : Fin 2) (t : Fin 16384) (n : Fin 16), _ := fun b g t n =>
    IntOp.andi_eq_one.1 ((fn_at Q K V I T G N b g t n).symm.trans (congrFun h (ix4 b g t n)))
  refine ⟨fun b g t n => ?_, fun b g t n n' e => ?_, ?_⟩
  · obtain ⟨h1, h2⟩ := IntOp.andi_eq_one.1 (IntOp.andi_eq_one.1 (key b g t n).1).1
    rw [WordCmp.cmpi_sge_zero, WordCmp.ofBool_decide_eq_one_iff] at h1
    rw [WordCmp.cmpi_slt_of_lt h1 (by decide), WordCmp.ofBool_decide_eq_one_iff] at h2
    exact h2
  · have h3 := fold_andi _ _ (key b g t n).2 n' (Finset.mem_univ _)
    rw [WordCmp.cmpi_ne_eq, e, WordCmp.cmpi_eq_ofNat (by omega) (by omega)] at h3
    by_contra hne
    have hv : n.val ≠ n'.val := fun e => hne (Fin.ext e)
    rw [decide_eq_false (by simp), decide_eq_false hv] at h3
    exact absurd h3 (by decide)
  · have h4 := (IntOp.andi_eq_one.1 (key 0 0 0 0).1).2
    rw [WordCmp.ofBool_decide_eq_one_iff] at h4
    rw [h4, Cert.OnlineSoftmax.ofBits_neg_inf]

end Cert.Pre_distinct_blocks

end
-- ==== Proof.SlcAlg.lean ====
module

public import proofs.«01_k».proof.Defs
public import proofs.«01_k».proof.Proof.Gen.ReferenceIdeal.Run
public import proofs.«01_k».proof.Proof.SlcVal
public import proofs.«01_k».proof.Proof.SlcPre
public import Idealize.ShloMosaic.Lib.Claim

@[expose] public section

set_option maxRecDepth 16384
set_option maxHeartbeats 400000

noncomputable section

/-! # The kernel and the reference give equal results -/

namespace Cert.Slc

open Idealize.ShloMosaic Idealize.ShloMosaic.TcCoe Idealize.ShloMosaic.Tactic Idealize.SL.Sem

/-- The two results as arrays, where the arguments agree and the precondition holds. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (c' : Dev Cert.ReferenceIdeal.nD)
    (hQ : Cert.ReferenceIdeal.Slc.argQ m' c' = Cert.KernelIdeal.Slc.argQ m c)
    (hK : Cert.ReferenceIdeal.Slc.argK m' c' = Cert.KernelIdeal.Slc.argK m c)
    (hV : Cert.ReferenceIdeal.Slc.argV m' c' = Cert.KernelIdeal.Slc.argV m c)
    (hI : Cert.ReferenceIdeal.Slc.argI m' c' = Cert.KernelIdeal.Slc.argI m c)
    (hT : Cert.ReferenceIdeal.Slc.argT m' c' = Cert.KernelIdeal.Slc.argT m c)
    (hG : Cert.ReferenceIdeal.Slc.argG m' c' = Cert.KernelIdeal.Slc.argG m c)
    (hN : Cert.ReferenceIdeal.Slc.argN m' c' = Cert.KernelIdeal.Slc.argN m c)
    (hr : ∀ (b g : Fin 2) (t : Fin 16384) (n : Fin 16), (Cert.KernelIdeal.Slc.argI m c (ix4 b g t n)).toNat < 256)
    (hd : ∀ (b g : Fin 2) (t : Fin 16384) (n n' : Fin 16), Cert.KernelIdeal.Slc.argI m c (ix4 b g t n) = Cert.KernelIdeal.Slc.argI m c (ix4 b g t n') → n = n')
    (hb : Cert.KernelIdeal.Slc.argN m c ix0 = ⊥) :
    Cert.ReferenceIdeal.Value.res_main_v106 m' c' = Cert.KernelIdeal.Slc.tailOf (Cert.KernelIdeal.Slc.outArr m c) := by
  have key : ∀ (b : Fin 2) (t : Fin 16384) (j : Fin 768), Cert.ReferenceIdeal.Value.res_main_v106 m' c' (ix3 b t j)
      = Cert.KernelIdeal.Slc.tailOf (Cert.KernelIdeal.Slc.outArr m c) (ix3 b t j) := by
    intro b t j
    refine (Cert.ReferenceIdeal.Slc.ref_at m' c' b t j (by rw [hI]; exact hr)).trans (Eq.trans ?_
      ((Cert.KernelIdeal.Slc.tail_at _ b t j).trans (Cert.KernelIdeal.Slc.out_at m c b t j hr hd hb)).symm)
    rw [hQ, hK, hV, hI, hT, hG, hN, hb]
  refine funext fun (y : Cert.KernelIdeal.S2x16384x768.Idx) => ?_
  have hy : y = ix3 ⟨(y 0).val, (y 0).isLt⟩ ⟨(y 1).val, (y 1).isLt⟩ ⟨(y 2).val, (y 2).isLt⟩ := by
    funext a
    match a with
    | ⟨0, _⟩ => rfl
    | ⟨1, _⟩ => rfl
    | ⟨2, _⟩ => rfl
  rw [hy]
  exact key _ _ _

/-- The algebraic claim: on equal arguments the two programs end with equal results. -/
theorem algebraic : Cert.algebraic_KernelIdeal_ReferenceIdeal_pre_distinct_blocks (hKernelIdeal := Cert.KernelIdeal.Gen.facts)
    (hReferenceIdeal := Cert.ReferenceIdeal.Gen.facts) (hPre_distinct_blocks := Cert.Pre_distinct_blocks.Gen.facts) := by
  intro m g m' g' hpre hagree
  refine ⟨fun c => Cert.KernelIdeal.Slc.tailOf (Cert.KernelIdeal.Slc.outArr m c), ?_, ?_⟩
  · exact (θ_run _ _ _).mono (fun _ h c => ⟨h.1 c, h.2 c⟩) (θ_run_and (Cert.KernelIdeal.Slc.value m g) (Cert.KernelIdeal.Slc.unchanged m g))
  · refine (θ_run _ _ _).mono (fun _ h c => ⟨(h c).1.trans ?_, (h c).2⟩) (Cert.ReferenceIdeal.Value.run m' g')
    obtain ⟨hQ, hK, hV, hI, hT, hG, hN⟩ := hagree c
    obtain ⟨hr, hd, hb⟩ := Cert.Pre_distinct_blocks.decode _ _ _ _ _ _ _ (hpre c)
    exact result_eq m m' c c hQ hK hV hI hT hG hN hr hd hb

end Cert.Slc

end
-- ==== Proof.FfnSpec.lean ====
module

public import Idealize.ShloMosaic.PureOps.Ideal
public import Idealize.ShloMosaic.Lib.Claim

@[expose] public section

noncomputable section

/-! # The feed-forward half of one row, as a formula

One row of 1024 numbers goes through the gated feed-forward network, is added to itself with the
layer's weights, and is normalised. -/

namespace Cert.Ffn

open Idealize.ShloMosaic
open scoped BigOperators

/-- One hidden unit's product with the row. -/
def unit (x : Fin 1024 → EReal) (W : Fin 1024 → Fin 2816 → EReal) (f : Fin 2816) : EReal := ∑ k : Fin 1024, x k * W k f

/-- One hidden unit's value: the gate's product through the sigmoid-weighted unit, times the other product. -/
def hidden (x : Fin 1024 → EReal) (G U : Fin 1024 → Fin 2816 → EReal) (f : Fin 2816) : EReal :=
  unit x G f * Ideal.logistic (unit x G f) * unit x U f

/-- The row before the normalisation. -/
def mixed (x : Fin 1024 → EReal) (G U : Fin 1024 → Fin 2816 → EReal) (D : Fin 2816 → Fin 1024 → EReal) (d : Fin 1024) : EReal :=
  Ideal.ofBits .f32 0x3FB504F3#32 * x d + Ideal.ofBits .f32 0x3F000000#32 * ∑ f : Fin 2816, hidden x G U f * D f d

/-- The mean of a row. -/
def mean (z : Fin 1024 → EReal) : EReal := Ideal.div (∑ d : Fin 1024, z d) (Ideal.ofBits .f32 0x44800000#32)

/-- The normalised row. -/
def norm (z : Fin 1024 → EReal) (g b : Fin 1024 → EReal) (d : Fin 1024) : EReal :=
  (z d - mean z) * Ideal.rsqrt (mean (fun e => (z e - mean z) * (z e - mean z)) + Ideal.ofBits .f32 0x3727C5AC#32) * g d + b d

/-- A sum over the 2816 hidden units, as the sum over the first 1536 and the sum over the other 1280. -/
theorem sum_units (h : Fin 2816 → EReal) :
    ∑ f : Fin 2816, h f = (∑ f : Fin 1536, h ⟨f.val, by omega⟩) + ∑ f : Fin 1280, h ⟨1536 + f.val, by omega⟩ :=
  Fin.sum_univ_add (a := 1536) (b := 1280) h

end Cert.Ffn

end
-- ==== Proof.FfnBlock.lean ====
module

public import proofs.«01_k».proof.Proof.FfnSpec
public import proofs.«01_k».proof.Proof.Gen.Kernel2Ideal.Value
public import Idealize.ShloMosaic.Lib.Claim
public import Idealize.ShloMosaic.Lib.Routing.OpsOrder
public import Idealize.ShloMosaic.Lib.Pointwise
public import Idealize.ShloMosaic.Lib.Pipeline.ValueKit
public import Idealize.ShloMosaic.Lib.Pipeline.ValueKit.Point

@[expose] public section

set_option maxRecDepth 16384
set_option maxHeartbeats 400000

noncomputable section

/-! # The feed-forward kernel's result, row by row -/

namespace Cert.Kernel2Ideal.Ffn

open Cert.Kernel2Ideal Cert.Kernel2Ideal.Gen
open Idealize.ShloMosaic Idealize.ShloMosaic.TcCoe Idealize.ShloMosaic.StableHlo Idealize.ShloMosaic.Tactic Idealize.SL.Sem
open scoped BigOperators

/-! ## One grid point's block -/

/-- The first 1536 columns of a weight matrix. -/
theorem cols_a (W : Vec Ideal S1024x2816 .bf16) (k : Fin 1024) (f : Fin 1536) :
    (View.ld (Val := Elt Ideal) (e' := .bf16) W r0_1 : FVec Ideal S1024x1536 .bf16) (ix2 k f) = W (ix2 k ⟨f.val, by omega⟩) := by
  show W _ = W _
  refine congrArg W (funext fun a => Fin.ext ?_)
  match a with
  | ⟨0, _⟩ => show 0 + 1 * k.val = k.val; omega
  | ⟨1, _⟩ => show 0 + 1 * f.val = f.val; omega

/-- The other 1280 columns of a weight matrix. -/
theorem cols_b (W : Vec Ideal S1024x2816 .bf16) (k : Fin 1024) (f : Fin 1280) :
    (View.ld (Val := Elt Ideal) (e' := .bf16) W r0_3 : FVec Ideal S1024x1280 .bf16) (ix2 k f) = W (ix2 k ⟨1536 + f.val, by omega⟩) := by
  show W _ = W _
  refine congrArg W (funext fun a => Fin.ext ?_)
  match a with
  | ⟨0, _⟩ => show 0 + 1 * k.val = k.val; omega
  | ⟨1, _⟩ => show 1536 + 1 * f.val = 1536 + f.val; omega

/-- The first 1536 rows of the last weight matrix. -/
theorem rows_a (W : Vec Ideal S2816x1024 .bf16) (f : Fin 1536) (d : Fin 1024) :
    (View.ld (Val := Elt Ideal) (e' := .bf16) W r0_2 : FVec Ideal S1536x1024 .bf16) (ix2 f d) = W (ix2 ⟨f.val, by omega⟩ d) := by
  show W _ = W _
  refine congrArg W (funext fun a => Fin.ext ?_)
  match a with
  | ⟨0, _⟩ => show 0 + 1 * f.val = f.val; omega
  | ⟨1, _⟩ => show 0 + 1 * d.val = d.val; omega

/-- The other 1280 rows of the last weight matrix. -/
theorem rows_b (W : Vec Ideal S2816x1024 .bf16) (f : Fin 1280) (d : Fin 1024) :
    (View.ld (Val := Elt Ideal) (e' := .bf16) W r0_4 : FVec Ideal S1280x1024 .bf16) (ix2 f d) = W (ix2 ⟨1536 + f.val, by omega⟩ d) := by
  show W _ = W _
  refine congrArg W (funext fun a => Fin.ext ?_)
  match a with
  | ⟨0, _⟩ => show 1536 + 1 * f.val = 1536 + f.val; omega
  | ⟨1, _⟩ => show 0 + 1 * d.val = d.val; omega

/-- The whole block of rows. -/
theorem rows_whole (X : Vec Ideal S1024x1024 .f32) (r d : Fin 1024) :
    (View.ld (Val := Elt Ideal) (e' := .f32) X r0_0 : FVec Ideal S1024x1024 .f32) (ix2 r d) = X (ix2 r d) := by
  show X _ = X _
  refine congrArg X (funext fun a => Fin.ext ?_)
  match a with
  | ⟨0, _⟩ => show 0 + 1 * r.val = r.val; omega
  | ⟨1, _⟩ => show 0 + 1 * d.val = d.val; omega

/-- The whole of a row of factors. -/
theorem row_whole (X : Vec Ideal S1x1024 .f32) (d : Fin 1024) :
    (View.ld (Val := Elt Ideal) (e' := .f32) X r0_5 : FVec Ideal S1x1024 .f32) (ix2 0 d) = X (ix2 0 d) := by
  show X _ = X _
  refine congrArg X (funext fun a => Fin.ext ?_)
  match a with
  | ⟨0, _⟩ => rfl
  | ⟨1, _⟩ => show 0 + 1 * d.val = d.val; omega

/-- The rows before the normalisation, over the loads. -/
theorem mixed_loads (P0 : FVec Ideal S1024x1024 .f32) (P1 P2 : FVec Ideal S1024x1536 .bf16) (P3 : FVec Ideal S1536x1024 .bf16)
    (P4 P5 : FVec Ideal S1024x1280 .bf16) (P6 : FVec Ideal S1280x1024 .bf16) (r d : Fin 1024) :
    k0_pay2 (F := Ideal) P0 P1 P2 P3 P4 P5 P6 (ix2 r d)
      = Ideal.ofBits FTy.f32 0x3FB504F3#32 * P0 (ix2 r d) + Ideal.ofBits FTy.f32 0x3F000000#32 *
        (∑ x : Fin 1536, ((∑ x_1 : Fin 1024, P0 (ix2 r x_1) * P1 (ix2 x_1 x)) * Ideal.logistic (∑ x_1 : Fin 1024, P0 (ix2 r x_1) * P1 (ix2 x_1 x)) *
                ∑ x_1 : Fin 1024, P0 (ix2 r x_1) * P2 (ix2 x_1 x)) * P3 (ix2 x d) +
          ∑ x : Fin 1280, ((∑ x_1 : Fin 1024, P0 (ix2 r x_1) * P4 (ix2 x_1 x)) * Ideal.logistic (∑ x_1 : Fin 1024, P0 (ix2 r x_1) * P4 (ix2 x_1 x)) *
                ∑ x_1 : Fin 1024, P0 (ix2 r x_1) * P5 (ix2 x_1 x)) * P6 (ix2 x d)) := by
  pointwise [k0_pay2]

/-- The normalised rows, over the rows before the normalisation. -/
theorem norm_loads (Z : FVec Ideal S1024x1024 .f32) (P7 P8 : FVec Ideal S1x1024 .f32) (r d : Fin 1024) :
    k0_pay1 (F := Ideal) Z P7 P8 (ix2 r d) = Cert.Ffn.norm (fun e => Z (ix2 r e)) (fun e => P7 (ix2 0 e)) (fun e => P8 (ix2 0 e)) d := by
  pointwise [k0_pay1, Cert.Ffn.norm, Cert.Ffn.mean]

/-- The rows before the normalisation, where the loads are the two column ranges of the weights. -/
theorem mixed_of (P0 : FVec Ideal S1024x1024 .f32) (P1 P2 : FVec Ideal S1024x1536 .bf16) (P3 : FVec Ideal S1536x1024 .bf16)
    (P4 P5 : FVec Ideal S1024x1280 .bf16) (P6 : FVec Ideal S1280x1024 .bf16) (r d : Fin 1024)
    (x : Fin 1024 → EReal) (G U : Fin 1024 → Fin 2816 → EReal) (D : Fin 2816 → Fin 1024 → EReal)
    (h0 : ∀ k : Fin 1024, P0 (ix2 r k) = x k)
    (h1 : ∀ (k : Fin 1024) (f : Fin 1536), P1 (ix2 k f) = G k ⟨f.val, by omega⟩)
    (h2 : ∀ (k : Fin 1024) (f : Fin 1536), P2 (ix2 k f) = U k ⟨f.val, by omega⟩)
    (h3 : ∀ (f : Fin 1536) (e : Fin 1024), P3 (ix2 f e) = D ⟨f.val, by omega⟩ e)
    (h4 : ∀ (k : Fin 1024) (f : Fin 1280), P4 (ix2 k f) = G k ⟨1536 + f.val, by omega⟩)
    (h5 : ∀ (k : Fin 1024) (f : Fin 1280), P5 (ix2 k f) = U k ⟨1536 + f.val, by omega⟩)
    (h6 : ∀ (f : Fin 1280) (e : Fin 1024), P6 (ix2 f e) = D ⟨1536 + f.val, by omega⟩ e) :
    k0_pay2 (F := Ideal) P0 P1 P2 P3 P4 P5 P6 (ix2 r d) = Cert.Ffn.mixed x G U D d := by
  refine (mixed_loads P0 P1 P2 P3 P4 P5 P6 r d).trans ?_
  unfold Cert.Ffn.mixed
  rw [Cert.Ffn.sum_units]
  simp only [h0, h1, h2, h3, h4, h5, h6]
  rfl

/-- What one grid point leaves in the output's block: each row through the feed-forward half. -/
theorem out_at (x0 : Vec Ideal S1024x1024 .f32) (x1 x2 : Vec Ideal S1024x2816 .bf16) (x3 : Vec Ideal S2816x1024 .bf16)
    (x4 x5 : Vec Ideal S1x1024 .f32) (r d : Fin 1024) :
    out0_6 (F := Ideal) x0 x1 x2 x3 x4 x5 (ix2 r d)
      = Cert.Ffn.norm (Cert.Ffn.mixed (fun k => x0 (ix2 r k)) (fun k f => x1 (ix2 k f)) (fun k f => x2 (ix2 k f)) (fun f e => x3 (ix2 f e)))
          (fun e => x4 (ix2 0 e)) (fun e => x5 (ix2 0 e)) d := by
  have hz : ∀ e : Fin 1024, k0_pay2 (F := Ideal) (View.ld x0 r0_0) (View.ld x1 r0_1) (View.ld x2 r0_1) (View.ld x3 r0_2) (View.ld x1 r0_3) (View.ld x2 r0_3) (View.ld x3 r0_4) (ix2 r e)
      = Cert.Ffn.mixed (fun k => x0 (ix2 r k)) (fun k f => x1 (ix2 k f)) (fun k f => x2 (ix2 k f)) (fun f e => x3 (ix2 f e)) e :=
    fun e => mixed_of _ _ _ _ _ _ _ r e _ _ _ _ (rows_whole x0 r) (cols_a x1) (cols_a x2) (rows_a x3) (cols_b x1) (cols_b x2) (rows_b x3)
  have hc : out0_6 (F := Ideal) x0 x1 x2 x3 x4 x5 (ix2 r d)
      = k0_pay1 (F := Ideal) (k0_pay2 (View.ld x0 r0_0) (View.ld x1 r0_1) (View.ld x2 r0_1) (View.ld x3 r0_2) (View.ld x1 r0_3) (View.ld x2 r0_3) (View.ld x3 r0_4)) (View.ld x4 r0_5) (View.ld x5 r0_5) (ix2 r d) := by
    unfold out0_6
    generalize k0_pay1 (F := Ideal) (k0_pay2 (View.ld x0 r0_0) (View.ld x1 r0_1) (View.ld x2 r0_1) (View.ld x3 r0_2) (View.ld x1 r0_3) (View.ld x2 r0_3) (View.ld x3 r0_4)) (View.ld x4 r0_5) (View.ld x5 r0_5) = p
    refine View.canon_apply_of_pieces (Val := Elt Ideal) (e := .f32) p _ ?_ (ix2 r d) (cover0_6 _ _)
    intro pc hpc
    rcases List.mem_cons.mp hpc with rfl | hpc
    · intro x
      show p x = p _
      refine congrArg p (funext fun a => Fin.ext ?_)
      match a with
      | ⟨0, _⟩ => show (x 0).val = 0 + 1 * (x 0).val; omega
      | ⟨1, _⟩ => show (x 1).val = 0 + 1 * (x 1).val; omega
    nomatch hpc
  rw [hc]
  refine (norm_loads _ _ _ r d).trans ?_
  exact congr (congr (congr (congrArg Cert.Ffn.norm (funext hz)) (funext (row_whole x4))) (funext (row_whole x5))) rfl

/-! ## The arrays the windows stand on -/

variable (m : (ℓ : Loc nD τ sig) → Buf (Elt Ideal) ℓ) (c : Dev nD)

/-- The activations as launched. -/
abbrev argX : FVec Ideal S2x16384x1024 .f32 := m ((c : Thread nD τ).loc main_arg0)
/-- The gate's weights as launched. -/
abbrev argG : FVec Ideal S1024x2816 .f32 := m ((c : Thread nD τ).loc main_arg1)
/-- The other product's weights as launched. -/
abbrev argU : FVec Ideal S1024x2816 .f32 := m ((c : Thread nD τ).loc main_arg2)
/-- The last product's weights as launched. -/
abbrev argD : FVec Ideal S2816x1024 .f32 := m ((c : Thread nD τ).loc main_arg3)
/-- The normalisation's factors as launched. -/
abbrev argS : FVec Ideal S1024 .f32 := m ((c : Thread nD τ).loc main_arg4)
/-- The normalisation's offsets as launched. -/
abbrev argB : FVec Ideal S1024 .f32 := m ((c : Thread nD τ).loc main_arg5)

/-- The rows' array. -/
theorem x_entry (R : Fin 32768) (k : Fin 1024) : V m c main_v0 (ix2 R k) = argX m c (ix3 ⟨R.val / 16384, by omega⟩ ⟨R.val % 16384, by omega⟩ k) := by
  simp only [V, hostOps0]
  after_results_simp
  pointwise
/-- The gate's weights' array. -/
theorem g_entry (k : Fin 1024) (f : Fin 2816) : V m c main_v1 (ix2 k f) = argG m c (ix2 k f) := by
  simp only [V, hostOps0, TRef.unary, TRef.toBuf, TRef.ofBuf, cast_eq]
  after_results_simp
  pointwise
/-- The other product's weights' array. -/
theorem u_entry (k : Fin 1024) (f : Fin 2816) : V m c main_v2 (ix2 k f) = argU m c (ix2 k f) := by
  simp only [V, hostOps0, TRef.unary, TRef.toBuf, TRef.ofBuf, cast_eq]
  after_results_simp
  pointwise
/-- The last product's weights' array. -/
theorem d_entry (f : Fin 2816) (d : Fin 1024) : V m c main_v3 (ix2 f d) = argD m c (ix2 f d) := by
  simp only [V, hostOps0, TRef.unary, TRef.toBuf, TRef.ofBuf, cast_eq]
  after_results_simp
  pointwise
/-- The factors' array. -/
theorem s_entry (d : Fin 1024) : V m c main_v4 (ix2 0 d) = argS m c (ix1 d) := by
  simp only [V, hostOps0]
  after_results_simp
  pointwise
/-- The offsets' array. -/
theorem b_entry (d : Fin 1024) : V m c main_v5 (ix2 0 d) = argB m c (ix1 d) := by
  simp only [V, hostOps0]
  after_results_simp
  pointwise

/-! ## The blocks -/

/-- Where each window's block lies at a grid point. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![t.val, 0] :=
  (by decide +kernel : ∀ t : Fin grid0.N, _)

theorem emb_x (t : Fin cfg0.N) (y : S1024x1024.Idx) (a : Fin 2) :
    ((((cfg0.win 0).blk t).view.emb y : S32768x1024.Idx) a : ℕ) = win0_0.index t a * win0_0.size a + y a := Pipeline.Window.rect_emb_val win0_0 t y a
theorem emb_g (t : Fin cfg0.N) (y : S1024x2816.Idx) (a : Fin 2) :
    ((((cfg0.win 1).blk t).view.emb y : S1024x2816.Idx) a : ℕ) = win0_1.index t a * win0_1.size a + y a := Pipeline.Window.rect_emb_val win0_1 t y a
theorem emb_u (t : Fin cfg0.N) (y : S1024x2816.Idx) (a : Fin 2) :
    ((((cfg0.win 2).blk t).view.emb y : S1024x2816.Idx) a : ℕ) = win0_2.index t a * win0_2.size a + y a := Pipeline.Window.rect_emb_val win0_2 t y a
theorem emb_d (t : Fin cfg0.N) (y : S2816x1024.Idx) (a : Fin 2) :
    ((((cfg0.win 3).blk t).view.emb y : S2816x1024.Idx) a : ℕ) = win0_3.index t a * win0_3.size a + y a := Pipeline.Window.rect_emb_val win0_3 t y a
theorem emb_s (t : Fin cfg0.N) (y : S1x1024.Idx) (a : Fin 2) :
    ((((cfg0.win 4).blk t).view.emb y : S1x1024.Idx) a : ℕ) = win0_4.index t a * win0_4.size a + y a := Pipeline.Window.rect_emb_val win0_4 t y a
theorem emb_b (t : Fin cfg0.N) (y : S1x1024.Idx) (a : Fin 2) :
    ((((cfg0.win 5).blk t).view.emb y : S1x1024.Idx) a : ℕ) = win0_5.index t a * win0_5.size a + y a := Pipeline.Window.rect_emb_val win0_5 t y a
theorem emb_o (t : Fin cfg0.N) (y : S1024x1024.Idx) (a : Fin 2) :
    ((((cfg0.win 6).blk t).view.emb y : S32768x1024.Idx) a : ℕ) = win0_6.index t a * win0_6.size a + y a := Pipeline.Window.rect_emb_val win0_6 t y a

theorem read_x (f : FVec Ideal S32768x1024 .f32) (t : Fin cfg0.N) (y : S1024x1024.Idx) :
    View.read (Elt Ideal) ((cfg0.win 0).blk t).view f y = f (((cfg0.win 0).blk t).view.emb y) := rfl
theorem read_g (f : FVec Ideal S1024x2816 .bf16) (t : Fin cfg0.N) (y : S1024x2816.Idx) :
    View.read (Elt Ideal) ((cfg0.win 1).blk t).view f y = f (((cfg0.win 1).blk t).view.emb y) := rfl
theorem read_u (f : FVec Ideal S1024x2816 .bf16) (t : Fin cfg0.N) (y : S1024x2816.Idx) :
    View.read (Elt Ideal) ((cfg0.win 2).blk t).view f y = f (((cfg0.win 2).blk t).view.emb y) := rfl
theorem read_d (f : FVec Ideal S2816x1024 .bf16) (t : Fin cfg0.N) (y : S2816x1024.Idx) :
    View.read (Elt Ideal) ((cfg0.win 3).blk t).view f y = f (((cfg0.win 3).blk t).view.emb y) := rfl
theorem read_s (f : FVec Ideal S1x1024 .f32) (t : Fin cfg0.N) (y : S1x1024.Idx) :
    View.read (Elt Ideal) ((cfg0.win 4).blk t).view f y = f (((cfg0.win 4).blk t).view.emb y) := rfl
theorem read_b (f : FVec Ideal S1x1024 .f32) (t : Fin cfg0.N) (y : S1x1024.Idx) :
    View.read (Elt Ideal) ((cfg0.win 5).blk t).view f y = f (((cfg0.win 5).blk t).view.emb y) := rfl

/-- The rows' block. -/
theorem blk_x (t : Fin cfg0.N) (r k : Fin 1024) (R : Fin 32768) (hR : R.val = t.val * 1024 + r.val) :
    (iblk m c 0 t : Vec Ideal S1024x1024 .f32) (ix2 r k) = V m c main_v0 (ix2 R k) := by
  unfold iblk
  refine (read_x (V m c main_v0) t (ix2 r k)).trans (congrArg (V m c main_v0) (funext fun a => Fin.ext ((emb_x t (ix2 r k) a).trans ?_)))
  rw [(idx t).1]
  match a with
  | ⟨0, _⟩ => show t.val * 1024 + r.val = R.val; omega
  | ⟨1, _⟩ => show 0 * win0_0.size (1 : Fin 2) + k.val = k.val; rw [Nat.zero_mul, Nat.zero_add]
/-- The gate's weights' block. -/
theorem blk_g (t : Fin cfg0.N) (k : Fin 1024) (f : Fin 2816) : (iblk m c 1 t : Vec Ideal S1024x2816 .bf16) (ix2 k f) = V m c main_v1 (ix2 k f) := by
  unfold iblk
  refine (read_g (V m c main_v1) t (ix2 k f)).trans (congrArg (V m c main_v1) (funext fun a => Fin.ext ((emb_g t (ix2 k f) a).trans ?_)))
  rw [(idx t).2.1]
  match a with
  | ⟨0, _⟩ => show 0 * win0_1.size (0 : Fin 2) + k.val = k.val; rw [Nat.zero_mul, Nat.zero_add]
  | ⟨1, _⟩ => show 0 * win0_1.size (1 : Fin 2) + f.val = f.val; rw [Nat.zero_mul, Nat.zero_add]
/-- The other product's weights' block. -/
theorem blk_u (t : Fin cfg0.N) (k : Fin 1024) (f : Fin 2816) : (iblk m c 2 t : Vec Ideal S1024x2816 .bf16) (ix2 k f) = V m c main_v2 (ix2 k f) := by
  unfold iblk
  refine (read_u (V m c main_v2) t (ix2 k f)).trans (congrArg (V m c main_v2) (funext fun a => Fin.ext ((emb_u t (ix2 k f) a).trans ?_)))
  rw [(idx t).2.2.1]
  match a with
  | ⟨0, _⟩ => show 0 * win0_2.size (0 : Fin 2) + k.val = k.val; rw [Nat.zero_mul, Nat.zero_add]
  | ⟨1, _⟩ => show 0 * win0_2.size (1 : Fin 2) + f.val = f.val; rw [Nat.zero_mul, Nat.zero_add]
/-- The last product's weights' block. -/
theorem blk_d (t : Fin cfg0.N) (f : Fin 2816) (d : Fin 1024) : (iblk m c 3 t : Vec Ideal S2816x1024 .bf16) (ix2 f d) = V m c main_v3 (ix2 f d) := by
  unfold iblk
  refine (read_d (V m c main_v3) t (ix2 f d)).trans (congrArg (V m c main_v3) (funext fun a => Fin.ext ((emb_d t (ix2 f d) a).trans ?_)))
  rw [(idx t).2.2.2.1]
  match a with
  | ⟨0, _⟩ => show 0 * win0_3.size (0 : Fin 2) + f.val = f.val; rw [Nat.zero_mul, Nat.zero_add]
  | ⟨1, _⟩ => show 0 * win0_3.size (1 : Fin 2) + d.val = d.val; rw [Nat.zero_mul, Nat.zero_add]
/-- The factors' block. -/
theorem blk_s (t : Fin cfg0.N) (d : Fin 1024) : (iblk m c 4 t : Vec Ideal S1x1024 .f32) (ix2 0 d) = V m c main_v4 (ix2 0 d) := by
  unfold iblk
  refine (read_s (V m c main_v4) t (ix2 0 d)).trans (congrArg (V m c main_v4) (funext fun a => Fin.ext ((emb_s t (ix2 0 d) a).trans ?_)))
  rw [(idx t).2.2.2.2.1]
  match a with
  | ⟨0, _⟩ => rfl
  | ⟨1, _⟩ => show 0 * win0_4.size (1 : Fin 2) + d.val = d.val; rw [Nat.zero_mul, Nat.zero_add]
/-- The offsets' block. -/
theorem blk_b (t : Fin cfg0.N) (d : Fin 1024) : (iblk m c 5 t : Vec Ideal S1x1024 .f32) (ix2 0 d) = V m c main_v5 (ix2 0 d) := by
  unfold iblk
  refine (read_b (V m c main_v5) t (ix2 0 d)).trans (congrArg (V m c main_v5) (funext fun a => Fin.ext ((emb_b t (ix2 0 d) a).trans ?_)))
  rw [(idx t).2.2.2.2.2.1]
  match a with
  | ⟨0, _⟩ => rfl
  | ⟨1, _⟩ => show 0 * win0_5.size (1 : Fin 2) + d.val = d.val; rw [Nat.zero_mul, Nat.zero_add]

/-! ## The output array -/

/-- The feed-forward half of one position. -/
def half (X : FVec Ideal S2x16384x1024 .f32) (G U : FVec Ideal S1024x2816 .f32) (D : FVec Ideal S2816x1024 .f32)
    (S B : FVec Ideal S1024 .f32) (b : Fin 2) (s : Fin 16384) (d : Fin 1024) : EReal :=
  Cert.Ffn.norm (Cert.Ffn.mixed (fun k => X (ix3 b s k)) (fun k f => G (ix2 k f)) (fun k f => U (ix2 k f)) (fun f e => D (ix2 f e)))
    (fun e => S (ix1 e)) (fun e => B (ix1 e)) d

/-- The output array: each row is the feed-forward half of its position. -/
def outArr : FVec Ideal S32768x1024 .f32 := fun y =>
  half (argX m c) (argG m c) (argU m c) (argD m c) (argS m c) (argB m c)
    ⟨(y 0).val / 16384, by have : (y 0).val < 32768 := (y 0).isLt; omega⟩ ⟨(y 0).val % 16384, by omega⟩ ⟨(y 1).val, (y 1).isLt⟩

/-- One grid point's block, over the arguments. -/
theorem oblk_at (t : Fin cfg0.N) (r d : Fin 1024) (R : Fin 32768) (hR : R.val = t.val * 1024 + r.val) :
    out0_6 (F := Ideal) (iblk m c 0 t) (iblk m c 1 t) (iblk m c 2 t) (iblk m c 3 t) (iblk m c 4 t) (iblk m c 5 t) (ix2 r d) = outArr m c (ix2 R d) := by
  have hx : ∀ k : Fin 1024, (iblk m c 0 t : Vec Ideal S1024x1024 .f32) (ix2 r k) = argX m c (ix3 ⟨R.val / 16384, by omega⟩ ⟨R.val % 16384, by omega⟩ k) :=
    fun k => (blk_x m c t r k R hR).trans (x_entry m c R k)
  have hg : ∀ (k : Fin 1024) (f : Fin 2816), (iblk m c 1 t : Vec Ideal S1024x2816 .bf16) (ix2 k f) = argG m c (ix2 k f) := fun k f => (blk_g m c t k f).trans (g_entry m c k f)
  have hu : ∀ (k : Fin 1024) (f : Fin 2816), (iblk m c 2 t : Vec Ideal S1024x2816 .bf16) (ix2 k f) = argU m c (ix2 k f) := fun k f => (blk_u m c t k f).trans (u_entry m c k f)
  have hd : ∀ (f : Fin 2816) (e : Fin 1024), (iblk m c 3 t : Vec Ideal S2816x1024 .bf16) (ix2 f e) = argD m c (ix2 f e) := fun f e => (blk_d m c t f e).trans (d_entry m c f e)
  have hs : ∀ e : Fin 1024, (iblk m c 4 t : Vec Ideal S1x1024 .f32) (ix2 0 e) = argS m c (ix1 e) := fun e => (blk_s m c t e).trans (s_entry m c e)
  have hb : ∀ e : Fin 1024, (iblk m c 5 t : Vec Ideal S1x1024 .f32) (ix2 0 e) = argB m c (ix1 e) := fun e => (blk_b m c t e).trans (b_entry m c e)
  refine (out_at (iblk m c 0 t) (iblk m c 1 t) (iblk m c 2 t) (iblk m c 3 t) (iblk m c 4 t) (iblk m c 5 t) r d).trans ?_
  unfold outArr half
  rw [funext hx, funext fun k => funext (hg k), funext fun k => funext (hu k), funext fun f => funext (hd f), funext hs, funext hb]
  rfl

/-- The output array at an index of a block is that block. -/
theorem out_emb (t : Fin cfg0.N) (y : S1024x1024.Idx) :
    out0_6 (F := Ideal) (iblk m c 0 t) (iblk m c 1 t) (iblk m c 2 t) (iblk m c 3 t) (iblk m c 4 t) (iblk m c 5 t) y = outArr m c (((cfg0.win 6).blk t).view.emb y) := by
  have e := emb_o t y
  generalize (((cfg0.win 6).blk t).view.emb y : S32768x1024.Idx) = z at e
  rw [(idx t).2.2.2.2.2.2] at e
  have e0 : (z 0 : ℕ) = t.val * 1024 + (y 0).val := e 0
  have e1 : (z 1 : ℕ) = 0 * win0_6.size (1 : Fin 2) + (y 1).val := e 1
  rw [Nat.zero_mul, Nat.zero_add] at e1
  have hy : y = (ix2 ⟨(y 0).val, (y 0).isLt⟩ ⟨(y 1).val, (y 1).isLt⟩ : S1024x1024.Idx) := by
    funext a
    match a with
    | ⟨0, _⟩ => rfl
    | ⟨1, _⟩ => rfl
  have hz : z = (ix2 ⟨(z 0).val, (z 0).isLt⟩ ⟨(y 1).val, (y 1).isLt⟩ : S32768x1024.Idx) := by
    funext a
    refine Fin.ext ?_
    match a with
    | ⟨0, _⟩ => rfl
    | ⟨1, _⟩ => exact e1
  rw [hy, hz]
  exact oblk_at m c t _ _ _ e0

/-- After the run the output array holds `outArr`. -/
theorem arr_eq : (dats m 0 c).arrAt 6 cfg0.N = outArr m c := by
  refine (dats m 0 c).arrAt_eq_of_covers 6 _ (by decide +kernel) fun t hf y => ?_
  rw [after0_6]
  exact (cast_eq _ _).trans (out_emb m c t y)

variable (ρ : Dev nD → PrngReg)

/-- The run's result, the arguments unchanged. -/
theorem value : θ_run defs (onTc (τ := τ) (main (F := Ideal))) ⟨m, fun _ => 0, ρ⟩ (fun r => ∀ c : Dev nD,
      r.2.mem ((c.tc : Thread nD τ).loc main_v6) = outArr m c) :=
  (θ_run defs _ _).mono (fun _ h c => (h c).1.trans (arr_eq m c)) (Cert.Kernel2Ideal.Value.run_blocks m ρ)

end Cert.Kernel2Ideal.Ffn

end
-- ==== Proof.FfnRef.lean ====
module

public import proofs.«01_k».proof.Proof.FfnSpec
public import proofs.«01_k».proof.Proof.Gen.Reference2Ideal.Run
public import Idealize.ShloMosaic.Lib.Claim
public import Idealize.ShloMosaic.Lib.Pointwise
public import Idealize.ShloMosaic.Lib.IdealHost

@[expose] public section

set_option maxRecDepth 16384
set_option maxHeartbeats 400000

noncomputable section

/-! # The reference's feed-forward half, row by row -/

namespace Cert.Reference2Ideal.Ffn

open Cert.Reference2Ideal Cert.Reference2Ideal.Gen Cert.Reference2Ideal.Value
open Idealize.ShloMosaic Idealize.ShloMosaic.TcCoe Idealize.ShloMosaic.StableHlo Idealize.SL.Sem
open scoped BigOperators

/-- The hidden units' values, as the reference forms them. -/
def hiddenArr (X : FVec Ideal S2x16384x1024 .f32) (G U : FVec Ideal S1024x2816 .f32) : FVec Ideal S2x16384x2816 .f32 :=
  mulf (mulf (Host.dotGeneral dot_S2x16384x1024_S1024x2816_S2x16384x2816_2_0_01_1_n_n none X G)
    (Host.divf (broadcastInDim S2x16384x2816 ![] bcast_S_S2x16384x2816 (constant S_ .f32 0x3F800000#32))
      (addf (broadcastInDim S2x16384x2816 ![] bcast_S_S2x16384x2816 (constant S_ .f32 0x3F800000#32))
        (Host.exp (Host.negf (Host.dotGeneral dot_S2x16384x1024_S1024x2816_S2x16384x2816_2_0_01_1_n_n none X G))))))
    (Host.dotGeneral dot_S2x16384x1024_S1024x2816_S2x16384x2816_2_0_01_1_n_n none X U)

/-- The rows before the normalisation, as the reference forms them. -/
def mixedArr (X : FVec Ideal S2x16384x1024 .f32) (H : FVec Ideal S2x16384x2816 .f32) (D : FVec Ideal S2816x1024 .f32) : FVec Ideal S2x16384x1024 .f32 :=
  addf (mulf (broadcastInDim S2x16384x1024 ![] bcast_S_S2x16384x1024 (constant S_ .f32 0x3FB504F3#32)) X)
    (mulf (broadcastInDim S2x16384x1024 ![] bcast_S_S2x16384x1024 (constant S_ .f32 0x3F000000#32))
      (Host.dotGeneral dot_S2x16384x2816_S2816x1024_S2x16384x1024_2_0_01_1_n_n none H D))

/-- The rows less their means, as the reference forms them. -/
def centredArr (Z : FVec Ideal S2x16384x1024 .f32) : FVec Ideal S2x16384x1024 .f32 :=
  subf Z (broadcastInDim S2x16384x1024 ![0, 1, 2] bcast_S2x16384x1_S2x16384x1024_0_1_2
    (Host.divf (broadcastInDim S2x16384x1 ![0, 1] bcast_S2x16384_S2x16384x1_0_1
      (Host.reduceAdd Z (constant S_ .f32 0x00000000#32) reducesTo_S2x16384x1024_S2x16384_d2 h_S_))
      (broadcastInDim S2x16384x1 ![] bcast_S_S2x16384x1 (constant S_ .f32 0x44800000#32))))

/-- The normalised rows, as the reference forms them from the centred rows. -/
def normArr (C : FVec Ideal S2x16384x1024 .f32) (S B : FVec Ideal S1024 .f32) : FVec Ideal S32768x1024 .f32 :=
  shapeCast S32768x1024 (addf (mulf (mulf C
      (broadcastInDim S2x16384x1024 ![0, 1, 2] bcast_S2x16384x1_S2x16384x1024_0_1_2
        (Host.rsqrt (addf (Host.divf (broadcastInDim S2x16384x1 ![0, 1] bcast_S2x16384_S2x16384x1_0_1
            (Host.reduceAdd (mulf C C) (constant S_ .f32 0x00000000#32) reducesTo_S2x16384x1024_S2x16384_d2 h_S_))
            (broadcastInDim S2x16384x1 ![] bcast_S_S2x16384x1 (constant S_ .f32 0x44800000#32)))
          (broadcastInDim S2x16384x1 ![] bcast_S_S2x16384x1 (constant S_ .f32 0x3727C5AC#32))))))
      (broadcastInDim S2x16384x1024 ![0, 1, 2] bcast_S1x1x1024_S2x16384x1024_0_1_2 (broadcastInDim S1x1x1024 ![2] bcast_S1024_S1x1x1024_2 S)))
    (broadcastInDim S2x16384x1024 ![0, 1, 2] bcast_S1x1x1024_S2x16384x1024_0_1_2 (broadcastInDim S1x1x1024 ![2] bcast_S1024_S1x1x1024_2 B)))
    shapeCasts_S2x16384x1024_S32768x1024

/-- One hidden unit's value. -/
theorem hidden_at (X : FVec Ideal S2x16384x1024 .f32) (G U : FVec Ideal S1024x2816 .f32) (b : Fin 2) (s : Fin 16384) (f : Fin 2816) :
    hiddenArr X G U (ix3 b s f) = Cert.Ffn.hidden (fun k => X (ix3 b s k)) (fun k f => G (ix2 k f)) (fun k f => U (ix2 k f)) f := by
  unfold Cert.Ffn.hidden Ideal.logistic Cert.Ffn.unit
  rw [← Ideal.ofBits_one_f32]
  pointwise [hiddenArr]

/-- One element before the normalisation. -/
theorem mixed_at (X : FVec Ideal S2x16384x1024 .f32) (H : FVec Ideal S2x16384x2816 .f32) (D : FVec Ideal S2816x1024 .f32) (b : Fin 2) (s : Fin 16384) (d : Fin 1024) :
    mixedArr X H D (ix3 b s d) = Ideal.ofBits .f32 0x3FB504F3#32 * X (ix3 b s d) + Ideal.ofBits .f32 0x3F000000#32 * ∑ f : Fin 2816, H (ix3 b s f) * D (ix2 f d) := by
  pointwise [mixedArr]

/-- One centred element. -/
theorem centred_at (Z : FVec Ideal S2x16384x1024 .f32) (b : Fin 2) (s : Fin 16384) (d : Fin 1024) :
    centredArr Z (ix3 b s d) = Z (ix3 b s d) - Cert.Ffn.mean (fun e => Z (ix3 b s e)) := by
  pointwise [centredArr, Cert.Ffn.mean]

/-- One normalised element. -/
theorem norm_at (C : FVec Ideal S2x16384x1024 .f32) (S B : FVec Ideal S1024 .f32) (R : Fin 32768) (d : Fin 1024) :
    normArr C S B (ix2 R d) = C (ix3 ⟨R.val / 16384, by omega⟩ ⟨R.val % 16384, by omega⟩ d)
        * Ideal.rsqrt (Cert.Ffn.mean (fun e => C (ix3 ⟨R.val / 16384, by omega⟩ ⟨R.val % 16384, by omega⟩ e) * C (ix3 ⟨R.val / 16384, by omega⟩ ⟨R.val % 16384, by omega⟩ e)) + Ideal.ofBits .f32 0x3727C5AC#32)
        * S (ix1 d) + B (ix1 d) := by
  pointwise [normArr, Cert.Ffn.mean]

/-- The reference's result at one index. -/
theorem result_at (X : FVec Ideal S2x16384x1024 .f32) (G U : FVec Ideal S1024x2816 .f32) (D : FVec Ideal S2816x1024 .f32) (S B : FVec Ideal S1024 .f32) (R : Fin 32768) (d : Fin 1024) :
    normArr (centredArr (mixedArr X (hiddenArr X G U) D)) S B (ix2 R d)
      = Cert.Ffn.norm (Cert.Ffn.mixed (fun k => X (ix3 ⟨R.val / 16384, by omega⟩ ⟨R.val % 16384, by omega⟩ k)) (fun k f => G (ix2 k f)) (fun k f => U (ix2 k f)) (fun f e => D (ix2 f e)))
          (fun e => S (ix1 e)) (fun e => B (ix1 e)) d := by
  rw [norm_at]
  simp only [centred_at, mixed_at, hidden_at]
  rfl

variable (m : (ℓ : Loc nD τ sig) → Buf (Elt Ideal) ℓ) (c : Dev nD)

/-- The reference's result, as those arrays. -/
theorem result_eq : res_main_v34 m c = normArr (centredArr (mixedArr (m ((c.tc : Thread nD τ).loc main_arg0))
    (hiddenArr (m ((c.tc : Thread nD τ).loc main_arg0)) (m ((c.tc : Thread nD τ).loc main_arg1)) (m ((c.tc : Thread nD τ).loc main_arg2))) (m ((c.tc : Thread nD τ).loc main_arg3))))
    (m ((c.tc : Thread nD τ).loc main_arg4)) (m ((c.tc : Thread nD τ).loc main_arg5)) := rfl

end Cert.Reference2Ideal.Ffn

end
-- ==== Proof.FfnAlg.lean ====
module

public import proofs.«01_k».proof.Defs
public import proofs.«01_k».proof.Proof.FfnBlock
public import proofs.«01_k».proof.Proof.FfnRef

@[expose] public section

set_option maxRecDepth 16384
set_option maxHeartbeats 400000

noncomputable section

/-! # The feed-forward kernel and its reference give equal results -/

namespace Cert.Ffn

open Idealize.ShloMosaic Idealize.ShloMosaic.TcCoe Idealize.ShloMosaic.Tactic Idealize.SL.Sem

/-- The two results as arrays, where the arguments agree. -/
theorem result_eq (m : (ℓ : Loc Cert.Kernel2Ideal.nD Cert.Kernel2Ideal.τ Cert.Kernel2Ideal.sig) → Buf (Elt Ideal) ℓ)
    (X : FVec Ideal Cert.Reference2Ideal.S2x16384x1024 .f32) (G U : FVec Ideal Cert.Reference2Ideal.S1024x2816 .f32)
    (D : FVec Ideal Cert.Reference2Ideal.S2816x1024 .f32) (S B : FVec Ideal Cert.Reference2Ideal.S1024 .f32) (c : Dev Cert.Kernel2Ideal.nD)
    (hX : X = Cert.Kernel2Ideal.Ffn.argX m c) (hG : G = Cert.Kernel2Ideal.Ffn.argG m c) (hU : U = Cert.Kernel2Ideal.Ffn.argU m c)
    (hD : D = Cert.Kernel2Ideal.Ffn.argD m c) (hS : S = Cert.Kernel2Ideal.Ffn.argS m c) (hB : B = Cert.Kernel2Ideal.Ffn.argB m c) :
    Cert.Reference2Ideal.Ffn.normArr (Cert.Reference2Ideal.Ffn.centredArr (Cert.Reference2Ideal.Ffn.mixedArr X (Cert.Reference2Ideal.Ffn.hiddenArr X G U) D)) S B
      = Cert.Kernel2Ideal.Ffn.outArr m c := by
  have key : ∀ (R : Fin 32768) (d : Fin 1024),
      Cert.Reference2Ideal.Ffn.normArr (Cert.Reference2Ideal.Ffn.centredArr (Cert.Reference2Ideal.Ffn.mixedArr X (Cert.Reference2Ideal.Ffn.hiddenArr X G U) D)) S B (ix2 R d)
        = Cert.Kernel2Ideal.Ffn.outArr m c (ix2 R d) := by
    intro R d
    rw [Cert.Reference2Ideal.Ffn.result_at, hX, hG, hU, hD, hS, hB]
    rfl
  refine funext fun (y : Cert.Kernel2Ideal.S32768x1024.Idx) => ?_
  have hy : y = ix2 ⟨(y 0).val, (y 0).isLt⟩ ⟨(y 1).val, (y 1).isLt⟩ := by
    funext a
    match a with
    | ⟨0, _⟩ => rfl
    | ⟨1, _⟩ => rfl
  rw [hy]
  exact key _ _

/-- The algebraic claim: on equal arguments the two programs end with equal results. -/
theorem algebraic : Cert.algebraic_Kernel2Ideal_Reference2Ideal (hKernel2Ideal := Cert.Kernel2Ideal.Gen.facts)
    (hReference2Ideal := Cert.Reference2Ideal.Gen.facts) := by
  intro m g m' g' hpre hagree
  refine ⟨fun c => Cert.Kernel2Ideal.Ffn.outArr m c, ?_, ?_⟩
  · exact (θ_run _ _ _).mono (fun _ h c => ⟨h.1 c, h.2 c⟩) (θ_run_and (Cert.Kernel2Ideal.Ffn.value m g) (Cert.Kernel2Ideal.Gen.unchanged m g))
  · refine (θ_run _ _ _).mono (fun _ h c => ⟨(h c).1.trans ?_, (h c).2⟩) (Cert.Reference2Ideal.Value.run m' g')
    obtain ⟨hX, hG, hU, hD, hS, hB⟩ := hagree c
    exact (Cert.Reference2Ideal.Ffn.result_eq m' c).trans (result_eq m _ _ _ _ _ _ c hX hG hU hD hS hB)

end Cert.Ffn

end
-- ==== Proof.ProjSpec.lean ====
module

public import Idealize.ShloMosaic.Lib.Claim
public import Idealize.ShloMosaic.Lib.Pointwise
public import Idealize.ShloMosaic.Lib.IdealHost

@[expose] public section

noncomputable section

/-! # The projection, one element at a time -/

namespace Cert.Proj

open Idealize.ShloMosaic
open scoped BigOperators

/-- Whether a padded lane holds one of the head's columns, which lie from `off` on, `w` to each head. -/
abbrev Held (off w c : ℕ) : Prop := c % 128 < w ∧ off + (c / 128 * w + c % 128) < 2200

/-- A weight of a padded lane: the column's where the lane holds one, zero elsewhere. -/
def padCol (W : Fin 1024 → Fin 2200 → EReal) (off w : ℕ) (k : Fin 1024) (c : ℕ) : EReal :=
  if h : Held off w c then W k ⟨off + (c / 128 * w + c % 128), h.2⟩ else 0

/-- A padded lane's product: the row times the column where the lane holds one, zero elsewhere. -/
def lane (x : Fin 1024 → EReal) (W : Fin 1024 → Fin 2200 → EReal) (off w c : ℕ) : EReal :=
  if h : Held off w c then ∑ k : Fin 1024, x k * W k ⟨off + (c / 128 * w + c % 128), h.2⟩ else 0

/-- A padded lane's offset. -/
def padOff (B : Fin 24 → EReal) (c : ℕ) : EReal :=
  if h : c % 128 < 12 ∧ c / 128 * 12 + c % 128 < 24 then B ⟨c / 128 * 12 + c % 128, h.2⟩ else 0

/-- The pool's column of one position. -/
def pool (x : Fin 1024 → EReal) (W : Fin 1024 → Fin 2200 → EReal) (n : Fin 256) : EReal := ∑ k : Fin 1024, x k * W k ⟨n.val, by omega⟩

/-- One lane of a position's query. -/
def query (x : Fin 1024 → EReal) (W : Fin 1024 → Fin 2200 → EReal) (n : ℕ) : EReal := lane x W 256 96 n * Ideal.ofBits .f32 0x3E16C740#32

/-- One lane of position `s`'s key for the selected blocks: a one marks the position's block. -/
def key (x : Fin 1024 → EReal) (W : Fin 1024 → Fin 2200 → EReal) (s n : ℕ) : EReal :=
  if n % 128 = 96 + s / 64 % 32 then 1 else lane x W 1408 96 n

/-- One lane of a position's value: lane 96 is one. -/
def value (x : Fin 1024 → EReal) (W : Fin 1024 → Fin 2200 → EReal) (off n : ℕ) : EReal :=
  if n % 128 = 96 then 1 else lane x W off 96 n

/-- One lane of a position's gates. -/
def gate (x : Fin 1024 → EReal) (W : Fin 1024 → Fin 2200 → EReal) (B : Fin 24 → EReal) (n : ℕ) : EReal :=
  Ideal.logistic (lane x W 2176 12 n + padOff B n)

/-- A padded lane's weight, read off a lane's guard. -/
theorem padCol_eq (W : Fin 1024 → Fin 2200 → EReal) (off w g : ℕ) (k : Fin 1024) (c : ℕ) (z : EReal) (hz : z = 0) (hc : c / 128 < g)
    (hlt : c % 128 < w → off + (c / 128 * w + c % 128) < 2200) (f : (h : c / 128 < g ∧ c % 128 < w) → EReal)
    (hf : ∀ h, f h = W k ⟨off + (c / 128 * w + c % 128), hlt h.2⟩) :
    (if h : c / 128 < g ∧ c % 128 < w then f h else z) = padCol W off w k c := by
  unfold padCol
  by_cases h : c % 128 < w
  · rw [dif_pos ⟨hc, h⟩, dif_pos ⟨h, hlt h⟩, hf]
  · rw [dif_neg (fun e => h e.2), dif_neg (fun e => h e.1), hz]

/-- A padded lane's product, read off a lane's guard. -/
theorem lane_eq (x : Fin 1024 → EReal) (W : Fin 1024 → Fin 2200 → EReal) (off w g c : ℕ) (z : EReal) (hz : z = 0) (hc : c / 128 < g)
    (hlt : c % 128 < w → off + (c / 128 * w + c % 128) < 2200) (f : (h : c / 128 < g ∧ c % 128 < w) → EReal)
    (hf : ∀ h, f h = ∑ k : Fin 1024, x k * W k ⟨off + (c / 128 * w + c % 128), hlt h.2⟩) :
    (if h : c / 128 < g ∧ c % 128 < w then f h else z) = lane x W off w c := by
  unfold lane
  by_cases h : c % 128 < w
  · rw [dif_pos ⟨hc, h⟩, dif_pos ⟨h, hlt h⟩, hf]
  · rw [dif_neg (fun e => h e.2), dif_neg (fun e => h e.1), hz]

/-- Padding the weights is padding the product. -/
theorem sum_padCol (x : Fin 1024 → EReal) (W : Fin 1024 → Fin 2200 → EReal) (off w c : ℕ) :
    ∑ k : Fin 1024, x k * padCol W off w k c = lane x W off w c := by
  unfold padCol lane
  by_cases h : Held off w c
  · simp only [dif_pos h]
  · simp only [dif_neg h, mul_zero, Finset.sum_const_zero]

/-- The same with the factors the other way about. -/
theorem sum_padCol' (x : Fin 1024 → EReal) (W : Fin 1024 → Fin 2200 → EReal) (off w c : ℕ) :
    ∑ k : Fin 1024, padCol W off w k c * x k = lane x W off w c := by
  rw [← sum_padCol]
  exact Finset.sum_congr rfl fun k _ => mul_comm _ _

end Cert.Proj

end
-- ==== Proof.ProjHost.lean ====
module

public import proofs.«01_k».proof.Proof.ProjSpec
public import proofs.«01_k».proof.Proof.SlcHost
public import proofs.«01_k».proof.Proof.Gen.Kernel3Ideal.Value
public import Idealize.ShloMosaic.Lib.Claim
public import Idealize.ShloMosaic.Lib.Routing.OpsOrder
public import Idealize.ShloMosaic.Lib.Pointwise
public import Idealize.ShloMosaic.Lib.Pipeline.ValueKit

@[expose] public section

set_option maxRecDepth 16384
set_option maxHeartbeats 1000000

noncomputable section

/-! # What the projection's windows' arrays hold, from the arguments -/

namespace Cert.Kernel3Ideal.Proj

open Cert.Kernel3Ideal Cert.Kernel3Ideal.Gen
open Idealize.ShloMosaic Idealize.ShloMosaic.TcCoe Idealize.ShloMosaic.StableHlo Idealize.SL.Sem
open scoped BigOperators

variable (m : (ℓ : Loc nD τ sig) → Buf (Elt Ideal) ℓ) (c : Dev nD)

/-- The activations as launched. -/
abbrev argX : FVec Ideal S2x16384x1024 .f32 := m ((c : Thread nD τ).loc main_arg0)
/-- The weights as launched. -/
abbrev argW : FVec Ideal S1024x2200 .f32 := m ((c : Thread nD τ).loc main_arg1)
/-- The gates' offsets as launched. -/
abbrev argB : FVec Ideal S24 .f32 := m ((c : Thread nD τ).loc main_arg2)
/-- The weights by row and column. -/
abbrev wts : Fin 1024 → Fin 2200 → EReal := fun k n => argW m c (ix2 k n)

/-- The offsets' array. -/
theorem b_entry (r : Fin 256) : V m c main_v41 (ix2 r 0) = Cert.Proj.padOff (fun e => argB m c (ix1 e)) r.val := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  simp only [TRef.ternary, TRef.binary, TRef.unary, TRef.toBuf, TRef.ofBuf, cast_eq]
  after_results_simp
  pointwise
  unfold Cert.Proj.padOff
  by_cases h : r.val % 128 < 12
  · refine (dif_pos ⟨by omega, h⟩).trans (Eq.trans ?_ (dif_pos ⟨h, by omega⟩).symm)
    rfl
  · refine (dif_neg (fun e => h e.2)).trans (Eq.trans ?_ (dif_neg (fun e => h e.1)).symm)
    exact Cert.KernelIdeal.Slc.sitofp_zero

/-- The weights laid out by output: the pool's columns, then the padded lanes of the queries and of four keys and values. -/
def wcat (W : Fin 1024 → Fin 2200 → EReal) (k : Fin 1024) (n : ℕ) : EReal :=
  if h : n < 256 then W k ⟨n, by omega⟩
  else if n - 256 < 1024 then Cert.Proj.padCol W 256 96 k (n - 256)
  else if n - 256 - 1024 < 256 then Cert.Proj.padCol W 1024 96 k (n - 256 - 1024)
  else if n - 256 - 1024 - 256 < 256 then Cert.Proj.padCol W 1216 96 k (n - 256 - 1024 - 256)
  else if n - 256 - 1024 - 256 - 256 < 256 then Cert.Proj.padCol W 1408 96 k (n - 256 - 1024 - 256 - 256)
  else Cert.Proj.padCol W 1792 96 k (n - 256 - 1024 - 256 - 256 - 256)

/-- The weights of the transposed outputs: the padded lanes of two values and of the gates. -/
def vcat (W : Fin 1024 → Fin 2200 → EReal) (n : ℕ) (k : Fin 1024) : EReal :=
  if n < 256 then Cert.Proj.padCol W 1600 96 k n
  else if n - 256 < 256 then Cert.Proj.padCol W 1984 96 k (n - 256)
  else Cert.Proj.padCol W 2176 12 k (n - 256 - 256)

/-- The weights' array. -/
theorem w_entry (k : Fin 1024) (n : Fin 2304) : V m c main_v25 (ix2 k n) = wcat (wts m c) k n.val := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  simp only [TRef.ternary, TRef.binary, TRef.unary, TRef.toBuf, TRef.ofBuf, cast_eq]
  after_results_simp
  dsimp only [Matrix.cons_val]
  after_results_loop
  pointwise
  unfold wcat
  refine dite_congr rfl (fun h => rfl) fun h0 => ?_
  refine dite_congr rfl (fun h1 => Cert.Proj.padCol_eq _ _ _ _ _ _ _ Cert.KernelIdeal.Slc.sitofp_zero (by omega) (by omega) _ (fun _ => rfl)) fun h1 => ?_
  refine dite_congr rfl (fun h2 => Cert.Proj.padCol_eq _ _ _ _ _ _ _ Cert.KernelIdeal.Slc.sitofp_zero (by omega) (by omega) _ (fun _ => rfl)) fun h2 => ?_
  refine dite_congr rfl (fun h3 => Cert.Proj.padCol_eq _ _ _ _ _ _ _ Cert.KernelIdeal.Slc.sitofp_zero (by omega) (by omega) _ (fun _ => rfl)) fun h3 => ?_
  refine dite_congr rfl (fun h4 => Cert.Proj.padCol_eq _ _ _ _ _ _ _ Cert.KernelIdeal.Slc.sitofp_zero (by omega) (by omega) _ (fun _ => rfl)) fun h4 => ?_
  exact Cert.Proj.padCol_eq _ _ _ _ _ _ _ Cert.KernelIdeal.Slc.sitofp_zero (by omega) (by omega) _ (fun _ => rfl)

/-- The transposed outputs' weights' array. -/
theorem v_entry (n : Fin 768) (k : Fin 1024) : V m c main_v37 (ix2 n k) = vcat (wts m c) n.val k := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  simp only [TRef.ternary, TRef.binary, TRef.unary, TRef.toBuf, TRef.ofBuf, cast_eq]
  after_results_simp
  dsimp only [Matrix.cons_val]
  after_results_loop
  pointwise
  unfold vcat
  refine dite_congr rfl (fun h1 => Cert.Proj.padCol_eq _ _ _ _ _ _ _ Cert.KernelIdeal.Slc.sitofp_zero (by omega) (by omega) _ (fun _ => rfl)) fun h1 => ?_
  refine dite_congr rfl (fun h2 => Cert.Proj.padCol_eq _ _ _ _ _ _ _ Cert.KernelIdeal.Slc.sitofp_zero (by omega) (by omega) _ (fun _ => rfl)) fun h2 => ?_
  exact Cert.Proj.padCol_eq _ _ _ _ _ _ _ Cert.KernelIdeal.Slc.sitofp_zero (by omega) (by omega) _ (fun _ => rfl)

end Cert.Kernel3Ideal.Proj

end
-- ==== Proof.ProjPay.lean ====
module

public import proofs.«01_k».proof.Proof.ProjSpec
public import proofs.«01_k».proof.Proof.SlcHost
public import proofs.«01_k».proof.Proof.Gen.Kernel3Ideal.Value
public import Idealize.ShloMosaic.Lib.Claim
public import Idealize.ShloMosaic.Lib.Pointwise
public import Idealize.ShloMosaic.Lib.WordCmp
public import Idealize.ShloMosaic.Lib.Pipeline.ValueKit
public import Idealize.ShloMosaic.Lib.Pipeline.ValueKit.Point

@[expose] public section

set_option maxRecDepth 16384
set_option maxHeartbeats 400000

noncomputable section

/-! # What one grid point of the projection leaves in each output's block -/

namespace Cert.Kernel3Ideal.Proj

open Cert.Kernel3Ideal Cert.Kernel3Ideal.Gen
open Idealize.ShloMosaic Idealize.ShloMosaic.TcCoe Idealize.ShloMosaic.StableHlo Idealize.ShloMosaic.Tactic Idealize.SL.Sem
open scoped BigOperators

/-- The block of a key modulo 32, as words. -/
theorem block_word (a r : ℕ) (ha : a < 16) (hr : r < 1024) :
    IntOp.andi (IntOp.shrsi ArithUnit.vector (IntOp.addi (Scalar.muli (BitVec.ofNat 32 a) 1024#32) (BitVec.ofNat 32 r)) 6#32) 31#32
      = BitVec.ofNat 32 ((a * 1024 + r) / 64 % 32) := by
  have e : IntOp.addi (Scalar.muli (BitVec.ofNat 32 a) 1024#32) (BitVec.ofNat 32 r) = BitVec.ofNat 32 (a * 1024 + r) := by
    show BitVec.ofNat 32 a * 1024#32 + BitVec.ofNat 32 r = _
    rw [← BitVec.ofNat_mul, ← BitVec.ofNat_add]
  rw [e]
  unfold IntOp.shrsi
  rw [if_pos (by decide)]
  change BitVec.sshiftRight (BitVec.ofNat 32 (a * 1024 + r)) 6 &&& 31#32 = _
  rw [BitVec.sshiftRight_eq_of_msb_false (by rw [BitVec.msb_eq_decide]; simp; omega)]
  apply BitVec.eq_of_toNat_eq
  rw [BitVec.toNat_and, BitVec.toNat_ushiftRight, BitVec.toNat_ofNat, BitVec.toNat_ofNat, Nat.shiftRight_eq_div_pow,
    show 31 % 2 ^ 32 = 2 ^ 5 - 1 from rfl, Nat.and_two_pow_sub_one_eq_mod, BitVec.toNat_ofNat]
  omega

/-- A choice by a word that decides a proposition. -/
theorem select_eq {w : BitVec 1} {q : Prop} [Decidable q] (h : w = BitVec.ofBool (decide q)) (a b : EReal) :
    Scalar.select (α := EReal) w a b = if q then a else b := by
  by_cases hq : q
  · rw [if_pos hq]; exact WordCmp.select_of_eq_one (h.trans (by rw [decide_eq_true hq]; rfl)) _ _
  · rw [if_neg hq]; exact WordCmp.select_of_eq_zero (h.trans (by rw [decide_eq_false hq]; rfl)) _ _

/-- The lanes that hold ones among the values. -/
theorem ones_word (n : Fin 256) : IntOp.cmpi CmpIPredicate.eq (IntOp.andi (BitVec.ofNat 32 n.val) 127#32) 96#32 = BitVec.ofBool (decide (n.val % 128 = 96)) := by
  rw [Cert.KernelIdeal.Slc.lane_word]
  exact WordCmp.cmpi_eq_ofNat (a := n.val % 128) (b := 96) (by omega) (by omega)

/-! ## The payloads over the loads -/

theorem pay2_at (P : FVec Ideal S1x1024x1024 .f32) (Q : FVec Ideal S1024x256 .bf16) (r : Fin 1024) (n : Fin 256) :
    k0_pay2 (F := Ideal) P Q (ix3 0 r n) = ∑ k : Fin 1024, P (ix3 0 r k) * Q (ix2 k n) := by
  pointwise [k0_pay2, k0_pay1]
theorem pay3_at (P : FVec Ideal S1x1024x1024 .f32) (Q : FVec Ideal S1024x1024 .bf16) (r : Fin 1024) (n : Fin 1024) :
    k0_pay3 (F := Ideal) P Q (ix3 0 r n) = (∑ k : Fin 1024, P (ix3 0 r k) * Q (ix2 k n)) * Ideal.ofBits .f32 0x3E16C740#32 := by
  pointwise [k0_pay3, k0_pay1]
theorem pay4_at (P : FVec Ideal S1x1024x1024 .f32) (Q : FVec Ideal S1024x256 .bf16) (r : Fin 1024) (n : Fin 256) :
    k0_pay4 (F := Ideal) P Q (ix3 0 r n) = ∑ k : Fin 1024, P (ix3 0 r k) * Q (ix2 k n) := by
  pointwise [k0_pay4, k0_pay1]
theorem pay6_at (P : FVec Ideal S1x1024x1024 .f32) (Q : FVec Ideal S1024x256 .bf16) (r : Fin 1024) (n : Fin 256) :
    k0_pay6 (F := Ideal) (k0_pay5 P Q) (ix3 0 r n) = ∑ k : Fin 1024, P (ix3 0 r k) * Q (ix2 k n) := by
  pointwise [k0_pay6, k0_pay5, k0_pay1]
theorem pay7_at (a : ℕ) (ha : a < 16) (P : FVec Ideal S1x1024x1024 .f32) (Q : FVec Ideal S1024x256 .bf16) (r : Fin 1024) (n : Fin 256) :
    k0_pay7 (F := Ideal) (BitVec.ofNat 32 a) (k0_pay1 P) Q (ix3 0 r n)
      = if n.val % 128 = 96 + (a * 1024 + r.val) / 64 % 32 then 1 else ∑ k : Fin 1024, P (ix3 0 r k) * Q (ix2 k n) := by
  pointwise [k0_pay7, k0_pay1]
  refine select_eq ?_ _ _
  rw [Cert.KernelIdeal.Slc.lane_word, block_word a r.val ha r.isLt, Cert.KernelIdeal.Slc.offset_word, WordCmp.cmpi_eq_ofNat (by omega) (by omega)]
theorem pay8_at (P : FVec Ideal S1x1024x1024 .f32) (Q : FVec Ideal S1024x256 .bf16) (r : Fin 1024) (n : Fin 256) :
    k0_pay8 (F := Ideal) (k0_pay1 P) Q (ix3 0 r n) = ∑ k : Fin 1024, P (ix3 0 r k) * Q (ix2 k n) := by
  pointwise [k0_pay8, k0_pay1]
theorem pay10_at (P : FVec Ideal S1x1024x1024 .f32) (Q : FVec Ideal S256x1024 .bf16) (B : FVec Ideal S256x1 .f32) (n : Fin 256) (r : Fin 1024) :
    k0_pay10 (F := Ideal) (k0_pay9 (k0_pay1 P) Q) B (ix3 0 n r) = Ideal.logistic ((∑ k : Fin 1024, Q (ix2 n k) * P (ix3 0 r k)) + B (ix2 n 0)) := by
  pointwise [k0_pay10, k0_pay9, k0_pay1]
theorem pay12_at (P : FVec Ideal S1x1024x1024 .f32) (Q : FVec Ideal S256x1024 .bf16) (n : Fin 256) (r : Fin 1024) :
    k0_pay12 (F := Ideal) (k0_pay1 P) Q (ix3 0 n r)
      = if n.val % 128 = 96 then 1 else ∑ k : Fin 1024, Q (ix2 n k) * P (ix3 0 r k) := by
  pointwise [k0_pay12, k0_pay11, k0_pay1]
  exact select_eq (ones_word n) _ _
theorem pay13_at (P : FVec Ideal S1x1024x1024 .f32) (Q : FVec Ideal S256x1024 .bf16) (n : Fin 256) (r : Fin 1024) :
    k0_pay13 (F := Ideal) (k0_pay1 P) Q (ix3 0 n r)
      = if n.val % 128 = 96 then 1 else ∑ k : Fin 1024, Q (ix2 n k) * P (ix3 0 r k) := by
  pointwise [k0_pay13, k0_pay11, k0_pay1]
  exact select_eq (ones_word n) _ _

/-! ## One store over the whole block -/

theorem canon_a {e : EltTy} (p : Vec Ideal S1x1024x256 e) (y : S1x1024x256.Idx) :
    View.canon (Val := Elt Ideal) (e := e) [⟨r0_2, p⟩] y = p y := by
  refine View.canon_apply_of_pieces (Val := Elt Ideal) (e := e) p _ ?_ y (View.cover_of_tiled [⟨r0_2, p⟩] S1x1024x256.size (by rfl) y)
  intro pc hpc
  rcases List.mem_cons.mp hpc with rfl | hpc
  · intro x
    show p x = p _
    refine congrArg p (funext fun a => Fin.ext ?_)
    match a with
    | ⟨0, _⟩ => show (x 0).val = 0 + 1 * (x 0).val; omega
    | ⟨1, _⟩ => show (x 1).val = 0 + 1 * (x 1).val; omega
    | ⟨2, _⟩ => show (x 2).val = 0 + 1 * (x 2).val; omega
  nomatch hpc
theorem canon_b {e : EltTy} (p : Vec Ideal S1x1024x1024 e) (y : S1x1024x1024.Idx) :
    View.canon (Val := Elt Ideal) (e := e) [⟨r0_0, p⟩] y = p y := by
  refine View.canon_apply_of_pieces (Val := Elt Ideal) (e := e) p _ ?_ y (View.cover_of_tiled [⟨r0_0, p⟩] S1x1024x1024.size (by rfl) y)
  intro pc hpc
  rcases List.mem_cons.mp hpc with rfl | hpc
  · intro x
    show p x = p _
    refine congrArg p (funext fun a => Fin.ext ?_)
    match a with
    | ⟨0, _⟩ => show (x 0).val = 0 + 1 * (x 0).val; omega
    | ⟨1, _⟩ => show (x 1).val = 0 + 1 * (x 1).val; omega
    | ⟨2, _⟩ => show (x 2).val = 0 + 1 * (x 2).val; omega
  nomatch hpc
theorem canon_c {e : EltTy} (p : Vec Ideal S1x256x1024 e) (y : S1x256x1024.Idx) :
    View.canon (Val := Elt Ideal) (e := e) [⟨r0_10, p⟩] y = p y := by
  refine View.canon_apply_of_pieces (Val := Elt Ideal) (e := e) p _ ?_ y (View.cover_of_tiled [⟨r0_10, p⟩] S1x256x1024.size (by rfl) y)
  intro pc hpc
  rcases List.mem_cons.mp hpc with rfl | hpc
  · intro x
    show p x = p _
    refine congrArg p (funext fun a => Fin.ext ?_)
    match a with
    | ⟨0, _⟩ => show (x 0).val = 0 + 1 * (x 0).val; omega
    | ⟨1, _⟩ => show (x 1).val = 0 + 1 * (x 1).val; omega
    | ⟨2, _⟩ => show (x 2).val = 0 + 1 * (x 2).val; omega
  nomatch hpc

/-! ## The loads -/

theorem ld_x (X : Vec Ideal S1x1024x1024 .f32) (r k : Fin 1024) :
    (View.ld (Val := Elt Ideal) (e' := .f32) X r0_0 : FVec Ideal S1x1024x1024 .f32) (ix3 0 r k) = X (ix3 0 r k) := by
  show X _ = X _
  refine congrArg X (funext fun a => Fin.ext ?_)
  match a with
  | ⟨0, _⟩ => rfl
  | ⟨1, _⟩ => show 0 + 1 * r.val = r.val; omega
  | ⟨2, _⟩ => show 0 + 1 * k.val = k.val; omega
theorem ld_w1 (W : Vec Ideal S1024x2304 .bf16) (k : Fin 1024) (n : Fin 256) :
    (View.ld (Val := Elt Ideal) (e' := .bf16) W r0_1 : FVec Ideal S1024x256 .bf16) (ix2 k n) = W (ix2 k ⟨0 + n.val, by omega⟩) := by
  show W _ = W _
  refine congrArg W (funext fun a => Fin.ext ?_)
  match a with
  | ⟨0, _⟩ => show 0 + 1 * k.val = k.val; omega
  | ⟨1, _⟩ => show 0 + 1 * n.val = 0 + n.val; omega
theorem ld_w3 (W : Vec Ideal S1024x2304 .bf16) (k : Fin 1024) (n : Fin 1024) :
    (View.ld (Val := Elt Ideal) (e' := .bf16) W r0_3 : FVec Ideal S1024x1024 .bf16) (ix2 k n) = W (ix2 k ⟨256 + n.val, by omega⟩) := by
  show W _ = W _
  refine congrArg W (funext fun a => Fin.ext ?_)
  match a with
  | ⟨0, _⟩ => show 0 + 1 * k.val = k.val; omega
  | ⟨1, _⟩ => show 256 + 1 * n.val = 256 + n.val; omega
theorem ld_w4 (W : Vec Ideal S1024x2304 .bf16) (k : Fin 1024) (n : Fin 256) :
    (View.ld (Val := Elt Ideal) (e' := .bf16) W r0_4 : FVec Ideal S1024x256 .bf16) (ix2 k n) = W (ix2 k ⟨1280 + n.val, by omega⟩) := by
  show W _ = W _
  refine congrArg W (funext fun a => Fin.ext ?_)
  match a with
  | ⟨0, _⟩ => show 0 + 1 * k.val = k.val; omega
  | ⟨1, _⟩ => show 1280 + 1 * n.val = 1280 + n.val; omega
theorem ld_w5 (W : Vec Ideal S1024x2304 .bf16) (k : Fin 1024) (n : Fin 256) :
    (View.ld (Val := Elt Ideal) (e' := .bf16) W r0_5 : FVec Ideal S1024x256 .bf16) (ix2 k n) = W (ix2 k ⟨1536 + n.val, by omega⟩) := by
  show W _ = W _
  refine congrArg W (funext fun a => Fin.ext ?_)
  match a with
  | ⟨0, _⟩ => show 0 + 1 * k.val = k.val; omega
  | ⟨1, _⟩ => show 1536 + 1 * n.val = 1536 + n.val; omega
theorem ld_w6 (W : Vec Ideal S1024x2304 .bf16) (k : Fin 1024) (n : Fin 256) :
    (View.ld (Val := Elt Ideal) (e' := .bf16) W r0_6 : FVec Ideal S1024x256 .bf16) (ix2 k n) = W (ix2 k ⟨1792 + n.val, by omega⟩) := by
  show W _ = W _
  refine congrArg W (funext fun a => Fin.ext ?_)
  match a with
  | ⟨0, _⟩ => show 0 + 1 * k.val = k.val; omega
  | ⟨1, _⟩ => show 1792 + 1 * n.val = 1792 + n.val; omega
theorem ld_w7 (W : Vec Ideal S1024x2304 .bf16) (k : Fin 1024) (n : Fin 256) :
    (View.ld (Val := Elt Ideal) (e' := .bf16) W r0_7 : FVec Ideal S1024x256 .bf16) (ix2 k n) = W (ix2 k ⟨2048 + n.val, by omega⟩) := by
  show W _ = W _
  refine congrArg W (funext fun a => Fin.ext ?_)
  match a with
  | ⟨0, _⟩ => show 0 + 1 * k.val = k.val; omega
  | ⟨1, _⟩ => show 2048 + 1 * n.val = 2048 + n.val; omega
theorem ld_v8 (W : Vec Ideal S768x1024 .bf16) (n : Fin 256) (k : Fin 1024) :
    (View.ld (Val := Elt Ideal) (e' := .bf16) W r0_8 : FVec Ideal S256x1024 .bf16) (ix2 n k) = W (ix2 ⟨512 + n.val, by omega⟩ k) := by
  show W _ = W _
  refine congrArg W (funext fun a => Fin.ext ?_)
  match a with
  | ⟨0, _⟩ => show 512 + 1 * n.val = 512 + n.val; omega
  | ⟨1, _⟩ => show 0 + 1 * k.val = k.val; omega
theorem ld_v11 (W : Vec Ideal S768x1024 .bf16) (n : Fin 256) (k : Fin 1024) :
    (View.ld (Val := Elt Ideal) (e' := .bf16) W r0_11 : FVec Ideal S256x1024 .bf16) (ix2 n k) = W (ix2 ⟨0 + n.val, by omega⟩ k) := by
  show W _ = W _
  refine congrArg W (funext fun a => Fin.ext ?_)
  match a with
  | ⟨0, _⟩ => show 0 + 1 * n.val = 0 + n.val; omega
  | ⟨1, _⟩ => show 0 + 1 * k.val = k.val; omega
theorem ld_v12 (W : Vec Ideal S768x1024 .bf16) (n : Fin 256) (k : Fin 1024) :
    (View.ld (Val := Elt Ideal) (e' := .bf16) W r0_12 : FVec Ideal S256x1024 .bf16) (ix2 n k) = W (ix2 ⟨256 + n.val, by omega⟩ k) := by
  show W _ = W _
  refine congrArg W (funext fun a => Fin.ext ?_)
  match a with
  | ⟨0, _⟩ => show 256 + 1 * n.val = 256 + n.val; omega
  | ⟨1, _⟩ => show 0 + 1 * k.val = k.val; omega
theorem ld_b (B : Vec Ideal S256x1 .f32) (n : Fin 256) :
    (View.ld (Val := Elt Ideal) (e' := .f32) B r0_9 : FVec Ideal S256x1 .f32) (ix2 n 0) = B (ix2 n 0) := by
  show B _ = B _
  refine congrArg B (funext fun a => Fin.ext ?_)
  match a with
  | ⟨0, _⟩ => show 0 + 1 * n.val = n.val; omega
  | ⟨1, _⟩ => rfl

end Cert.Kernel3Ideal.Proj

end
-- ==== Proof.ProjBlock.lean ====
module

public import proofs.«01_k».proof.Proof.ProjHost
public import proofs.«01_k».proof.Proof.ProjPay

@[expose] public section

set_option maxRecDepth 16384
set_option maxHeartbeats 400000

noncomputable section

/-! # The projection's output arrays -/

namespace Cert.Kernel3Ideal.Proj

open Cert.Kernel3Ideal Cert.Kernel3Ideal.Gen
open Idealize.ShloMosaic Idealize.ShloMosaic.TcCoe Idealize.ShloMosaic.StableHlo Idealize.ShloMosaic.Tactic Idealize.SL.Sem
open scoped BigOperators

/-! ## The laid-out weights by output -/

theorem wcat_u (W : Fin 1024 → Fin 2200 → EReal) (k : Fin 1024) (n : Fin 256) : wcat W k (0 + n.val) = W k ⟨n.val, by omega⟩ := by
  unfold wcat
  rw [dif_pos (by omega)]
  exact congrArg (W k) (Fin.ext (by show 0 + n.val = n.val; omega))
theorem wcat_q (W : Fin 1024 → Fin 2200 → EReal) (k : Fin 1024) (n : Fin 1024) : wcat W k (256 + n.val) = Cert.Proj.padCol W 256 96 k n.val := by
  unfold wcat
  rw [dif_neg (by omega), if_pos (by omega)]
  exact congrArg (Cert.Proj.padCol W 256 96 k) (by omega)
theorem wcat_kc (W : Fin 1024 → Fin 2200 → EReal) (k : Fin 1024) (n : Fin 256) : wcat W k (1280 + n.val) = Cert.Proj.padCol W 1024 96 k n.val := by
  unfold wcat
  rw [dif_neg (by omega), if_neg (by omega), if_pos (by omega)]
  exact congrArg (Cert.Proj.padCol W 1024 96 k) (by omega)
theorem wcat_vc (W : Fin 1024 → Fin 2200 → EReal) (k : Fin 1024) (n : Fin 256) : wcat W k (1536 + n.val) = Cert.Proj.padCol W 1216 96 k n.val := by
  unfold wcat
  rw [dif_neg (by omega), if_neg (by omega), if_neg (by omega), if_pos (by omega)]
  exact congrArg (Cert.Proj.padCol W 1216 96 k) (by omega)
theorem wcat_ks (W : Fin 1024 → Fin 2200 → EReal) (k : Fin 1024) (n : Fin 256) : wcat W k (1792 + n.val) = Cert.Proj.padCol W 1408 96 k n.val := by
  unfold wcat
  rw [dif_neg (by omega), if_neg (by omega), if_neg (by omega), if_neg (by omega), if_pos (by omega)]
  exact congrArg (Cert.Proj.padCol W 1408 96 k) (by omega)
theorem wcat_kw (W : Fin 1024 → Fin 2200 → EReal) (k : Fin 1024) (n : Fin 256) : wcat W k (2048 + n.val) = Cert.Proj.padCol W 1792 96 k n.val := by
  unfold wcat
  rw [dif_neg (by omega), if_neg (by omega), if_neg (by omega), if_neg (by omega), if_neg (by omega)]
  exact congrArg (Cert.Proj.padCol W 1792 96 k) (by omega)
theorem vcat_s (W : Fin 1024 → Fin 2200 → EReal) (k : Fin 1024) (n : Fin 256) : vcat W (0 + n.val) k = Cert.Proj.padCol W 1600 96 k n.val := by
  unfold vcat
  rw [if_pos (by omega)]
  exact congrArg (Cert.Proj.padCol W 1600 96 k) (by omega)
theorem vcat_w (W : Fin 1024 → Fin 2200 → EReal) (k : Fin 1024) (n : Fin 256) : vcat W (256 + n.val) k = Cert.Proj.padCol W 1984 96 k n.val := by
  unfold vcat
  rw [if_neg (by omega), if_pos (by omega)]
  exact congrArg (Cert.Proj.padCol W 1984 96 k) (by omega)
theorem vcat_g (W : Fin 1024 → Fin 2200 → EReal) (k : Fin 1024) (n : Fin 256) : vcat W (512 + n.val) k = Cert.Proj.padCol W 2176 12 k n.val := by
  unfold vcat
  rw [if_neg (by omega), if_neg (by omega)]
  exact congrArg (Cert.Proj.padCol W 2176 12 k) (by omega)

/-- A row's product with a padded column. -/
theorem row_lane (x : Fin 1024 → EReal) (W : Fin 1024 → Fin 2200 → EReal) (off w c : ℕ) (p q : Fin 1024 → EReal)
    (hp : ∀ k, p k = x k) (hq : ∀ k, q k = Cert.Proj.padCol W off w k c) : ∑ k, p k * q k = Cert.Proj.lane x W off w c := by
  rw [← Cert.Proj.sum_padCol]
  exact Finset.sum_congr rfl fun k _ => congrArg₂ (· * ·) (hp k) (hq k)
/-- A padded column's product with a row. -/
theorem lane_row (x : Fin 1024 → EReal) (W : Fin 1024 → Fin 2200 → EReal) (off w c : ℕ) (p q : Fin 1024 → EReal)
    (hp : ∀ k, p k = x k) (hq : ∀ k, q k = Cert.Proj.padCol W off w k c) : ∑ k, q k * p k = Cert.Proj.lane x W off w c := by
  rw [← Cert.Proj.sum_padCol']
  exact Finset.sum_congr rfl fun k _ => congrArg₂ (· * ·) (hq k) (hp k)

/-! ## The output blocks over the input blocks -/

section
variable (i : grid0.Coords) (x0 : Vec Ideal S1x1024x1024 .f32) (x1 : Vec Ideal S1024x2304 .bf16) (x2 : Vec Ideal S768x1024 .bf16) (x3 : Vec Ideal S256x1 .f32)
variable (x : Fin 1024 → EReal) (W : Fin 1024 → Fin 2200 → EReal) (B : Fin 24 → EReal) (r : Fin 1024)
variable (h0 : ∀ k : Fin 1024, x0 (ix3 0 r k) = x k) (h1 : ∀ (k : Fin 1024) (n : Fin 2304), x1 (ix2 k n) = wcat W k n.val)
variable (h2 : ∀ (n : Fin 768) (k : Fin 1024), x2 (ix2 n k) = vcat W n.val k) (h3 : ∀ n : Fin 256, x3 (ix2 n 0) = Cert.Proj.padOff B n.val)
include h0

include h1 in
theorem out4_at (n : Fin 256) : out0_4 (F := Ideal) i x0 x1 x2 x3 (ix3 0 r n) = Cert.Proj.pool x W n := by
  unfold out0_4
  refine (canon_a _ _).trans ((pay2_at _ _ r n).trans ?_)
  exact Finset.sum_congr rfl fun k _ => congrArg₂ (· * ·) ((ld_x x0 r k).trans (h0 k)) ((ld_w1 x1 k n).trans ((h1 k _).trans (wcat_u W k n)))
include h1 in
theorem out5_at (n : Fin 1024) : out0_5 (F := Ideal) i x0 x1 x2 x3 (ix3 0 r n) = Cert.Proj.query x W n.val := by
  unfold out0_5
  refine (canon_b _ _).trans ((pay3_at _ _ r n).trans ?_)
  exact congrArg (· * Ideal.ofBits .f32 0x3E16C740#32) (row_lane x W 256 96 n.val _ _ (fun k => (ld_x x0 r k).trans (h0 k)) (fun k => (ld_w3 x1 k n).trans ((h1 k _).trans (wcat_q W k n))))
include h1 in
theorem out6_at (n : Fin 256) : out0_6 (F := Ideal) i x0 x1 x2 x3 (ix3 0 r n) = Cert.Proj.lane x W 1024 96 n.val := by
  unfold out0_6
  refine (canon_a _ _).trans ((pay4_at _ _ r n).trans ?_)
  exact (row_lane x W 1024 96 n.val _ _ (fun k => (ld_x x0 r k).trans (h0 k)) (fun k => (ld_w4 x1 k n).trans ((h1 k _).trans (wcat_kc W k n))))
include h1 in
theorem out7_at (n : Fin 256) : out0_7 (F := Ideal) i x0 x1 x2 x3 (ix3 0 r n) = Cert.Proj.lane x W 1216 96 n.val := by
  unfold out0_7
  refine (canon_a _ _).trans ((pay6_at _ _ r n).trans ?_)
  exact (row_lane x W 1216 96 n.val _ _ (fun k => (ld_x x0 r k).trans (h0 k)) (fun k => (ld_w5 x1 k n).trans ((h1 k _).trans (wcat_vc W k n))))
include h1 in
theorem out9_at (n : Fin 256) : out0_9 (F := Ideal) i x0 x1 x2 x3 (ix3 0 r n) = Cert.Proj.lane x W 1792 96 n.val := by
  unfold out0_9 k0_pay14
  refine (canon_a _ _).trans ((pay8_at _ _ r n).trans ?_)
  exact (row_lane x W 1792 96 n.val _ _ (fun k => (ld_x x0 r k).trans (h0 k)) (fun k => (ld_w7 x1 k n).trans ((h1 k _).trans (wcat_kw W k n))))
include h1 in
theorem out8_at (n : Fin 256) : out0_8 (F := Ideal) i x0 x1 x2 x3 (ix3 0 r n) = Cert.Proj.key x W ((i 1).val * 1024 + r.val) n.val := by
  unfold out0_8 k0_pay14
  refine (canon_a _ _).trans ((pay7_at (i 1).val (i 1).isLt _ _ r n).trans ?_)
  exact congrArg (fun z => if n.val % 128 = 96 + ((i 1).val * 1024 + r.val) / 64 % 32 then 1 else z) (row_lane x W 1408 96 n.val _ _ (fun k => (ld_x x0 r k).trans (h0 k)) (fun k => (ld_w6 x1 k n).trans ((h1 k _).trans (wcat_ks W k n))))
include h2 h3 in
theorem out10_at (n : Fin 256) : out0_10 (F := Ideal) i x0 x1 x2 x3 (ix3 0 n r) = Cert.Proj.gate x W B n.val := by
  unfold out0_10 k0_pay14
  refine (canon_c _ _).trans ((pay10_at _ _ _ n r).trans ?_)
  exact congrArg Ideal.logistic (congrArg₂ (· + ·) (lane_row x W 2176 12 n.val _ _ (fun k => (ld_x x0 r k).trans (h0 k)) (fun k => (ld_v8 x2 n k).trans ((h2 _ k).trans (vcat_g W k n)))) ((ld_b x3 n).trans (h3 n)))
include h2 in
theorem out11_at (n : Fin 256) : out0_11 (F := Ideal) i x0 x1 x2 x3 (ix3 0 n r) = Cert.Proj.value x W 1600 n.val := by
  unfold out0_11 k0_pay14
  refine (canon_c _ _).trans ((pay12_at _ _ n r).trans ?_)
  exact congrArg (fun z => if n.val % 128 = 96 then 1 else z) (lane_row x W 1600 96 n.val _ _ (fun k => (ld_x x0 r k).trans (h0 k)) (fun k => (ld_v11 x2 n k).trans ((h2 _ k).trans (vcat_s W k n))))
include h2 in
theorem out12_at (n : Fin 256) : out0_12 (F := Ideal) i x0 x1 x2 x3 (ix3 0 n r) = Cert.Proj.value x W 1984 n.val := by
  unfold out0_12 k0_pay14
  refine (canon_c _ _).trans ((pay13_at _ _ n r).trans ?_)
  exact congrArg (fun z => if n.val % 128 = 96 then 1 else z) (lane_row x W 1984 96 n.val _ _ (fun k => (ld_x x0 r k).trans (h0 k)) (fun k => (ld_v12 x2 n k).trans ((h2 _ k).trans (vcat_w W k n))))
end

/-! ## The blocks a grid point stands on -/

variable (m : (ℓ : Loc nD τ sig) → Buf (Elt Ideal) ℓ) (c : Dev nD)

theorem idx0 : ∀ t : Fin cfg0.N, win0_0.index t = ![t.val / 16, t.val % 16, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val / 16, t.val % 16, 0] := (by decide +kernel : ∀ t : Fin grid0.N, _)
theorem idx5 : ∀ t : Fin cfg0.N, win0_5.index t = ![t.val / 16, t.val % 16, 0] := (by decide +kernel : ∀ t : Fin grid0.N, _)
theorem idx6 : ∀ t : Fin cfg0.N, win0_6.index t = ![t.val / 16, t.val % 16, 0] := (by decide +kernel : ∀ t : Fin grid0.N, _)
theorem idx7 : ∀ t : Fin cfg0.N, win0_7.index t = ![t.val / 16, t.val % 16, 0] := (by decide +kernel : ∀ t : Fin grid0.N, _)
theorem idx8 : ∀ t : Fin cfg0.N, win0_8.index t = ![t.val / 16, t.val % 16, 0] := (by decide +kernel : ∀ t : Fin grid0.N, _)
theorem idx9 : ∀ t : Fin cfg0.N, win0_9.index t = ![t.val / 16, t.val % 16, 0] := (by decide +kernel : ∀ t : Fin grid0.N, _)
theorem idx10 : ∀ t : Fin cfg0.N, win0_10.index t = ![t.val / 16, 0, t.val % 16] := (by decide +kernel : ∀ t : Fin grid0.N, _)
theorem idx11 : ∀ t : Fin cfg0.N, win0_11.index t = ![t.val / 16, 0, t.val % 16] := (by decide +kernel : ∀ t : Fin grid0.N, _)
theorem idx12 : ∀ t : Fin cfg0.N, win0_12.index t = ![t.val / 16, 0, t.val % 16] := (by decide +kernel : ∀ t : Fin grid0.N, _)
theorem coord : ∀ t : Fin cfg0.N, (grid0.coords t 1).val = t.val % 16 := (by decide +kernel : ∀ t : Fin grid0.N, _)
theorem nt (t : Fin cfg0.N) : t.val < 32 := t.isLt

theorem emb0 (t : Fin cfg0.N) (y : S1x1024x1024.Idx) (a : Fin 3) :
    ((((cfg0.win 0).blk t).view.emb y : S2x16384x1024.Idx) a : ℕ) = win0_0.index t a * win0_0.size a + y a := Pipeline.Window.rect_emb_val win0_0 t y a
theorem emb1 (t : Fin cfg0.N) (y : S1024x2304.Idx) (a : Fin 2) :
    ((((cfg0.win 1).blk t).view.emb y : S1024x2304.Idx) a : ℕ) = win0_1.index t a * win0_1.size a + y a := Pipeline.Window.rect_emb_val win0_1 t y a
theorem emb2 (t : Fin cfg0.N) (y : S768x1024.Idx) (a : Fin 2) :
    ((((cfg0.win 2).blk t).view.emb y : S768x1024.Idx) a : ℕ) = win0_2.index t a * win0_2.size a + y a := Pipeline.Window.rect_emb_val win0_2 t y a
theorem emb3 (t : Fin cfg0.N) (y : S256x1.Idx) (a : Fin 2) :
    ((((cfg0.win 3).blk t).view.emb y : S256x1.Idx) a : ℕ) = win0_3.index t a * win0_3.size a + y a := Pipeline.Window.rect_emb_val win0_3 t y a
theorem emb4 (t : Fin cfg0.N) (y : S1x1024x256.Idx) (a : Fin 3) :
    ((((cfg0.win 4).blk t).view.emb y : S2x16384x256.Idx) a : ℕ) = win0_4.index t a * win0_4.size a + y a := Pipeline.Window.rect_emb_val win0_4 t y a
theorem emb5 (t : Fin cfg0.N) (y : S1x1024x1024.Idx) (a : Fin 3) :
    ((((cfg0.win 5).blk t).view.emb y : S2x16384x1024.Idx) a : ℕ) = win0_5.index t a * win0_5.size a + y a := Pipeline.Window.rect_emb_val win0_5 t y a
theorem emb6 (t : Fin cfg0.N) (y : S1x1024x256.Idx) (a : Fin 3) :
    ((((cfg0.win 6).blk t).view.emb y : S2x16384x256.Idx) a : ℕ) = win0_6.index t a * win0_6.size a + y a := Pipeline.Window.rect_emb_val win0_6 t y a
theorem emb7 (t : Fin cfg0.N) (y : S1x1024x256.Idx) (a : Fin 3) :
    ((((cfg0.win 7).blk t).view.emb y : S2x16384x256.Idx) a : ℕ) = win0_7.index t a * win0_7.size a + y a := Pipeline.Window.rect_emb_val win0_7 t y a
theorem emb8 (t : Fin cfg0.N) (y : S1x1024x256.Idx) (a : Fin 3) :
    ((((cfg0.win 8).blk t).view.emb y : S2x16384x256.Idx) a : ℕ) = win0_8.index t a * win0_8.size a + y a := Pipeline.Window.rect_emb_val win0_8 t y a
theorem emb9 (t : Fin cfg0.N) (y : S1x1024x256.Idx) (a : Fin 3) :
    ((((cfg0.win 9).blk t).view.emb y : S2x16384x256.Idx) a : ℕ) = win0_9.index t a * win0_9.size a + y a := Pipeline.Window.rect_emb_val win0_9 t y a
theorem emb10 (t : Fin cfg0.N) (y : S1x256x1024.Idx) (a : Fin 3) :
    ((((cfg0.win 10).blk t).view.emb y : S2x256x16384.Idx) a : ℕ) = win0_10.index t a * win0_10.size a + y a := Pipeline.Window.rect_emb_val win0_10 t y a
theorem emb11 (t : Fin cfg0.N) (y : S1x256x1024.Idx) (a : Fin 3) :
    ((((cfg0.win 11).blk t).view.emb y : S2x256x16384.Idx) a : ℕ) = win0_11.index t a * win0_11.size a + y a := Pipeline.Window.rect_emb_val win0_11 t y a
theorem emb12 (t : Fin cfg0.N) (y : S1x256x1024.Idx) (a : Fin 3) :
    ((((cfg0.win 12).blk t).view.emb y : S2x256x16384.Idx) a : ℕ) = win0_12.index t a * win0_12.size a + y a := Pipeline.Window.rect_emb_val win0_12 t y a
theorem read0 (f : FVec Ideal S2x16384x1024 .f32) (t : Fin cfg0.N) (y : S1x1024x1024.Idx) :
    View.read (Elt Ideal) ((cfg0.win 0).blk t).view f y = f (((cfg0.win 0).blk t).view.emb y) := rfl
theorem read1 (f : FVec Ideal S1024x2304 .bf16) (t : Fin cfg0.N) (y : S1024x2304.Idx) :
    View.read (Elt Ideal) ((cfg0.win 1).blk t).view f y = f (((cfg0.win 1).blk t).view.emb y) := rfl
theorem read2 (f : FVec Ideal S768x1024 .bf16) (t : Fin cfg0.N) (y : S768x1024.Idx) :
    View.read (Elt Ideal) ((cfg0.win 2).blk t).view f y = f (((cfg0.win 2).blk t).view.emb y) := rfl
theorem read3 (f : FVec Ideal S256x1 .f32) (t : Fin cfg0.N) (y : S256x1.Idx) :
    View.read (Elt Ideal) ((cfg0.win 3).blk t).view f y = f (((cfg0.win 3).blk t).view.emb y) := rfl

theorem blk0 (t : Fin cfg0.N) (r k : Fin 1024) (b : Fin 2) (s : Fin 16384) (hb : b.val = t.val / 16) (hs : s.val = t.val % 16 * 1024 + r.val) :
    (iblk m c 0 t : Vec Ideal S1x1024x1024 .f32) (ix3 0 r k) = argX m c (ix3 b s k) := by
  refine Eq.trans ?_ (congrFun (V_main_arg0 m c) (ix3 b s k))
  unfold iblk
  refine (read0 (V m c main_arg0) t (ix3 0 r k)).trans (congrArg (V m c main_arg0) (funext fun a => Fin.ext ((emb0 t (ix3 0 r k) a).trans ?_)))
  rw [idx0 t]
  match a with
  | ⟨0, _⟩ => show t.val / 16 * 1 + 0 = b.val; omega
  | ⟨1, _⟩ => show t.val % 16 * 1024 + r.val = s.val; omega
  | ⟨2, _⟩ => show 0 * win0_0.size (2 : Fin 3) + k.val = k.val; rw [Nat.zero_mul, Nat.zero_add]
theorem blk1 (t : Fin cfg0.N) (k : Fin 1024) (n : Fin 2304) : (iblk m c 1 t : Vec Ideal S1024x2304 .bf16) (ix2 k n) = wcat (wts m c) k n.val := by
  refine Eq.trans ?_ (w_entry m c k n)
  unfold iblk
  refine (read1 (V m c main_v25) t (ix2 k n)).trans (congrArg (V m c main_v25) (funext fun a => Fin.ext ((emb1 t (ix2 k n) a).trans ?_)))
  rw [idx1 t]
  match a with
  | ⟨0, _⟩ => show 0 * win0_1.size (0 : Fin 2) + k.val = k.val; rw [Nat.zero_mul, Nat.zero_add]
  | ⟨1, _⟩ => show 0 * win0_1.size (1 : Fin 2) + n.val = n.val; rw [Nat.zero_mul, Nat.zero_add]
theorem blk2 (t : Fin cfg0.N) (k : Fin 768) (n : Fin 1024) : (iblk m c 2 t : Vec Ideal S768x1024 .bf16) (ix2 k n) = vcat (wts m c) k.val n := by
  refine Eq.trans ?_ (v_entry m c k n)
  unfold iblk
  refine (read2 (V m c main_v37) t (ix2 k n)).trans (congrArg (V m c main_v37) (funext fun a => Fin.ext ((emb2 t (ix2 k n) a).trans ?_)))
  rw [idx2 t]
  match a with
  | ⟨0, _⟩ => show 0 * win0_2.size (0 : Fin 2) + k.val = k.val; rw [Nat.zero_mul, Nat.zero_add]
  | ⟨1, _⟩ => show 0 * win0_2.size (1 : Fin 2) + n.val = n.val; rw [Nat.zero_mul, Nat.zero_add]
/-- The gates' offsets, by number. -/
def offs : Fin 24 → EReal := fun e => argB m c (ix1 e)
theorem blk3 (t : Fin cfg0.N) (n : Fin 256) : (iblk m c 3 t : Vec Ideal S256x1 .f32) (ix2 n 0) = Cert.Proj.padOff (offs m c) n.val := by
  refine Eq.trans ?_ (b_entry m c n)
  unfold iblk
  refine (read3 (V m c main_v41) t (ix2 n 0)).trans (congrArg (V m c main_v41) (funext fun a => Fin.ext ((emb3 t (ix2 n 0) a).trans ?_)))
  rw [idx3 t]
  match a with
  | ⟨0, _⟩ => show 0 * win0_3.size (0 : Fin 2) + n.val = n.val; rw [Nat.zero_mul, Nat.zero_add]
  | ⟨1, _⟩ => rfl

/-! ## The output arrays -/

/-- One position's row. -/
def row (b : Fin 2) (s : Fin 16384) : Fin 1024 → EReal := fun k => argX m c (ix3 b s k)

/-- The pool's columns. -/
def arr4 : FVec Ideal S2x16384x256 .f32 := fun y => Cert.Proj.pool (row m c ⟨(y 0).val, (y 0).isLt⟩ ⟨(y 1).val, (y 1).isLt⟩) (wts m c) ⟨(y 2).val, (y 2).isLt⟩
/-- The queries. -/
def arr5 : FVec Ideal S2x16384x1024 .bf16 := fun y => Cert.Proj.query (row m c ⟨(y 0).val, (y 0).isLt⟩ ⟨(y 1).val, (y 1).isLt⟩) (wts m c) (y 2).val
/-- The compressed blocks' keys. -/
def arr6 : FVec Ideal S2x16384x256 .f32 := fun y => Cert.Proj.lane (row m c ⟨(y 0).val, (y 0).isLt⟩ ⟨(y 1).val, (y 1).isLt⟩) (wts m c) 1024 96 (y 2).val
/-- The compressed blocks' values. -/
def arr7 : FVec Ideal S2x16384x256 .f32 := fun y => Cert.Proj.lane (row m c ⟨(y 0).val, (y 0).isLt⟩ ⟨(y 1).val, (y 1).isLt⟩) (wts m c) 1216 96 (y 2).val
/-- The selected blocks' keys. -/
def arr8 : FVec Ideal S2x16384x256 .bf16 := fun y => Cert.Proj.key (row m c ⟨(y 0).val, (y 0).isLt⟩ ⟨(y 1).val, (y 1).isLt⟩) (wts m c) (y 1).val (y 2).val
/-- The window's keys. -/
def arr9 : FVec Ideal S2x16384x256 .bf16 := fun y => Cert.Proj.lane (row m c ⟨(y 0).val, (y 0).isLt⟩ ⟨(y 1).val, (y 1).isLt⟩) (wts m c) 1792 96 (y 2).val
/-- The gates. -/
def arr10 : FVec Ideal S2x256x16384 .f32 := fun y => Cert.Proj.gate (row m c ⟨(y 0).val, (y 0).isLt⟩ ⟨(y 2).val, (y 2).isLt⟩) (wts m c) (offs m c) (y 1).val
/-- The selected blocks' values. -/
def arr11 : FVec Ideal S2x256x16384 .bf16 := fun y => Cert.Proj.value (row m c ⟨(y 0).val, (y 0).isLt⟩ ⟨(y 2).val, (y 2).isLt⟩) (wts m c) 1600 (y 1).val
/-- The window's values. -/
def arr12 : FVec Ideal S2x256x16384 .bf16 := fun y => Cert.Proj.value (row m c ⟨(y 0).val, (y 0).isLt⟩ ⟨(y 2).val, (y 2).isLt⟩) (wts m c) 1984 (y 1).val

theorem oblk4 (t : Fin cfg0.N) (r : Fin 1024) (n : Fin 256) (b : Fin 2) (s : Fin 16384) (hb : b.val = t.val / 16) (hs : s.val = t.val % 16 * 1024 + r.val) :
    out0_4 (F := Ideal) (grid0.coords t) (iblk m c 0 t) (iblk m c 1 t) (iblk m c 2 t) (iblk m c 3 t) (ix3 0 r n) = arr4 m c (ix3 b s n) := by
  exact out4_at (grid0.coords t) (iblk m c 0 t) (iblk m c 1 t) (iblk m c 2 t) (iblk m c 3 t) (row m c b s) (wts m c) r (fun k => blk0 m c t r k b s hb hs) (fun k n => blk1 m c t k n) n

theorem out_emb4 (t : Fin cfg0.N) (y : S1x1024x256.Idx) :
    out0_4 (F := Ideal) (grid0.coords t) (iblk m c 0 t) (iblk m c 1 t) (iblk m c 2 t) (iblk m c 3 t) y = arr4 m c (((cfg0.win 4).blk t).view.emb y) := by
  have e := emb4 t y
  generalize (((cfg0.win 4).blk t).view.emb y : S2x16384x256.Idx) = z at e
  rw [idx4 t] at e
  have y0 : (y 0).val < 1 := (y 0).isLt
  have e0 : (z 0 : ℕ) = t.val / 16 * 1 + (y 0).val := e 0
  have e1 : (z 1 : ℕ) = t.val % 16 * 1024 + (y 1).val := e 1
  have e2 : (z 2 : ℕ) = 0 * win0_4.size (2 : Fin 3) + (y 2).val := e 2
  rw [Nat.zero_mul, Nat.zero_add] at e2
  have hy : y = (ix3 0 ⟨(y 1).val, (y 1).isLt⟩ ⟨(y 2).val, (y 2).isLt⟩ : S1x1024x256.Idx) := by
    funext a
    refine Fin.ext ?_
    match a with
    | ⟨0, _⟩ => show (y 0).val = 0; omega
    | ⟨1, _⟩ => rfl
    | ⟨2, _⟩ => rfl
  have hz : z = (ix3 ⟨(z 0).val, (z 0).isLt⟩ ⟨(z 1).val, (z 1).isLt⟩ ⟨(y 2).val, (y 2).isLt⟩ : S2x16384x256.Idx) := by
    funext a
    refine Fin.ext ?_
    match a with
    | ⟨0, _⟩ => rfl
    | ⟨1, _⟩ => rfl
    | ⟨2, _⟩ => exact e2
  rw [hy, hz]
  exact oblk4 m c t _ _ _ _ (by show (z 0 : ℕ) = _; omega) e1

theorem arr_eq4 : (dats m 0 c).arrAt 4 cfg0.N = arr4 m c := by
  refine (dats m 0 c).arrAt_eq_of_covers 4 _ (by decide +kernel) fun t hf y => ?_
  rw [after0_4]
  exact (cast_eq _ _).trans (out_emb4 m c t y)

theorem oblk5 (t : Fin cfg0.N) (r : Fin 1024) (n : Fin 1024) (b : Fin 2) (s : Fin 16384) (hb : b.val = t.val / 16) (hs : s.val = t.val % 16 * 1024 + r.val) :
    out0_5 (F := Ideal) (grid0.coords t) (iblk m c 0 t) (iblk m c 1 t) (iblk m c 2 t) (iblk m c 3 t) (ix3 0 r n) = arr5 m c (ix3 b s n) := by
  exact out5_at (grid0.coords t) (iblk m c 0 t) (iblk m c 1 t) (iblk m c 2 t) (iblk m c 3 t) (row m c b s) (wts m c) r (fun k => blk0 m c t r k b s hb hs) (fun k n => blk1 m c t k n) n

theorem out_emb5 (t : Fin cfg0.N) (y : S1x1024x1024.Idx) :
    out0_5 (F := Ideal) (grid0.coords t) (iblk m c 0 t) (iblk m c 1 t) (iblk m c 2 t) (iblk m c 3 t) y = arr5 m c (((cfg0.win 5).blk t).view.emb y) := by
  have e := emb5 t y
  generalize (((cfg0.win 5).blk t).view.emb y : S2x16384x1024.Idx) = z at e
  rw [idx5 t] at e
  have y0 : (y 0).val < 1 := (y 0).isLt
  have e0 : (z 0 : ℕ) = t.val / 16 * 1 + (y 0).val := e 0
  have e1 : (z 1 : ℕ) = t.val % 16 * 1024 + (y 1).val := e 1
  have e2 : (z 2 : ℕ) = 0 * win0_5.size (2 : Fin 3) + (y 2).val := e 2
  rw [Nat.zero_mul, Nat.zero_add] at e2
  have hy : y = (ix3 0 ⟨(y 1).val, (y 1).isLt⟩ ⟨(y 2).val, (y 2).isLt⟩ : S1x1024x1024.Idx) := by
    funext a
    refine Fin.ext ?_
    match a with
    | ⟨0, _⟩ => show (y 0).val = 0; omega
    | ⟨1, _⟩ => rfl
    | ⟨2, _⟩ => rfl
  have hz : z = (ix3 ⟨(z 0).val, (z 0).isLt⟩ ⟨(z 1).val, (z 1).isLt⟩ ⟨(y 2).val, (y 2).isLt⟩ : S2x16384x1024.Idx) := by
    funext a
    refine Fin.ext ?_
    match a with
    | ⟨0, _⟩ => rfl
    | ⟨1, _⟩ => rfl
    | ⟨2, _⟩ => exact e2
  rw [hy, hz]
  exact oblk5 m c t _ _ _ _ (by show (z 0 : ℕ) = _; omega) e1

theorem arr_eq5 : (dats m 0 c).arrAt 5 cfg0.N = arr5 m c := by
  refine (dats m 0 c).arrAt_eq_of_covers 5 _ (by decide +kernel) fun t hf y => ?_
  rw [after0_5]
  exact (cast_eq _ _).trans (out_emb5 m c t y)

theorem oblk6 (t : Fin cfg0.N) (r : Fin 1024) (n : Fin 256) (b : Fin 2) (s : Fin 16384) (hb : b.val = t.val / 16) (hs : s.val = t.val % 16 * 1024 + r.val) :
    out0_6 (F := Ideal) (grid0.coords t) (iblk m c 0 t) (iblk m c 1 t) (iblk m c 2 t) (iblk m c 3 t) (ix3 0 r n) = arr6 m c (ix3 b s n) := by
  exact out6_at (grid0.coords t) (iblk m c 0 t) (iblk m c 1 t) (iblk m c 2 t) (iblk m c 3 t) (row m c b s) (wts m c) r (fun k => blk0 m c t r k b s hb hs) (fun k n => blk1 m c t k n) n

theorem out_emb6 (t : Fin cfg0.N) (y : S1x1024x256.Idx) :
    out0_6 (F := Ideal) (grid0.coords t) (iblk m c 0 t) (iblk m c 1 t) (iblk m c 2 t) (iblk m c 3 t) y = arr6 m c (((cfg0.win 6).blk t).view.emb y) := by
  have e := emb6 t y
  generalize (((cfg0.win 6).blk t).view.emb y : S2x16384x256.Idx) = z at e
  rw [idx6 t] at e
  have y0 : (y 0).val < 1 := (y 0).isLt
  have e0 : (z 0 : ℕ) = t.val / 16 * 1 + (y 0).val := e 0
  have e1 : (z 1 : ℕ) = t.val % 16 * 1024 + (y 1).val := e 1
  have e2 : (z 2 : ℕ) = 0 * win0_6.size (2 : Fin 3) + (y 2).val := e 2
  rw [Nat.zero_mul, Nat.zero_add] at e2
  have hy : y = (ix3 0 ⟨(y 1).val, (y 1).isLt⟩ ⟨(y 2).val, (y 2).isLt⟩ : S1x1024x256.Idx) := by
    funext a
    refine Fin.ext ?_
    match a with
    | ⟨0, _⟩ => show (y 0).val = 0; omega
    | ⟨1, _⟩ => rfl
    | ⟨2, _⟩ => rfl
  have hz : z = (ix3 ⟨(z 0).val, (z 0).isLt⟩ ⟨(z 1).val, (z 1).isLt⟩ ⟨(y 2).val, (y 2).isLt⟩ : S2x16384x256.Idx) := by
    funext a
    refine Fin.ext ?_
    match a with
    | ⟨0, _⟩ => rfl
    | ⟨1, _⟩ => rfl
    | ⟨2, _⟩ => exact e2
  rw [hy, hz]
  exact oblk6 m c t _ _ _ _ (by show (z 0 : ℕ) = _; omega) e1

theorem arr_eq6 : (dats m 0 c).arrAt 6 cfg0.N = arr6 m c := by
  refine (dats m 0 c).arrAt_eq_of_covers 6 _ (by decide +kernel) fun t hf y => ?_
  rw [after0_6]
  exact (cast_eq _ _).trans (out_emb6 m c t y)

theorem oblk7 (t : Fin cfg0.N) (r : Fin 1024) (n : Fin 256) (b : Fin 2) (s : Fin 16384) (hb : b.val = t.val / 16) (hs : s.val = t.val % 16 * 1024 + r.val) :
    out0_7 (F := Ideal) (grid0.coords t) (iblk m c 0 t) (iblk m c 1 t) (iblk m c 2 t) (iblk m c 3 t) (ix3 0 r n) = arr7 m c (ix3 b s n) := by
  exact out7_at (grid0.coords t) (iblk m c 0 t) (iblk m c 1 t) (iblk m c 2 t) (iblk m c 3 t) (row m c b s) (wts m c) r (fun k => blk0 m c t r k b s hb hs) (fun k n => blk1 m c t k n) n

theorem out_emb7 (t : Fin cfg0.N) (y : S1x1024x256.Idx) :
    out0_7 (F := Ideal) (grid0.coords t) (iblk m c 0 t) (iblk m c 1 t) (iblk m c 2 t) (iblk m c 3 t) y = arr7 m c (((cfg0.win 7).blk t).view.emb y) := by
  have e := emb7 t y
  generalize (((cfg0.win 7).blk t).view.emb y : S2x16384x256.Idx) = z at e
  rw [idx7 t] at e
  have y0 : (y 0).val < 1 := (y 0).isLt
  have e0 : (z 0 : ℕ) = t.val / 16 * 1 + (y 0).val := e 0
  have e1 : (z 1 : ℕ) = t.val % 16 * 1024 + (y 1).val := e 1
  have e2 : (z 2 : ℕ) = 0 * win0_7.size (2 : Fin 3) + (y 2).val := e 2
  rw [Nat.zero_mul, Nat.zero_add] at e2
  have hy : y = (ix3 0 ⟨(y 1).val, (y 1).isLt⟩ ⟨(y 2).val, (y 2).isLt⟩ : S1x1024x256.Idx) := by
    funext a
    refine Fin.ext ?_
    match a with
    | ⟨0, _⟩ => show (y 0).val = 0; omega
    | ⟨1, _⟩ => rfl
    | ⟨2, _⟩ => rfl
  have hz : z = (ix3 ⟨(z 0).val, (z 0).isLt⟩ ⟨(z 1).val, (z 1).isLt⟩ ⟨(y 2).val, (y 2).isLt⟩ : S2x16384x256.Idx) := by
    funext a
    refine Fin.ext ?_
    match a with
    | ⟨0, _⟩ => rfl
    | ⟨1, _⟩ => rfl
    | ⟨2, _⟩ => exact e2
  rw [hy, hz]
  exact oblk7 m c t _ _ _ _ (by show (z 0 : ℕ) = _; omega) e1

theorem arr_eq7 : (dats m 0 c).arrAt 7 cfg0.N = arr7 m c := by
  refine (dats m 0 c).arrAt_eq_of_covers 7 _ (by decide +kernel) fun t hf y => ?_
  rw [after0_7]
  exact (cast_eq _ _).trans (out_emb7 m c t y)

theorem oblk8 (t : Fin cfg0.N) (r : Fin 1024) (n : Fin 256) (b : Fin 2) (s : Fin 16384) (hb : b.val = t.val / 16) (hs : s.val = t.val % 16 * 1024 + r.val) :
    out0_8 (F := Ideal) (grid0.coords t) (iblk m c 0 t) (iblk m c 1 t) (iblk m c 2 t) (iblk m c 3 t) (ix3 0 r n) = arr8 m c (ix3 b s n) := by
  refine (out8_at (grid0.coords t) (iblk m c 0 t) (iblk m c 1 t) (iblk m c 2 t) (iblk m c 3 t) (row m c b s) (wts m c) r (fun k => blk0 m c t r k b s hb hs) (fun k n => blk1 m c t k n) n).trans ?_
  show Cert.Proj.key (row m c b s) (wts m c) ((grid0.coords t 1).val * 1024 + r.val) n.val = Cert.Proj.key (row m c b s) (wts m c) s.val n.val
  rw [coord t, hs]

theorem out_emb8 (t : Fin cfg0.N) (y : S1x1024x256.Idx) :
    out0_8 (F := Ideal) (grid0.coords t) (iblk m c 0 t) (iblk m c 1 t) (iblk m c 2 t) (iblk m c 3 t) y = arr8 m c (((cfg0.win 8).blk t).view.emb y) := by
  have e := emb8 t y
  generalize (((cfg0.win 8).blk t).view.emb y : S2x16384x256.Idx) = z at e
  rw [idx8 t] at e
  have y0 : (y 0).val < 1 := (y 0).isLt
  have e0 : (z 0 : ℕ) = t.val / 16 * 1 + (y 0).val := e 0
  have e1 : (z 1 : ℕ) = t.val % 16 * 1024 + (y 1).val := e 1
  have e2 : (z 2 : ℕ) = 0 * win0_8.size (2 : Fin 3) + (y 2).val := e 2
  rw [Nat.zero_mul, Nat.zero_add] at e2
  have hy : y = (ix3 0 ⟨(y 1).val, (y 1).isLt⟩ ⟨(y 2).val, (y 2).isLt⟩ : S1x1024x256.Idx) := by
    funext a
    refine Fin.ext ?_
    match a with
    | ⟨0, _⟩ => show (y 0).val = 0; omega
    | ⟨1, _⟩ => rfl
    | ⟨2, _⟩ => rfl
  have hz : z = (ix3 ⟨(z 0).val, (z 0).isLt⟩ ⟨(z 1).val, (z 1).isLt⟩ ⟨(y 2).val, (y 2).isLt⟩ : S2x16384x256.Idx) := by
    funext a
    refine Fin.ext ?_
    match a with
    | ⟨0, _⟩ => rfl
    | ⟨1, _⟩ => rfl
    | ⟨2, _⟩ => exact e2
  rw [hy, hz]
  exact oblk8 m c t _ _ _ _ (by show (z 0 : ℕ) = _; omega) e1

theorem arr_eq8 : (dats m 0 c).arrAt 8 cfg0.N = arr8 m c := by
  refine (dats m 0 c).arrAt_eq_of_covers 8 _ (by decide +kernel) fun t hf y => ?_
  rw [after0_8]
  exact (cast_eq _ _).trans (out_emb8 m c t y)

theorem oblk9 (t : Fin cfg0.N) (r : Fin 1024) (n : Fin 256) (b : Fin 2) (s : Fin 16384) (hb : b.val = t.val / 16) (hs : s.val = t.val % 16 * 1024 + r.val) :
    out0_9 (F := Ideal) (grid0.coords t) (iblk m c 0 t) (iblk m c 1 t) (iblk m c 2 t) (iblk m c 3 t) (ix3 0 r n) = arr9 m c (ix3 b s n) := by
  exact out9_at (grid0.coords t) (iblk m c 0 t) (iblk m c 1 t) (iblk m c 2 t) (iblk m c 3 t) (row m c b s) (wts m c) r (fun k => blk0 m c t r k b s hb hs) (fun k n => blk1 m c t k n) n

theorem out_emb9 (t : Fin cfg0.N) (y : S1x1024x256.Idx) :
    out0_9 (F := Ideal) (grid0.coords t) (iblk m c 0 t) (iblk m c 1 t) (iblk m c 2 t) (iblk m c 3 t) y = arr9 m c (((cfg0.win 9).blk t).view.emb y) := by
  have e := emb9 t y
  generalize (((cfg0.win 9).blk t).view.emb y : S2x16384x256.Idx) = z at e
  rw [idx9 t] at e
  have y0 : (y 0).val < 1 := (y 0).isLt
  have e0 : (z 0 : ℕ) = t.val / 16 * 1 + (y 0).val := e 0
  have e1 : (z 1 : ℕ) = t.val % 16 * 1024 + (y 1).val := e 1
  have e2 : (z 2 : ℕ) = 0 * win0_9.size (2 : Fin 3) + (y 2).val := e 2
  rw [Nat.zero_mul, Nat.zero_add] at e2
  have hy : y = (ix3 0 ⟨(y 1).val, (y 1).isLt⟩ ⟨(y 2).val, (y 2).isLt⟩ : S1x1024x256.Idx) := by
    funext a
    refine Fin.ext ?_
    match a with
    | ⟨0, _⟩ => show (y 0).val = 0; omega
    | ⟨1, _⟩ => rfl
    | ⟨2, _⟩ => rfl
  have hz : z = (ix3 ⟨(z 0).val, (z 0).isLt⟩ ⟨(z 1).val, (z 1).isLt⟩ ⟨(y 2).val, (y 2).isLt⟩ : S2x16384x256.Idx) := by
    funext a
    refine Fin.ext ?_
    match a with
    | ⟨0, _⟩ => rfl
    | ⟨1, _⟩ => rfl
    | ⟨2, _⟩ => exact e2
  rw [hy, hz]
  exact oblk9 m c t _ _ _ _ (by show (z 0 : ℕ) = _; omega) e1

theorem arr_eq9 : (dats m 0 c).arrAt 9 cfg0.N = arr9 m c := by
  refine (dats m 0 c).arrAt_eq_of_covers 9 _ (by decide +kernel) fun t hf y => ?_
  rw [after0_9]
  exact (cast_eq _ _).trans (out_emb9 m c t y)

theorem oblk10 (t : Fin cfg0.N) (r : Fin 1024) (n : Fin 256) (b : Fin 2) (s : Fin 16384) (hb : b.val = t.val / 16) (hs : s.val = t.val % 16 * 1024 + r.val) :
    out0_10 (F := Ideal) (grid0.coords t) (iblk m c 0 t) (iblk m c 1 t) (iblk m c 2 t) (iblk m c 3 t) (ix3 0 n r) = arr10 m c (ix3 b n s) := by
  exact out10_at (grid0.coords t) (iblk m c 0 t) (iblk m c 1 t) (iblk m c 2 t) (iblk m c 3 t) (row m c b s) (wts m c) (offs m c) r (fun k => blk0 m c t r k b s hb hs) (fun n k => blk2 m c t n k) (fun n => blk3 m c t n) n

theorem out_emb10 (t : Fin cfg0.N) (y : S1x256x1024.Idx) :
    out0_10 (F := Ideal) (grid0.coords t) (iblk m c 0 t) (iblk m c 1 t) (iblk m c 2 t) (iblk m c 3 t) y = arr10 m c (((cfg0.win 10).blk t).view.emb y) := by
  have e := emb10 t y
  generalize (((cfg0.win 10).blk t).view.emb y : S2x256x16384.Idx) = z at e
  rw [idx10 t] at e
  have y0 : (y 0).val < 1 := (y 0).isLt
  have e0 : (z 0 : ℕ) = t.val / 16 * 1 + (y 0).val := e 0
  have e1 : (z 2 : ℕ) = t.val % 16 * 1024 + (y 2).val := e 2
  have e2 : (z 1 : ℕ) = 0 * win0_10.size (1 : Fin 3) + (y 1).val := e 1
  rw [Nat.zero_mul, Nat.zero_add] at e2
  have hy : y = (ix3 0 ⟨(y 1).val, (y 1).isLt⟩ ⟨(y 2).val, (y 2).isLt⟩ : S1x256x1024.Idx) := by
    funext a
    refine Fin.ext ?_
    match a with
    | ⟨0, _⟩ => show (y 0).val = 0; omega
    | ⟨1, _⟩ => rfl
    | ⟨2, _⟩ => rfl
  have hz : z = (ix3 ⟨(z 0).val, (z 0).isLt⟩ ⟨(y 1).val, (y 1).isLt⟩ ⟨(z 2).val, (z 2).isLt⟩ : S2x256x16384.Idx) := by
    funext a
    refine Fin.ext ?_
    match a with
    | ⟨0, _⟩ => rfl
    | ⟨2, _⟩ => rfl
    | ⟨1, _⟩ => exact e2
  rw [hy, hz]
  exact oblk10 m c t _ _ _ _ (by show (z 0 : ℕ) = _; omega) e1

theorem arr_eq10 : (dats m 0 c).arrAt 10 cfg0.N = arr10 m c := by
  refine (dats m 0 c).arrAt_eq_of_covers 10 _ (by decide +kernel) fun t hf y => ?_
  rw [after0_10]
  exact (cast_eq _ _).trans (out_emb10 m c t y)

theorem oblk11 (t : Fin cfg0.N) (r : Fin 1024) (n : Fin 256) (b : Fin 2) (s : Fin 16384) (hb : b.val = t.val / 16) (hs : s.val = t.val % 16 * 1024 + r.val) :
    out0_11 (F := Ideal) (grid0.coords t) (iblk m c 0 t) (iblk m c 1 t) (iblk m c 2 t) (iblk m c 3 t) (ix3 0 n r) = arr11 m c (ix3 b n s) := by
  exact out11_at (grid0.coords t) (iblk m c 0 t) (iblk m c 1 t) (iblk m c 2 t) (iblk m c 3 t) (row m c b s) (wts m c) r (fun k => blk0 m c t r k b s hb hs) (fun n k => blk2 m c t n k) n

theorem out_emb11 (t : Fin cfg0.N) (y : S1x256x1024.Idx) :
    out0_11 (F := Ideal) (grid0.coords t) (iblk m c 0 t) (iblk m c 1 t) (iblk m c 2 t) (iblk m c 3 t) y = arr11 m c (((cfg0.win 11).blk t).view.emb y) := by
  have e := emb11 t y
  generalize (((cfg0.win 11).blk t).view.emb y : S2x256x16384.Idx) = z at e
  rw [idx11 t] at e
  have y0 : (y 0).val < 1 := (y 0).isLt
  have e0 : (z 0 : ℕ) = t.val / 16 * 1 + (y 0).val := e 0
  have e1 : (z 2 : ℕ) = t.val % 16 * 1024 + (y 2).val := e 2
  have e2 : (z 1 : ℕ) = 0 * win0_11.size (1 : Fin 3) + (y 1).val := e 1
  rw [Nat.zero_mul, Nat.zero_add] at e2
  have hy : y = (ix3 0 ⟨(y 1).val, (y 1).isLt⟩ ⟨(y 2).val, (y 2).isLt⟩ : S1x256x1024.Idx) := by
    funext a
    refine Fin.ext ?_
    match a with
    | ⟨0, _⟩ => show (y 0).val = 0; omega
    | ⟨1, _⟩ => rfl
    | ⟨2, _⟩ => rfl
  have hz : z = (ix3 ⟨(z 0).val, (z 0).isLt⟩ ⟨(y 1).val, (y 1).isLt⟩ ⟨(z 2).val, (z 2).isLt⟩ : S2x256x16384.Idx) := by
    funext a
    refine Fin.ext ?_
    match a with
    | ⟨0, _⟩ => rfl
    | ⟨2, _⟩ => rfl
    | ⟨1, _⟩ => exact e2
  rw [hy, hz]
  exact oblk11 m c t _ _ _ _ (by show (z 0 : ℕ) = _; omega) e1

theorem arr_eq11 : (dats m 0 c).arrAt 11 cfg0.N = arr11 m c := by
  refine (dats m 0 c).arrAt_eq_of_covers 11 _ (by decide +kernel) fun t hf y => ?_
  rw [after0_11]
  exact (cast_eq _ _).trans (out_emb11 m c t y)

theorem oblk12 (t : Fin cfg0.N) (r : Fin 1024) (n : Fin 256) (b : Fin 2) (s : Fin 16384) (hb : b.val = t.val / 16) (hs : s.val = t.val % 16 * 1024 + r.val) :
    out0_12 (F := Ideal) (grid0.coords t) (iblk m c 0 t) (iblk m c 1 t) (iblk m c 2 t) (iblk m c 3 t) (ix3 0 n r) = arr12 m c (ix3 b n s) := by
  exact out12_at (grid0.coords t) (iblk m c 0 t) (iblk m c 1 t) (iblk m c 2 t) (iblk m c 3 t) (row m c b s) (wts m c) r (fun k => blk0 m c t r k b s hb hs) (fun n k => blk2 m c t n k) n

theorem out_emb12 (t : Fin cfg0.N) (y : S1x256x1024.Idx) :
    out0_12 (F := Ideal) (grid0.coords t) (iblk m c 0 t) (iblk m c 1 t) (iblk m c 2 t) (iblk m c 3 t) y = arr12 m c (((cfg0.win 12).blk t).view.emb y) := by
  have e := emb12 t y
  generalize (((cfg0.win 12).blk t).view.emb y : S2x256x16384.Idx) = z at e
  rw [idx12 t] at e
  have y0 : (y 0).val < 1 := (y 0).isLt
  have e0 : (z 0 : ℕ) = t.val / 16 * 1 + (y 0).val := e 0
  have e1 : (z 2 : ℕ) = t.val % 16 * 1024 + (y 2).val := e 2
  have e2 : (z 1 : ℕ) = 0 * win0_12.size (1 : Fin 3) + (y 1).val := e 1
  rw [Nat.zero_mul, Nat.zero_add] at e2
  have hy : y = (ix3 0 ⟨(y 1).val, (y 1).isLt⟩ ⟨(y 2).val, (y 2).isLt⟩ : S1x256x1024.Idx) := by
    funext a
    refine Fin.ext ?_
    match a with
    | ⟨0, _⟩ => show (y 0).val = 0; omega
    | ⟨1, _⟩ => rfl
    | ⟨2, _⟩ => rfl
  have hz : z = (ix3 ⟨(z 0).val, (z 0).isLt⟩ ⟨(y 1).val, (y 1).isLt⟩ ⟨(z 2).val, (z 2).isLt⟩ : S2x256x16384.Idx) := by
    funext a
    refine Fin.ext ?_
    match a with
    | ⟨0, _⟩ => rfl
    | ⟨2, _⟩ => rfl
    | ⟨1, _⟩ => exact e2
  rw [hy, hz]
  exact oblk12 m c t _ _ _ _ (by show (z 0 : ℕ) = _; omega) e1

theorem arr_eq12 : (dats m 0 c).arrAt 12 cfg0.N = arr12 m c := by
  refine (dats m 0 c).arrAt_eq_of_covers 12 _ (by decide +kernel) fun t hf y => ?_
  rw [after0_12]
  exact (cast_eq _ _).trans (out_emb12 m c t y)

variable (ρ : Dev nD → PrngReg)

/-- The run's results. -/
theorem value : θ_run defs (onTc (τ := τ) (main (F := Ideal))) ⟨m, fun _ => 0, ρ⟩ (fun r => ∀ c : Dev nD,
r.2.mem ((c.tc : Thread nD τ).loc main_v42_0) = arr4 m c
      ∧ r.2.mem ((c.tc : Thread nD τ).loc main_v42_1) = arr5 m c
      ∧ r.2.mem ((c.tc : Thread nD τ).loc main_v42_2) = arr6 m c
      ∧ r.2.mem ((c.tc : Thread nD τ).loc main_v42_3) = arr7 m c
      ∧ r.2.mem ((c.tc : Thread nD τ).loc main_v42_4) = arr8 m c
      ∧ r.2.mem ((c.tc : Thread nD τ).loc main_v42_5) = arr9 m c
      ∧ r.2.mem ((c.tc : Thread nD τ).loc main_v42_6) = arr10 m c
      ∧ r.2.mem ((c.tc : Thread nD τ).loc main_v42_7) = arr11 m c
      ∧ r.2.mem ((c.tc : Thread nD τ).loc main_v42_8) = arr12 m c) :=
  (θ_run defs _ _).mono (fun _ h c => by
    obtain ⟨a4, a5, a6, a7, a8, a9, a10, a11, a12, -⟩ := h c
    exact ⟨a4.trans (arr_eq4 m c), a5.trans (arr_eq5 m c), a6.trans (arr_eq6 m c), a7.trans (arr_eq7 m c), a8.trans (arr_eq8 m c), a9.trans (arr_eq9 m c), a10.trans (arr_eq10 m c), a11.trans (arr_eq11 m c), a12.trans (arr_eq12 m c)⟩) (Cert.Kernel3Ideal.Value.run_blocks m ρ)

end Cert.Kernel3Ideal.Proj

end
-- ==== Proof.ProjRef.lean ====
module

public import proofs.«01_k».proof.Proof.ProjSpec
public import proofs.«01_k».proof.Proof.ProjPay
public import proofs.«01_k».proof.Proof.Gen.Reference3Ideal.Run
public import Idealize.ShloMosaic.Lib.IdealHost
public import Idealize.ShloMosaic.Lib.Pointwise
public import Idealize.ShloMosaic.Lib.WordCmp

@[expose] public section

set_option maxRecDepth 16384
set_option maxHeartbeats 400000

noncomputable section

/-! # The reference's projections, position by position -/

namespace Cert.Reference3Ideal.Proj

open Cert.Reference3Ideal Cert.Reference3Ideal.Gen Cert.Reference3Ideal.Value
open Idealize.ShloMosaic Idealize.ShloMosaic.TcCoe Idealize.ShloMosaic.StableHlo Idealize.SL.Sem
open scoped BigOperators

variable (X : FVec Ideal S2x16384x1024 .f32) (W : FVec Ideal S1024x2200 .f32) (B : FVec Ideal S24 .f32)

/-- One position's row. -/
def row (b : Fin 2) (s : Fin 16384) : Fin 1024 → EReal := fun k => X (ix3 b s k)
/-- The weights, by row and column. -/
def wts : Fin 1024 → Fin 2200 → EReal := fun k n => W (ix2 k n)
/-- The gates' offsets, by number. -/
def offs : Fin 24 → EReal := fun e => B (ix1 e)

/-- The padded queries before their factor, over the product. -/
def pad5 (D : FVec Ideal S2x16384x2200 .f32) : FVec Ideal S2x16384x1024 .f32 :=
  shapeCast _ (pad S2x16384x8x128 ![0, 0, 0, 0] ![0, 0, 0, 32] ![0, 0, 0, 0] (shapeCast _ (extractStridedSlice S2x16384x768 ![0, 0, 256] D slices_S2x16384x2200_S2x16384x768_0_0_256) shapeCasts_S2x16384x768_S2x16384x8x96) (sitofp .f32 (constantI S_ 32 0#32)) pads_S2x16384x8x96_S2x16384x8x128_000_000_000_0320 h_S_) shapeCasts_S2x16384x8x128_S2x16384x1024
theorem pad5_at (D : FVec Ideal S2x16384x2200 .f32) (b : Fin 2) (s : Fin 16384) (n : Fin 1024) :
    pad5 D (ix3 b s n) = if h : n.val / 128 < 8 ∧ n.val % 128 < 96 then D (ix3 b s ⟨256 + (n.val / 128 * 96 + n.val % 128), by omega⟩) else FloatOps.sitofp FTy.f32 0#32 := by
  pointwise [pad5]
/-- The queries' factor. -/
def scale5 (P : FVec Ideal S2x16384x1024 .f32) : FVec Ideal S2x16384x1024 .bf16 :=
  truncf .bf16 (mulf P (broadcastInDim S2x16384x1024 ![] bcast_S_S2x16384x1024 (constant S_ .f32 0x3E16C740#32))) bitsLt_bf16_f32
/-- The padded gates before the logistic function, over the product. -/
def pad10 (D : FVec Ideal S2x16384x2200 .f32) (B : FVec Ideal S24 .f32) : FVec Ideal S2x16384x256 .f32 :=
  shapeCast _ (pad S2x16384x2x128 ![0, 0, 0, 0] ![0, 0, 0, 116] ![0, 0, 0, 0] (shapeCast _ (addf (extractStridedSlice S2x16384x24 ![0, 0, 2176] D slices_S2x16384x2200_S2x16384x24_0_0_2176) (broadcastInDim S2x16384x24 ![0, 1, 2] bcast_S1x1x24_S2x16384x24_0_1_2 (broadcastInDim S1x1x24 ![2] bcast_S24_S1x1x24_2 B))) shapeCasts_S2x16384x24_S2x16384x2x12) (sitofp .f32 (constantI S_ 32 0#32)) pads_S2x16384x2x12_S2x16384x2x128_000_000_000_01160 h_S_) shapeCasts_S2x16384x2x128_S2x16384x256
theorem pad10_at (D : FVec Ideal S2x16384x2200 .f32) (b : Fin 2) (s : Fin 16384) (n : Fin 256) :
    pad10 D B (ix3 b s n) = if h : n.val / 128 < 2 ∧ n.val % 128 < 12 then D (ix3 b s ⟨2176 + (n.val / 128 * 12 + n.val % 128), by omega⟩) + B (ix1 ⟨n.val / 128 * 12 + n.val % 128, by omega⟩) else FloatOps.sitofp FTy.f32 0#32 := by
  pointwise [pad10]
/-- The transposed logistic function of the padded gates. -/
def gate10 (P : FVec Ideal S2x16384x256 .f32) : FVec Ideal S2x256x16384 .f32 :=
  transpose S2x256x16384 [0, 2, 1] (Host.divf (broadcastInDim S2x16384x256 ![] bcast_S_S2x16384x256 (constant S_ .f32 0x3F800000#32)) (addf (broadcastInDim S2x16384x256 ![] bcast_S_S2x16384x256 (constant S_ .f32 0x3F800000#32)) (Host.exp (Host.negf P)))) transposes_S2x16384x256_S2x256x16384_0_2_1
theorem gate10_at (P : FVec Ideal S2x16384x256 .f32) (b : Fin 2) (s : Fin 16384) (n : Fin 256) :
    gate10 P (ix3 b n s) = Ideal.logistic (P (ix3 b s n)) := by
  unfold Ideal.logistic
  rw [← Ideal.ofBits_one_f32]
  pointwise [gate10]
theorem dot_at (b : Fin 2) (s : Fin 16384) (n : Fin 2200) :
    Host.dotGeneral (F := Ideal) dot_S2x16384x1024_S1024x2200_S2x16384x2200_2_0_01_1_n_n none X W (ix3 b s n) = ∑ k : Fin 1024, X (ix3 b s k) * W (ix2 k n) := by
  pointwise

/-- The pool's columns, as the reference forms them. -/
def ref4 : FVec Ideal S2x16384x256 .f32 :=
  extractStridedSlice S2x16384x256 ![0, 0, 0] (Host.dotGeneral dot_S2x16384x1024_S1024x2200_S2x16384x2200_2_0_01_1_n_n none X W) slices_S2x16384x2200_S2x16384x256_0_0_0
/-- The queries, as the reference forms them. -/
def ref5 : FVec Ideal S2x16384x1024 .bf16 :=
  scale5 (pad5 (Host.dotGeneral dot_S2x16384x1024_S1024x2200_S2x16384x2200_2_0_01_1_n_n none X W))
/-- The compressed blocks' keys, as the reference forms them. -/
def ref6 : FVec Ideal S2x16384x256 .f32 :=
  shapeCast _ (pad S2x16384x2x128 ![0, 0, 0, 0] ![0, 0, 0, 32] ![0, 0, 0, 0] (shapeCast _ (extractStridedSlice S2x16384x192 ![0, 0, 1024] (Host.dotGeneral dot_S2x16384x1024_S1024x2200_S2x16384x2200_2_0_01_1_n_n none X W) slices_S2x16384x2200_S2x16384x192_0_0_1024) shapeCasts_S2x16384x192_S2x16384x2x96) (sitofp .f32 (constantI S_ 32 0#32)) pads_S2x16384x2x96_S2x16384x2x128_000_000_000_0320 h_S_) shapeCasts_S2x16384x2x128_S2x16384x256
/-- The compressed blocks' values, as the reference forms them. -/
def ref7 : FVec Ideal S2x16384x256 .f32 :=
  shapeCast _ (pad S2x16384x2x128 ![0, 0, 0, 0] ![0, 0, 0, 32] ![0, 0, 0, 0] (shapeCast _ (extractStridedSlice S2x16384x192 ![0, 0, 1216] (Host.dotGeneral dot_S2x16384x1024_S1024x2200_S2x16384x2200_2_0_01_1_n_n none X W) slices_S2x16384x2200_S2x16384x192_0_0_1216) shapeCasts_S2x16384x192_S2x16384x2x96) (sitofp .f32 (constantI S_ 32 0#32)) pads_S2x16384x2x96_S2x16384x2x128_000_000_000_0320 h_S_) shapeCasts_S2x16384x2x128_S2x16384x256
/-- The selected blocks' keys, as the reference forms them. -/
def ref8 : FVec Ideal S2x16384x256 .bf16 :=
  truncf .bf16 (select (broadcastInDim S2x16384x256 ![1, 2] bcast_S16384x256_S2x16384x256_1_2 (cmpi .eq (broadcastInDim S16384x256 ![0, 1] bcast_S1x256_S16384x256_0_1 (andi (broadcastInDim S1x256 ![1] bcast_S256_S1x256_1 (iotaInDim S256 32 0)) (broadcastInDim S1x256 ![] bcast_S_S1x256 (constantI S_ 32 127#32)))) (broadcastInDim S16384x256 ![0, 1] bcast_S16384x1_S16384x256_0_1 (addi (broadcastInDim S16384x1 ![] bcast_S_S16384x1 (constantI S_ 32 96#32)) (andi (Host.shrsi (broadcastInDim S16384x1 ![0] bcast_S16384_S16384x1_0 (iotaInDim S16384 32 0)) (broadcastInDim S16384x1 ![] bcast_S_S16384x1 (constantI S_ 32 6#32))) (broadcastInDim S16384x1 ![] bcast_S_S16384x1 (constantI S_ 32 31#32))))))) (broadcastInDim S2x16384x256 ![] bcast_S_S2x16384x256 (id (constant S_ .f32 0x3F800000#32))) (shapeCast _ (pad S2x16384x2x128 ![0, 0, 0, 0] ![0, 0, 0, 32] ![0, 0, 0, 0] (shapeCast _ (extractStridedSlice S2x16384x192 ![0, 0, 1408] (Host.dotGeneral dot_S2x16384x1024_S1024x2200_S2x16384x2200_2_0_01_1_n_n none X W) slices_S2x16384x2200_S2x16384x192_0_0_1408) shapeCasts_S2x16384x192_S2x16384x2x96) (sitofp .f32 (constantI S_ 32 0#32)) pads_S2x16384x2x96_S2x16384x2x128_000_000_000_0320 h_S_) shapeCasts_S2x16384x2x128_S2x16384x256)) bitsLt_bf16_f32
/-- The window's keys, as the reference forms them. -/
def ref9 : FVec Ideal S2x16384x256 .bf16 :=
  truncf .bf16 (shapeCast _ (pad S2x16384x2x128 ![0, 0, 0, 0] ![0, 0, 0, 32] ![0, 0, 0, 0] (shapeCast _ (extractStridedSlice S2x16384x192 ![0, 0, 1792] (Host.dotGeneral dot_S2x16384x1024_S1024x2200_S2x16384x2200_2_0_01_1_n_n none X W) slices_S2x16384x2200_S2x16384x192_0_0_1792) shapeCasts_S2x16384x192_S2x16384x2x96) (sitofp .f32 (constantI S_ 32 0#32)) pads_S2x16384x2x96_S2x16384x2x128_000_000_000_0320 h_S_) shapeCasts_S2x16384x2x128_S2x16384x256) bitsLt_bf16_f32
/-- The gates, as the reference forms them. -/
def ref10 : FVec Ideal S2x256x16384 .f32 :=
  gate10 (pad10 (Host.dotGeneral dot_S2x16384x1024_S1024x2200_S2x16384x2200_2_0_01_1_n_n none X W) B)
/-- The selected blocks' values, as the reference forms them. -/
def ref11 : FVec Ideal S2x256x16384 .bf16 :=
  truncf .bf16 (select (broadcastInDim S2x256x16384 ![1, 2] bcast_S256x1_S2x256x16384_1_2 (cmpi .eq (andi (broadcastInDim S256x1 ![0] bcast_S256_S256x1_0 (iotaInDim S256 32 0)) (broadcastInDim S256x1 ![] bcast_S_S256x1 (constantI S_ 32 127#32))) (broadcastInDim S256x1 ![] bcast_S_S256x1 (constantI S_ 32 96#32)))) (broadcastInDim S2x256x16384 ![] bcast_S_S2x256x16384 (id (constant S_ .f32 0x3F800000#32))) (transpose S2x256x16384 [0, 2, 1] (shapeCast _ (pad S2x16384x2x128 ![0, 0, 0, 0] ![0, 0, 0, 32] ![0, 0, 0, 0] (shapeCast _ (extractStridedSlice S2x16384x192 ![0, 0, 1600] (Host.dotGeneral dot_S2x16384x1024_S1024x2200_S2x16384x2200_2_0_01_1_n_n none X W) slices_S2x16384x2200_S2x16384x192_0_0_1600) shapeCasts_S2x16384x192_S2x16384x2x96) (sitofp .f32 (constantI S_ 32 0#32)) pads_S2x16384x2x96_S2x16384x2x128_000_000_000_0320 h_S_) shapeCasts_S2x16384x2x128_S2x16384x256) transposes_S2x16384x256_S2x256x16384_0_2_1)) bitsLt_bf16_f32
/-- The window's values, as the reference forms them. -/
def ref12 : FVec Ideal S2x256x16384 .bf16 :=
  truncf .bf16 (select (broadcastInDim S2x256x16384 ![1, 2] bcast_S256x1_S2x256x16384_1_2 (cmpi .eq (andi (broadcastInDim S256x1 ![0] bcast_S256_S256x1_0 (iotaInDim S256 32 0)) (broadcastInDim S256x1 ![] bcast_S_S256x1 (constantI S_ 32 127#32))) (broadcastInDim S256x1 ![] bcast_S_S256x1 (constantI S_ 32 96#32)))) (broadcastInDim S2x256x16384 ![] bcast_S_S2x256x16384 (id (constant S_ .f32 0x3F800000#32))) (transpose S2x256x16384 [0, 2, 1] (shapeCast _ (pad S2x16384x2x128 ![0, 0, 0, 0] ![0, 0, 0, 32] ![0, 0, 0, 0] (shapeCast _ (extractStridedSlice S2x16384x192 ![0, 0, 1984] (Host.dotGeneral dot_S2x16384x1024_S1024x2200_S2x16384x2200_2_0_01_1_n_n none X W) slices_S2x16384x2200_S2x16384x192_0_0_1984) shapeCasts_S2x16384x192_S2x16384x2x96) (sitofp .f32 (constantI S_ 32 0#32)) pads_S2x16384x2x96_S2x16384x2x128_000_000_000_0320 h_S_) shapeCasts_S2x16384x2x128_S2x16384x256) transposes_S2x16384x256_S2x256x16384_0_2_1)) bitsLt_bf16_f32
theorem scale5_at (P : FVec Ideal S2x16384x1024 .f32) (b : Fin 2) (s : Fin 16384) (n : Fin 1024) :
    scale5 P (ix3 b s n) = P (ix3 b s n) * Ideal.ofBits .f32 0x3E16C740#32 := by
  pointwise [scale5]
theorem ref4_at (b : Fin 2) (s : Fin 16384) (n : Fin 256) :
    ref4 X W (ix3 b s n) = Cert.Proj.pool (row X b s) (wts W) n := by
  pointwise [ref4]
  rfl

theorem ref6_at (b : Fin 2) (s : Fin 16384) (n : Fin 256) :
    ref6 X W (ix3 b s n) = Cert.Proj.lane (row X b s) (wts W) 1024 96 n.val := by
  pointwise [ref6]
  exact Cert.Proj.lane_eq _ _ _ _ 2 _ _ Cert.KernelIdeal.Slc.sitofp_zero (by omega) (by omega) _ (fun _ => rfl)

theorem ref7_at (b : Fin 2) (s : Fin 16384) (n : Fin 256) :
    ref7 X W (ix3 b s n) = Cert.Proj.lane (row X b s) (wts W) 1216 96 n.val := by
  pointwise [ref7]
  exact Cert.Proj.lane_eq _ _ _ _ 2 _ _ Cert.KernelIdeal.Slc.sitofp_zero (by omega) (by omega) _ (fun _ => rfl)

theorem ref8_at (b : Fin 2) (s : Fin 16384) (n : Fin 256) :
    ref8 X W (ix3 b s n) = Cert.Proj.key (row X b s) (wts W) s.val n.val := by
  pointwise [ref8]
  refine (Cert.Kernel3Ideal.Proj.select_eq (q := n.val % 128 = 96 + s.val / 64 % 32) ?_ _ _).trans ?_
  · rw [Cert.KernelIdeal.Slc.lane_word, Cert.KernelIdeal.Slc.block_word _ s.isLt, Cert.KernelIdeal.Slc.offset_word, WordCmp.cmpi_eq_ofNat (by omega) (by omega)]
  unfold Cert.Proj.key
  refine congrArg₂ (fun p q => if n.val % 128 = 96 + s.val / 64 % 32 then p else q) Ideal.ofBits_one_f32 ?_
  exact Cert.Proj.lane_eq _ _ _ _ 2 _ _ Cert.KernelIdeal.Slc.sitofp_zero (by omega) (by omega) _ (fun _ => rfl)

theorem ref9_at (b : Fin 2) (s : Fin 16384) (n : Fin 256) :
    ref9 X W (ix3 b s n) = Cert.Proj.lane (row X b s) (wts W) 1792 96 n.val := by
  pointwise [ref9]
  exact Cert.Proj.lane_eq _ _ _ _ 2 _ _ Cert.KernelIdeal.Slc.sitofp_zero (by omega) (by omega) _ (fun _ => rfl)

theorem ref11_at (b : Fin 2) (s : Fin 16384) (n : Fin 256) :
    ref11 X W (ix3 b n s) = Cert.Proj.value (row X b s) (wts W) 1600 n.val := by
  pointwise [ref11]
  refine (Cert.Kernel3Ideal.Proj.select_eq (Cert.Kernel3Ideal.Proj.ones_word n) _ _).trans ?_
  unfold Cert.Proj.value
  refine congrArg₂ (fun p q => if n.val % 128 = 96 then p else q) Ideal.ofBits_one_f32 ?_
  exact Cert.Proj.lane_eq _ _ _ _ 2 _ _ Cert.KernelIdeal.Slc.sitofp_zero (by omega) (by omega) _ (fun _ => rfl)

theorem ref12_at (b : Fin 2) (s : Fin 16384) (n : Fin 256) :
    ref12 X W (ix3 b n s) = Cert.Proj.value (row X b s) (wts W) 1984 n.val := by
  pointwise [ref12]
  refine (Cert.Kernel3Ideal.Proj.select_eq (Cert.Kernel3Ideal.Proj.ones_word n) _ _).trans ?_
  unfold Cert.Proj.value
  refine congrArg₂ (fun p q => if n.val % 128 = 96 then p else q) Ideal.ofBits_one_f32 ?_
  exact Cert.Proj.lane_eq _ _ _ _ 2 _ _ Cert.KernelIdeal.Slc.sitofp_zero (by omega) (by omega) _ (fun _ => rfl)

theorem ref5_at (b : Fin 2) (s : Fin 16384) (n : Fin 1024) : ref5 X W (ix3 b s n) = Cert.Proj.query (row X b s) (wts W) n.val := by
  unfold ref5 Cert.Proj.query
  rw [scale5_at, pad5_at]
  exact congrArg (· * Ideal.ofBits .f32 0x3E16C740#32) (Cert.Proj.lane_eq (row X b s) (wts W) 256 96 8 n.val _ Cert.KernelIdeal.Slc.sitofp_zero (by omega) (by omega) _ (fun _ => dot_at X W b s _))

theorem ref10_at (b : Fin 2) (s : Fin 16384) (n : Fin 256) : ref10 X W B (ix3 b n s) = Cert.Proj.gate (row X b s) (wts W) (offs B) n.val := by
  unfold ref10 Cert.Proj.gate Cert.Proj.lane Cert.Proj.padOff
  rw [gate10_at, pad10_at]
  refine congrArg Ideal.logistic ?_
  by_cases h : n.val % 128 < 12
  · rw [dif_pos ⟨by omega, h⟩, dif_pos ⟨h, by omega⟩, dif_pos ⟨h, by omega⟩, dot_at]
    rfl
  · rw [dif_neg (fun e => h e.2), dif_neg (fun e => h e.1), dif_neg (fun e => h e.1), Cert.KernelIdeal.Slc.sitofp_zero]
    exact (add_zero (0 : EReal)).symm

end Cert.Reference3Ideal.Proj

end
-- ==== Proof.ProjAlg.lean ====
module

public import proofs.«01_k».proof.Defs
public import proofs.«01_k».proof.Proof.ProjBlock
public import proofs.«01_k».proof.Proof.ProjRef

@[expose] public section

set_option maxRecDepth 16384
set_option maxHeartbeats 400000

noncomputable section

/-! # The projection kernel and its reference give equal results -/

namespace Cert.Proj

open Idealize.ShloMosaic Idealize.ShloMosaic.TcCoe Idealize.ShloMosaic.Tactic Idealize.SL.Sem

variable (m : (ℓ : Loc Cert.Kernel3Ideal.nD Cert.Kernel3Ideal.τ Cert.Kernel3Ideal.sig) → Buf (Elt Ideal) ℓ)
  (X : FVec Ideal Cert.Reference3Ideal.S2x16384x1024 .f32) (W : FVec Ideal Cert.Reference3Ideal.S1024x2200 .f32)
  (B : FVec Ideal Cert.Reference3Ideal.S24 .f32) (c : Dev Cert.Kernel3Ideal.nD)
  (hX : X = Cert.Kernel3Ideal.Proj.argX m c) (hW : W = Cert.Kernel3Ideal.Proj.argW m c) (hB : B = Cert.Kernel3Ideal.Proj.argB m c)

include hX hW in
theorem eq4 : Cert.Reference3Ideal.Proj.ref4 X W = Cert.Kernel3Ideal.Proj.arr4 m c := by
  subst hX hW
  refine funext fun (y : Cert.Kernel3Ideal.S2x16384x256.Idx) => ?_
  have hy : y = ix3 ⟨(y 0).val, (y 0).isLt⟩ ⟨(y 1).val, (y 1).isLt⟩ ⟨(y 2).val, (y 2).isLt⟩ := by
    funext a
    match a with
    | ⟨0, _⟩ => rfl
    | ⟨1, _⟩ => rfl
    | ⟨2, _⟩ => rfl
  refine (congrArg (Cert.Reference3Ideal.Proj.ref4 _ _) hy).trans ?_
  exact Cert.Reference3Ideal.Proj.ref4_at _ _ ⟨(y 0).val, (y 0).isLt⟩ ⟨(y 1).val, (y 1).isLt⟩ ⟨(y 2).val, (y 2).isLt⟩
include hX hW in
theorem eq5 : Cert.Reference3Ideal.Proj.ref5 X W = Cert.Kernel3Ideal.Proj.arr5 m c := by
  subst hX hW
  refine funext fun (y : Cert.Kernel3Ideal.S2x16384x1024.Idx) => ?_
  have hy : y = ix3 ⟨(y 0).val, (y 0).isLt⟩ ⟨(y 1).val, (y 1).isLt⟩ ⟨(y 2).val, (y 2).isLt⟩ := by
    funext a
    match a with
    | ⟨0, _⟩ => rfl
    | ⟨1, _⟩ => rfl
    | ⟨2, _⟩ => rfl
  refine (congrArg (Cert.Reference3Ideal.Proj.ref5 _ _) hy).trans ?_
  exact Cert.Reference3Ideal.Proj.ref5_at _ _ ⟨(y 0).val, (y 0).isLt⟩ ⟨(y 1).val, (y 1).isLt⟩ ⟨(y 2).val, (y 2).isLt⟩
include hX hW in
theorem eq6 : Cert.Reference3Ideal.Proj.ref6 X W = Cert.Kernel3Ideal.Proj.arr6 m c := by
  subst hX hW
  refine funext fun (y : Cert.Kernel3Ideal.S2x16384x256.Idx) => ?_
  have hy : y = ix3 ⟨(y 0).val, (y 0).isLt⟩ ⟨(y 1).val, (y 1).isLt⟩ ⟨(y 2).val, (y 2).isLt⟩ := by
    funext a
    match a with
    | ⟨0, _⟩ => rfl
    | ⟨1, _⟩ => rfl
    | ⟨2, _⟩ => rfl
  refine (congrArg (Cert.Reference3Ideal.Proj.ref6 _ _) hy).trans ?_
  exact Cert.Reference3Ideal.Proj.ref6_at _ _ ⟨(y 0).val, (y 0).isLt⟩ ⟨(y 1).val, (y 1).isLt⟩ ⟨(y 2).val, (y 2).isLt⟩
include hX hW in
theorem eq7 : Cert.Reference3Ideal.Proj.ref7 X W = Cert.Kernel3Ideal.Proj.arr7 m c := by
  subst hX hW
  refine funext fun (y : Cert.Kernel3Ideal.S2x16384x256.Idx) => ?_
  have hy : y = ix3 ⟨(y 0).val, (y 0).isLt⟩ ⟨(y 1).val, (y 1).isLt⟩ ⟨(y 2).val, (y 2).isLt⟩ := by
    funext a
    match a with
    | ⟨0, _⟩ => rfl
    | ⟨1, _⟩ => rfl
    | ⟨2, _⟩ => rfl
  refine (congrArg (Cert.Reference3Ideal.Proj.ref7 _ _) hy).trans ?_
  exact Cert.Reference3Ideal.Proj.ref7_at _ _ ⟨(y 0).val, (y 0).isLt⟩ ⟨(y 1).val, (y 1).isLt⟩ ⟨(y 2).val, (y 2).isLt⟩
include hX hW in
theorem eq8 : Cert.Reference3Ideal.Proj.ref8 X W = Cert.Kernel3Ideal.Proj.arr8 m c := by
  subst hX hW
  refine funext fun (y : Cert.Kernel3Ideal.S2x16384x256.Idx) => ?_
  have hy : y = ix3 ⟨(y 0).val, (y 0).isLt⟩ ⟨(y 1).val, (y 1).isLt⟩ ⟨(y 2).val, (y 2).isLt⟩ := by
    funext a
    match a with
    | ⟨0, _⟩ => rfl
    | ⟨1, _⟩ => rfl
    | ⟨2, _⟩ => rfl
  refine (congrArg (Cert.Reference3Ideal.Proj.ref8 _ _) hy).trans ?_
  exact Cert.Reference3Ideal.Proj.ref8_at _ _ ⟨(y 0).val, (y 0).isLt⟩ ⟨(y 1).val, (y 1).isLt⟩ ⟨(y 2).val, (y 2).isLt⟩
include hX hW in
theorem eq9 : Cert.Reference3Ideal.Proj.ref9 X W = Cert.Kernel3Ideal.Proj.arr9 m c := by
  subst hX hW
  refine funext fun (y : Cert.Kernel3Ideal.S2x16384x256.Idx) => ?_
  have hy : y = ix3 ⟨(y 0).val, (y 0).isLt⟩ ⟨(y 1).val, (y 1).isLt⟩ ⟨(y 2).val, (y 2).isLt⟩ := by
    funext a
    match a with
    | ⟨0, _⟩ => rfl
    | ⟨1, _⟩ => rfl
    | ⟨2, _⟩ => rfl
  refine (congrArg (Cert.Reference3Ideal.Proj.ref9 _ _) hy).trans ?_
  exact Cert.Reference3Ideal.Proj.ref9_at _ _ ⟨(y 0).val, (y 0).isLt⟩ ⟨(y 1).val, (y 1).isLt⟩ ⟨(y 2).val, (y 2).isLt⟩
include hX hW hB in
theorem eq10 : Cert.Reference3Ideal.Proj.ref10 X W B = Cert.Kernel3Ideal.Proj.arr10 m c := by
  subst hX hW hB
  refine funext fun (y : Cert.Kernel3Ideal.S2x256x16384.Idx) => ?_
  have hy : y = ix3 ⟨(y 0).val, (y 0).isLt⟩ ⟨(y 1).val, (y 1).isLt⟩ ⟨(y 2).val, (y 2).isLt⟩ := by
    funext a
    match a with
    | ⟨0, _⟩ => rfl
    | ⟨1, _⟩ => rfl
    | ⟨2, _⟩ => rfl
  refine (congrArg (Cert.Reference3Ideal.Proj.ref10 _ _ _) hy).trans ?_
  exact Cert.Reference3Ideal.Proj.ref10_at _ _ _ ⟨(y 0).val, (y 0).isLt⟩ ⟨(y 2).val, (y 2).isLt⟩ ⟨(y 1).val, (y 1).isLt⟩
include hX hW in
theorem eq11 : Cert.Reference3Ideal.Proj.ref11 X W = Cert.Kernel3Ideal.Proj.arr11 m c := by
  subst hX hW
  refine funext fun (y : Cert.Kernel3Ideal.S2x256x16384.Idx) => ?_
  have hy : y = ix3 ⟨(y 0).val, (y 0).isLt⟩ ⟨(y 1).val, (y 1).isLt⟩ ⟨(y 2).val, (y 2).isLt⟩ := by
    funext a
    match a with
    | ⟨0, _⟩ => rfl
    | ⟨1, _⟩ => rfl
    | ⟨2, _⟩ => rfl
  refine (congrArg (Cert.Reference3Ideal.Proj.ref11 _ _) hy).trans ?_
  exact Cert.Reference3Ideal.Proj.ref11_at _ _ ⟨(y 0).val, (y 0).isLt⟩ ⟨(y 2).val, (y 2).isLt⟩ ⟨(y 1).val, (y 1).isLt⟩
include hX hW in
theorem eq12 : Cert.Reference3Ideal.Proj.ref12 X W = Cert.Kernel3Ideal.Proj.arr12 m c := by
  subst hX hW
  refine funext fun (y : Cert.Kernel3Ideal.S2x256x16384.Idx) => ?_
  have hy : y = ix3 ⟨(y 0).val, (y 0).isLt⟩ ⟨(y 1).val, (y 1).isLt⟩ ⟨(y 2).val, (y 2).isLt⟩ := by
    funext a
    match a with
    | ⟨0, _⟩ => rfl
    | ⟨1, _⟩ => rfl
    | ⟨2, _⟩ => rfl
  refine (congrArg (Cert.Reference3Ideal.Proj.ref12 _ _) hy).trans ?_
  exact Cert.Reference3Ideal.Proj.ref12_at _ _ ⟨(y 0).val, (y 0).isLt⟩ ⟨(y 2).val, (y 2).isLt⟩ ⟨(y 1).val, (y 1).isLt⟩

/-- The algebraic claim: on equal arguments the two programs end with equal results. -/
theorem algebraic : Cert.algebraic_Kernel3Ideal_Reference3Ideal (hKernel3Ideal := Cert.Kernel3Ideal.Gen.facts)
    (hReference3Ideal := Cert.Reference3Ideal.Gen.facts) := by
  intro m g m' g' hpre hagree
  refine ⟨fun c => Cert.Kernel3Ideal.Proj.arr4 m c, fun c => Cert.Kernel3Ideal.Proj.arr5 m c, fun c => Cert.Kernel3Ideal.Proj.arr6 m c, fun c => Cert.Kernel3Ideal.Proj.arr7 m c, fun c => Cert.Kernel3Ideal.Proj.arr8 m c, fun c => Cert.Kernel3Ideal.Proj.arr9 m c, fun c => Cert.Kernel3Ideal.Proj.arr10 m c, fun c => Cert.Kernel3Ideal.Proj.arr11 m c, fun c => Cert.Kernel3Ideal.Proj.arr12 m c, ?_, ?_⟩
  · refine (θ_run _ _ _).mono (fun _ h c => ?_) (θ_run_and (Cert.Kernel3Ideal.Proj.value m g) (Cert.Kernel3Ideal.Gen.unchanged m g))
    obtain ⟨a4, a5, a6, a7, a8, a9, a10, a11, a12⟩ := h.1 c
    exact ⟨a4, a5, a6, a7, a8, a9, a10, a11, a12, h.2 c⟩
  · refine (θ_run _ _ _).mono (fun _ h c => ?_) (Cert.Reference3Ideal.Value.run m' g')
    obtain ⟨hX, hW, hB⟩ := hagree c
    obtain ⟨a4, a5, a6, a7, a8, a9, a10, a11, a12, hargs⟩ := h c
    exact ⟨a4.trans (eq4 m _ _ c hX hW), a5.trans (eq5 m _ _ c hX hW), a6.trans (eq6 m _ _ c hX hW), a7.trans (eq7 m _ _ c hX hW), a8.trans (eq8 m _ _ c hX hW), a9.trans (eq9 m _ _ c hX hW), a10.trans (eq10 m _ _ _ c hX hW hB), a11.trans (eq11 m _ _ c hX hW), a12.trans (eq12 m _ _ c hX hW), hargs⟩

end Cert.Proj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_distinct_blocks
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.SlcRun
public import proofs.«01_k».proof.Proof.Bits.SlcRun
public import proofs.«01_k».proof.Proof.SlcAlg
public import proofs.«01_k».proof.Proof.FfnAlg
public import proofs.«01_k».proof.Proof.ProjAlg
public import Idealize.ShloMosaic.Lib.Claim
public import Idealize.ShloMosaic.Adequacy
public import Idealize.ShloMosaic.Init

@[expose] public section

noncomputable section

namespace Cert.Proof

open Idealize.ShloMosaic Idealize.SL.Sem

/-- The kernel's frame, before constants are named. -/
theorem frame_kernel : Cert.quiescent_Kernel (hKernel := Cert.Kernel.Gen.facts) :=
  fun m g _ => Cert.Kernel.Slc.frame m g

/-- The idealized kernel's frame. -/
theorem frame_ideal : Cert.quiescent_KernelIdeal (hKernelIdeal := Cert.KernelIdeal.Gen.facts) :=
  fun m g _ => Cert.KernelIdeal.Slc.frame m g

/-- The idealized kernel's frame, under the precondition of the value claim. -/
theorem frame_ideal_pre : Cert.quiescent_KernelIdeal_pre_distinct_blocks (hKernelIdeal := Cert.KernelIdeal.Gen.facts)
    (hPre_distinct_blocks := Cert.Pre_distinct_blocks.Gen.facts) :=
  fun m g _ => Cert.KernelIdeal.Slc.frame m g

/-- The reference's frame. -/
theorem frame_ref : Cert.quiescent_ReferenceIdeal (hReferenceIdeal := Cert.ReferenceIdeal.Gen.facts) := by
  intro m g _
  exact (θ_run _ _ _).mono (fun r h => ⟨fun c => (h c).2, sem_eq_zero_of_no_sems rfl r.2⟩) (Cert.ReferenceIdeal.Value.run m g)

/-- The reference's frame, under the precondition of the value claim. -/
theorem frame_ref_pre : Cert.quiescent_ReferenceIdeal_pre_distinct_blocks (hReferenceIdeal := Cert.ReferenceIdeal.Gen.facts)
    (hPre_distinct_blocks := Cert.Pre_distinct_blocks.Gen.facts) := by
  intro m g _
  exact (θ_run _ _ _).mono (fun r h => ⟨fun c => (h c).2, sem_eq_zero_of_no_sems rfl r.2⟩) (Cert.ReferenceIdeal.Value.run m g)

/-- The constant named `"mask"` is minus infinity. -/
theorem preserves : Cert.preserves_Kernel_KernelIdeal :=
  IdealRules.named_const.statement _ _ _ _ _ rfl

/-- The feed-forward kernel's frame. -/
theorem frame_kernel2 : Cert.quiescent_Kernel2 (hKernel2 := Cert.Kernel2.Gen.facts) :=
  fun m g _ => Cert.Kernel2.Gen.frame m g

/-- The idealized feed-forward kernel's frame. -/
theorem frame_ideal2 : Cert.quiescent_Kernel2Ideal (hKernel2Ideal := Cert.Kernel2Ideal.Gen.facts) :=
  fun m g _ => Cert.Kernel2Ideal.Gen.frame m g

/-- The frame of the feed-forward reference. -/
theorem frame_ref2 : Cert.quiescent_Reference2Ideal (hReference2Ideal := Cert.Reference2Ideal.Gen.facts) := by
  intro m g _
  exact (θ_run _ _ _).mono (fun r h => ⟨fun c => (h c).2, sem_eq_zero_of_no_sems rfl r.2⟩) (Cert.Reference2Ideal.Value.run m g)

/-- No operation of the feed-forward kernel is replaced. -/
theorem preserves2 : Cert.preserves_Kernel2_Kernel2Ideal := trivial

/-- The projection kernel's frame. -/
theorem frame_kernel3 : Cert.quiescent_Kernel3 (hKernel3 := Cert.Kernel3.Gen.facts) :=
  fun m g _ => Cert.Kernel3.Gen.frame m g

/-- The idealized projection kernel's frame. -/
theorem frame_ideal3 : Cert.quiescent_Kernel3Ideal (hKernel3Ideal := Cert.Kernel3Ideal.Gen.facts) :=
  fun m g _ => Cert.Kernel3Ideal.Gen.frame m g

/-- The frame of the projection's reference. -/
theorem frame_ref3 : Cert.quiescent_Reference3Ideal (hReference3Ideal := Cert.Reference3Ideal.Gen.facts) := by
  intro m g _
  exact (θ_run _ _ _).mono (fun r h => ⟨fun c => (h c).2.2.2.2.2.2.2.2.2, sem_eq_zero_of_no_sems rfl r.2⟩) (Cert.Reference3Ideal.Value.run m g)

/-- No operation of the projection kernel is replaced. -/
theorem preserves3 : Cert.preserves_Kernel3_Kernel3Ideal := trivial

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_distinct_blocks.Gen.facts,
  frame_kernel, frame_ideal, frame_ideal_pre, frame_ref, frame_ref_pre, frame_kernel2, frame_ideal2, frame_ref2,
  frame_kernel3, frame_ideal3, frame_ref3,
  preserves, Cert.Slc.algebraic, preserves2, Cert.Ffn.algebraic, preserves3, Cert.Proj.algebraic⟩

end Cert.Proof

end
